-- ==== Defs.lean ====
def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_SoftIn (m : (ℓ : Loc Cert.SoftIn.nD Cert.SoftIn.τ Cert.SoftIn.sig) → Buf (Elt Bits) ℓ) : Prop :=
  True

def Pre_SoftInIdeal (m : (ℓ : Loc Cert.SoftInIdeal.nD Cert.SoftInIdeal.τ Cert.SoftInIdeal.sig) → Buf (Elt Ideal) ℓ) : Prop :=
  True

def Pre_SoftInRefIdeal (m : (ℓ : Loc Cert.SoftInRefIdeal.nD Cert.SoftInRefIdeal.τ Cert.SoftInRefIdeal.sig) → Buf (Elt Ideal) ℓ) : Prop :=
  True

def Pre_SoftOut (m : (ℓ : Loc Cert.SoftOut.nD Cert.SoftOut.τ Cert.SoftOut.sig) → Buf (Elt Bits) ℓ) : Prop :=
  True

def Pre_SoftOutIdeal (m : (ℓ : Loc Cert.SoftOutIdeal.nD Cert.SoftOutIdeal.τ Cert.SoftOutIdeal.sig) → Buf (Elt Ideal) ℓ) : Prop :=
  True

def Pre_SoftOutRefIdeal (m : (ℓ : Loc Cert.SoftOutRefIdeal.nD Cert.SoftOutRefIdeal.τ Cert.SoftOutRefIdeal.sig) → Buf (Elt Ideal) ℓ) : Prop :=
  True

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1)
      ∧ r.2.mem ((c.tc : Thread Cert.Dwd.nD Cert.Dwd.τ).loc Cert.Dwd.main_arg2) = m ((c.tc : Thread Cert.Dwd.nD Cert.Dwd.τ).loc Cert.Dwd.main_arg2)
      ∧ r.2.mem ((c.tc : Thread Cert.Dwd.nD Cert.Dwd.τ).loc Cert.Dwd.main_arg3) = m ((c.tc : Thread Cert.Dwd.nD Cert.Dwd.τ).loc Cert.Dwd.main_arg3)
      ∧ r.2.mem ((c.tc : Thread Cert.Dwd.nD Cert.Dwd.τ).loc Cert.Dwd.main_arg4) = m ((c.tc : Thread Cert.Dwd.nD Cert.Dwd.τ).loc Cert.Dwd.main_arg4))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
      ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2)
      ∧ r.2.mem ((c.tc : Thread Cert.DwdIdeal.nD Cert.DwdIdeal.τ).loc Cert.DwdIdeal.main_arg3) = m ((c.tc : Thread Cert.DwdIdeal.nD Cert.DwdIdeal.τ).loc Cert.DwdIdeal.main_arg3)
      ∧ r.2.mem ((c.tc : Thread Cert.DwdIdeal.nD Cert.DwdIdeal.τ).loc Cert.DwdIdeal.main_arg4) = m ((c.tc : Thread Cert.DwdIdeal.nD Cert.DwdIdeal.τ).loc Cert.DwdIdeal.main_arg4))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1)
      ∧ r.2.mem ((c.tc : Thread Cert.DwdRefIdeal.nD Cert.DwdRefIdeal.τ).loc Cert.DwdRefIdeal.main_arg2) = m ((c.tc : Thread Cert.DwdRefIdeal.nD Cert.DwdRefIdeal.τ).loc Cert.DwdRefIdeal.main_arg2)
      ∧ r.2.mem ((c.tc : Thread Cert.DwdRefIdeal.nD Cert.DwdRefIdeal.τ).loc Cert.DwdRefIdeal.main_arg3) = m ((c.tc : Thread Cert.DwdRefIdeal.nD Cert.DwdRefIdeal.τ).loc Cert.DwdRefIdeal.main_arg3)
      ∧ r.2.mem ((c.tc : Thread Cert.DwdRefIdeal.nD Cert.DwdRefIdeal.τ).loc Cert.DwdRefIdeal.main_arg4) = m ((c.tc : Thread Cert.DwdRefIdeal.nD Cert.DwdRefIdeal.τ).loc Cert.DwdRefIdeal.main_arg4))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6)
      ∧ r.2.mem ((c.tc : Thread Cert.Bwd.nD Cert.Bwd.τ).loc Cert.Bwd.main_arg7) = m ((c.tc : Thread Cert.Bwd.nD Cert.Bwd.τ).loc Cert.Bwd.main_arg7)
      ∧ r.2.mem ((c.tc : Thread Cert.Bwd.nD Cert.Bwd.τ).loc Cert.Bwd.main_arg8) = m ((c.tc : Thread Cert.Bwd.nD Cert.Bwd.τ).loc Cert.Bwd.main_arg8)
      ∧ r.2.mem ((c.tc : Thread Cert.Bwd.nD Cert.Bwd.τ).loc Cert.Bwd.main_arg9) = m ((c.tc : Thread Cert.Bwd.nD Cert.Bwd.τ).loc Cert.Bwd.main_arg9)
      ∧ r.2.mem ((c.tc : Thread Cert.Bwd.nD Cert.Bwd.τ).loc Cert.Bwd.main_arg10) = m ((c.tc : Thread Cert.Bwd.nD Cert.Bwd.τ).loc Cert.Bwd.main_arg10)
      ∧ r.2.mem ((c.tc : Thread Cert.Bwd.nD Cert.Bwd.τ).loc Cert.Bwd.main_arg11) = m ((c.tc : Thread Cert.Bwd.nD Cert.Bwd.τ).loc Cert.Bwd.main_arg11))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
      ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9)
      ∧ r.2.mem ((c.tc : Thread Cert.BwdIdeal.nD Cert.BwdIdeal.τ).loc Cert.BwdIdeal.main_arg10) = m ((c.tc : Thread Cert.BwdIdeal.nD Cert.BwdIdeal.τ).loc Cert.BwdIdeal.main_arg10)
      ∧ r.2.mem ((c.tc : Thread Cert.BwdIdeal.nD Cert.BwdIdeal.τ).loc Cert.BwdIdeal.main_arg11) = m ((c.tc : Thread Cert.BwdIdeal.nD Cert.BwdIdeal.τ).loc Cert.BwdIdeal.main_arg11))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7)
      ∧ r.2.mem ((c.tc : Thread Cert.BwdRefIdeal.nD Cert.BwdRefIdeal.τ).loc Cert.BwdRefIdeal.main_arg8) = m ((c.tc : Thread Cert.BwdRefIdeal.nD Cert.BwdRefIdeal.τ).loc Cert.BwdRefIdeal.main_arg8)
      ∧ r.2.mem ((c.tc : Thread Cert.BwdRefIdeal.nD Cert.BwdRefIdeal.τ).loc Cert.BwdRefIdeal.main_arg9) = m ((c.tc : Thread Cert.BwdRefIdeal.nD Cert.BwdRefIdeal.τ).loc Cert.BwdRefIdeal.main_arg9)
      ∧ r.2.mem ((c.tc : Thread Cert.BwdRefIdeal.nD Cert.BwdRefIdeal.τ).loc Cert.BwdRefIdeal.main_arg10) = m ((c.tc : Thread Cert.BwdRefIdeal.nD Cert.BwdRefIdeal.τ).loc Cert.BwdRefIdeal.main_arg10)
      ∧ r.2.mem ((c.tc : Thread Cert.BwdRefIdeal.nD Cert.BwdRefIdeal.τ).loc Cert.BwdRefIdeal.main_arg11) = m ((c.tc : Thread Cert.BwdRefIdeal.nD Cert.BwdRefIdeal.τ).loc Cert.BwdRefIdeal.main_arg11))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_SoftIn [hSoftIn : Cert.SoftIn.Facts] : Prop :=
  ∀ (m : (ℓ : Loc Cert.SoftIn.nD Cert.SoftIn.τ Cert.SoftIn.sig) → Buf (Elt Bits) ℓ) (g : Dev Cert.SoftIn.nD → PrngReg), Pre_SoftIn m →
    θ_run (Cert.SoftIn.defs (F := Bits)) (onTc (τ := Cert.SoftIn.τ) (Cert.SoftIn.main (F := Bits))) ⟨m, fun _ => 0, g⟩ (fun r => (∀ c : Dev Cert.SoftIn.nD,
      r.2.mem ((c.tc : Thread Cert.SoftIn.nD Cert.SoftIn.τ).loc Cert.SoftIn.main_arg0) = m ((c.tc : Thread Cert.SoftIn.nD Cert.SoftIn.τ).loc Cert.SoftIn.main_arg0)
      ∧ r.2.mem ((c.tc : Thread Cert.SoftIn.nD Cert.SoftIn.τ).loc Cert.SoftIn.main_arg1) = m ((c.tc : Thread Cert.SoftIn.nD Cert.SoftIn.τ).loc Cert.SoftIn.main_arg1))
      ∧ r.2.sem = fun _ => 0)

def quiescent_SoftInIdeal [hSoftInIdeal : Cert.SoftInIdeal.Facts] : Prop :=
  ∀ (m : (ℓ : Loc Cert.SoftInIdeal.nD Cert.SoftInIdeal.τ Cert.SoftInIdeal.sig) → Buf (Elt Ideal) ℓ) (g : Dev Cert.SoftInIdeal.nD → PrngReg), Pre_SoftInIdeal m →
    θ_run (Cert.SoftInIdeal.defs (F := Ideal)) (onTc (τ := Cert.SoftInIdeal.τ) (Cert.SoftInIdeal.main (F := Ideal))) ⟨m, fun _ => 0, g⟩ (fun r => (∀ c : Dev Cert.SoftInIdeal.nD,
      r.2.mem ((c.tc : Thread Cert.SoftInIdeal.nD Cert.SoftInIdeal.τ).loc Cert.SoftInIdeal.main_arg0) = m ((c.tc : Thread Cert.SoftInIdeal.nD Cert.SoftInIdeal.τ).loc Cert.SoftInIdeal.main_arg0)
      ∧ r.2.mem ((c.tc : Thread Cert.SoftInIdeal.nD Cert.SoftInIdeal.τ).loc Cert.SoftInIdeal.main_arg1) = m ((c.tc : Thread Cert.SoftInIdeal.nD Cert.SoftInIdeal.τ).loc Cert.SoftInIdeal.main_arg1))
      ∧ r.2.sem = fun _ => 0)

def quiescent_SoftInRefIdeal [hSoftInRefIdeal : Cert.SoftInRefIdeal.Facts] : Prop :=
  ∀ (m : (ℓ : Loc Cert.SoftInRefIdeal.nD Cert.SoftInRefIdeal.τ Cert.SoftInRefIdeal.sig) → Buf (Elt Ideal) ℓ) (g : Dev Cert.SoftInRefIdeal.nD → PrngReg), Pre_SoftInRefIdeal m →
    θ_run (Cert.SoftInRefIdeal.defs (F := Ideal)) (onTc (τ := Cert.SoftInRefIdeal.τ) (Cert.SoftInRefIdeal.main (F := Ideal))) ⟨m, fun _ => 0, g⟩ (fun r => (∀ c : Dev Cert.SoftInRefIdeal.nD,
      r.2.mem ((c.tc : Thread Cert.SoftInRefIdeal.nD Cert.SoftInRefIdeal.τ).loc Cert.SoftInRefIdeal.main_arg0) = m ((c.tc : Thread Cert.SoftInRefIdeal.nD Cert.SoftInRefIdeal.τ).loc Cert.SoftInRefIdeal.main_arg0)
      ∧ r.2.mem ((c.tc : Thread Cert.SoftInRefIdeal.nD Cert.SoftInRefIdeal.τ).loc Cert.SoftInRefIdeal.main_arg1) = m ((c.tc : Thread Cert.SoftInRefIdeal.nD Cert.SoftInRefIdeal.τ).loc Cert.SoftInRefIdeal.main_arg1))
      ∧ r.2.sem = fun _ => 0)

def quiescent_SoftOut [hSoftOut : Cert.SoftOut.Facts] : Prop :=
  ∀ (m : (ℓ : Loc Cert.SoftOut.nD Cert.SoftOut.τ Cert.SoftOut.sig) → Buf (Elt Bits) ℓ) (g : Dev Cert.SoftOut.nD → PrngReg), Pre_SoftOut m →
    θ_run (Cert.SoftOut.defs (F := Bits)) (onTc (τ := Cert.SoftOut.τ) (Cert.SoftOut.main (F := Bits))) ⟨m, fun _ => 0, g⟩ (fun r => (∀ c : Dev Cert.SoftOut.nD,
      r.2.mem ((c.tc : Thread Cert.SoftOut.nD Cert.SoftOut.τ).loc Cert.SoftOut.main_arg0) = m ((c.tc : Thread Cert.SoftOut.nD Cert.SoftOut.τ).loc Cert.SoftOut.main_arg0)
      ∧ r.2.mem ((c.tc : Thread Cert.SoftOut.nD Cert.SoftOut.τ).loc Cert.SoftOut.main_arg1) = m ((c.tc : Thread Cert.SoftOut.nD Cert.SoftOut.τ).loc Cert.SoftOut.main_arg1))
      ∧ r.2.sem = fun _ => 0)

def quiescent_SoftOutIdeal [hSoftOutIdeal : Cert.SoftOutIdeal.Facts] : Prop :=
  ∀ (m : (ℓ : Loc Cert.SoftOutIdeal.nD Cert.SoftOutIdeal.τ Cert.SoftOutIdeal.sig) → Buf (Elt Ideal) ℓ) (g : Dev Cert.SoftOutIdeal.nD → PrngReg), Pre_SoftOutIdeal m →
    θ_run (Cert.SoftOutIdeal.defs (F := Ideal)) (onTc (τ := Cert.SoftOutIdeal.τ) (Cert.SoftOutIdeal.main (F := Ideal))) ⟨m, fun _ => 0, g⟩ (fun r => (∀ c : Dev Cert.SoftOutIdeal.nD,
      r.2.mem ((c.tc : Thread Cert.SoftOutIdeal.nD Cert.SoftOutIdeal.τ).loc Cert.SoftOutIdeal.main_arg0) = m ((c.tc : Thread Cert.SoftOutIdeal.nD Cert.SoftOutIdeal.τ).loc Cert.SoftOutIdeal.main_arg0)
      ∧ r.2.mem ((c.tc : Thread Cert.SoftOutIdeal.nD Cert.SoftOutIdeal.τ).loc Cert.SoftOutIdeal.main_arg1) = m ((c.tc : Thread Cert.SoftOutIdeal.nD Cert.SoftOutIdeal.τ).loc Cert.SoftOutIdeal.main_arg1))
      ∧ r.2.sem = fun _ => 0)

def quiescent_SoftOutRefIdeal [hSoftOutRefIdeal : Cert.SoftOutRefIdeal.Facts] : Prop :=
  ∀ (m : (ℓ : Loc Cert.SoftOutRefIdeal.nD Cert.SoftOutRefIdeal.τ Cert.SoftOutRefIdeal.sig) → Buf (Elt Ideal) ℓ) (g : Dev Cert.SoftOutRefIdeal.nD → PrngReg), Pre_SoftOutRefIdeal m →
    θ_run (Cert.SoftOutRefIdeal.defs (F := Ideal)) (onTc (τ := Cert.SoftOutRefIdeal.τ) (Cert.SoftOutRefIdeal.main (F := Ideal))) ⟨m, fun _ => 0, g⟩ (fun r => (∀ c : Dev Cert.SoftOutRefIdeal.nD,
      r.2.mem ((c.tc : Thread Cert.SoftOutRefIdeal.nD Cert.SoftOutRefIdeal.τ).loc Cert.SoftOutRefIdeal.main_arg0) = m ((c.tc : Thread Cert.SoftOutRefIdeal.nD Cert.SoftOutRefIdeal.τ).loc Cert.SoftOutRefIdeal.main_arg0)
      ∧ r.2.mem ((c.tc : Thread Cert.SoftOutRefIdeal.nD Cert.SoftOutRefIdeal.τ).loc Cert.SoftOutRefIdeal.main_arg1) = m ((c.tc : Thread Cert.SoftOutRefIdeal.nD Cert.SoftOutRefIdeal.τ).loc Cert.SoftOutRefIdeal.main_arg1))
      ∧ r.2.sem = fun _ => 0)

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)
      ∧ m' ((c.tc : Thread Cert.DwdRefIdeal.nD Cert.DwdRefIdeal.τ).loc Cert.DwdRefIdeal.main_arg2) = m ((c.tc : Thread Cert.DwdIdeal.nD Cert.DwdIdeal.τ).loc Cert.DwdIdeal.main_arg2)
      ∧ m' ((c.tc : Thread Cert.DwdRefIdeal.nD Cert.DwdRefIdeal.τ).loc Cert.DwdRefIdeal.main_arg3) = m ((c.tc : Thread Cert.DwdIdeal.nD Cert.DwdIdeal.τ).loc Cert.DwdIdeal.main_arg3)
      ∧ m' ((c.tc : Thread Cert.DwdRefIdeal.nD Cert.DwdRefIdeal.τ).loc Cert.DwdRefIdeal.main_arg4) = m ((c.tc : Thread Cert.DwdIdeal.nD Cert.DwdIdeal.τ).loc Cert.DwdIdeal.main_arg4)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
          ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2)
          ∧ r.2.mem ((c.tc : Thread Cert.DwdIdeal.nD Cert.DwdIdeal.τ).loc Cert.DwdIdeal.main_arg3) = m ((c.tc : Thread Cert.DwdIdeal.nD Cert.DwdIdeal.τ).loc Cert.DwdIdeal.main_arg3)
          ∧ r.2.mem ((c.tc : Thread Cert.DwdIdeal.nD Cert.DwdIdeal.τ).loc Cert.DwdIdeal.main_arg4) = m ((c.tc : Thread Cert.DwdIdeal.nD Cert.DwdIdeal.τ).loc Cert.DwdIdeal.main_arg4))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v0) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1)
          ∧ r.2.mem ((c.tc : Thread Cert.DwdRefIdeal.nD Cert.DwdRefIdeal.τ).loc Cert.DwdRefIdeal.main_arg2) = m' ((c.tc : Thread Cert.DwdRefIdeal.nD Cert.DwdRefIdeal.τ).loc Cert.DwdRefIdeal.main_arg2)
          ∧ r.2.mem ((c.tc : Thread Cert.DwdRefIdeal.nD Cert.DwdRefIdeal.τ).loc Cert.DwdRefIdeal.main_arg3) = m' ((c.tc : Thread Cert.DwdRefIdeal.nD Cert.DwdRefIdeal.τ).loc Cert.DwdRefIdeal.main_arg3)
          ∧ r.2.mem ((c.tc : Thread Cert.DwdRefIdeal.nD Cert.DwdRefIdeal.τ).loc Cert.DwdRefIdeal.main_arg4) = m' ((c.tc : Thread Cert.DwdRefIdeal.nD Cert.DwdRefIdeal.τ).loc Cert.DwdRefIdeal.main_arg4))

def preserves_Bwd_BwdIdeal : Prop :=
  True

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)
      ∧ m' ((c.tc : Thread Cert.BwdRefIdeal.nD Cert.BwdRefIdeal.τ).loc Cert.BwdRefIdeal.main_arg7) = m ((c.tc : Thread Cert.BwdIdeal.nD Cert.BwdIdeal.τ).loc Cert.BwdIdeal.main_arg7)
      ∧ m' ((c.tc : Thread Cert.BwdRefIdeal.nD Cert.BwdRefIdeal.τ).loc Cert.BwdRefIdeal.main_arg8) = m ((c.tc : Thread Cert.BwdIdeal.nD Cert.BwdIdeal.τ).loc Cert.BwdIdeal.main_arg8)
      ∧ m' ((c.tc : Thread Cert.BwdRefIdeal.nD Cert.BwdRefIdeal.τ).loc Cert.BwdRefIdeal.main_arg9) = m ((c.tc : Thread Cert.BwdIdeal.nD Cert.BwdIdeal.τ).loc Cert.BwdIdeal.main_arg9)
      ∧ m' ((c.tc : Thread Cert.BwdRefIdeal.nD Cert.BwdRefIdeal.τ).loc Cert.BwdRefIdeal.main_arg10) = m ((c.tc : Thread Cert.BwdIdeal.nD Cert.BwdIdeal.τ).loc Cert.BwdIdeal.main_arg10)
      ∧ m' ((c.tc : Thread Cert.BwdRefIdeal.nD Cert.BwdRefIdeal.τ).loc Cert.BwdRefIdeal.main_arg11) = m ((c.tc : Thread Cert.BwdIdeal.nD Cert.BwdIdeal.τ).loc Cert.BwdIdeal.main_arg11)) →
    ∃ (v0 : (c : Dev Cert.BwdIdeal.nD) → Buf (Elt Ideal) ((c.tc : Thread Cert.BwdIdeal.nD Cert.BwdIdeal.τ).loc Cert.BwdIdeal.main_v1_0)) (v1 : (c : Dev Cert.BwdIdeal.nD) → Buf (Elt Ideal) ((c.tc : Thread Cert.BwdIdeal.nD Cert.BwdIdeal.τ).loc Cert.BwdIdeal.main_v1_1)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v1_0) = v0 c
          ∧ r.2.mem ((c.tc : Thread Cert.BwdIdeal.nD Cert.BwdIdeal.τ).loc Cert.BwdIdeal.main_v1_1) = v1 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
          ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
          ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
          ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9)
          ∧ r.2.mem ((c.tc : Thread Cert.BwdIdeal.nD Cert.BwdIdeal.τ).loc Cert.BwdIdeal.main_arg10) = m ((c.tc : Thread Cert.BwdIdeal.nD Cert.BwdIdeal.τ).loc Cert.BwdIdeal.main_arg10)
          ∧ r.2.mem ((c.tc : Thread Cert.BwdIdeal.nD Cert.BwdIdeal.τ).loc Cert.BwdIdeal.main_arg11) = m ((c.tc : Thread Cert.BwdIdeal.nD Cert.BwdIdeal.τ).loc Cert.BwdIdeal.main_arg11))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v0_0) = v0 c
          ∧ r.2.mem ((c.tc : Thread Cert.BwdRefIdeal.nD Cert.BwdRefIdeal.τ).loc Cert.BwdRefIdeal.main_v0_1) = v1 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6)
          ∧ r.2.mem ((c.tc : Thread Cert.BwdRefIdeal.nD Cert.BwdRefIdeal.τ).loc Cert.BwdRefIdeal.main_arg7) = m' ((c.tc : Thread Cert.BwdRefIdeal.nD Cert.BwdRefIdeal.τ).loc Cert.BwdRefIdeal.main_arg7)
          ∧ r.2.mem ((c.tc : Thread Cert.BwdRefIdeal.nD Cert.BwdRefIdeal.τ).loc Cert.BwdRefIdeal.main_arg8) = m' ((c.tc : Thread Cert.BwdRefIdeal.nD Cert.BwdRefIdeal.τ).loc Cert.BwdRefIdeal.main_arg8)
          ∧ r.2.mem ((c.tc : Thread Cert.BwdRefIdeal.nD Cert.BwdRefIdeal.τ).loc Cert.BwdRefIdeal.main_arg9) = m' ((c.tc : Thread Cert.BwdRefIdeal.nD Cert.BwdRefIdeal.τ).loc Cert.BwdRefIdeal.main_arg9)
          ∧ r.2.mem ((c.tc : Thread Cert.BwdRefIdeal.nD Cert.BwdRefIdeal.τ).loc Cert.BwdRefIdeal.main_arg10) = m' ((c.tc : Thread Cert.BwdRefIdeal.nD Cert.BwdRefIdeal.τ).loc Cert.BwdRefIdeal.main_arg10)
          ∧ r.2.mem ((c.tc : Thread Cert.BwdRefIdeal.nD Cert.BwdRefIdeal.τ).loc Cert.BwdRefIdeal.main_arg11) = m' ((c.tc : Thread Cert.BwdRefIdeal.nD Cert.BwdRefIdeal.τ).loc Cert.BwdRefIdeal.main_arg11))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)) →
    ∃ (v0 : (c : Dev Cert.XqIdeal.nD) → Buf (Elt Ideal) ((c.tc : Thread Cert.XqIdeal.nD Cert.XqIdeal.τ).loc Cert.XqIdeal.main_v0_0)) (v1 : (c : Dev Cert.XqIdeal.nD) → Buf (Elt Ideal) ((c.tc : Thread Cert.XqIdeal.nD Cert.XqIdeal.τ).loc Cert.XqIdeal.main_v0_1)) (v2 : (c : Dev Cert.XqIdeal.nD) → Buf (Elt Ideal) ((c.tc : Thread Cert.XqIdeal.nD Cert.XqIdeal.τ).loc Cert.XqIdeal.main_v0_2)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0_0) = v0 c
          ∧ r.2.mem ((c.tc : Thread Cert.XqIdeal.nD Cert.XqIdeal.τ).loc Cert.XqIdeal.main_v0_1) = v1 c
          ∧ r.2.mem ((c.tc : Thread Cert.XqIdeal.nD Cert.XqIdeal.τ).loc Cert.XqIdeal.main_v0_2) = v2 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v0_0) = v0 c
          ∧ r.2.mem ((c.tc : Thread Cert.XqRefIdeal.nD Cert.XqRefIdeal.τ).loc Cert.XqRefIdeal.main_v0_1) = v1 c
          ∧ r.2.mem ((c.tc : Thread Cert.XqRefIdeal.nD Cert.XqRefIdeal.τ).loc Cert.XqRefIdeal.main_v0_2) = v2 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_v0_2) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_SoftIn_SoftInIdeal : Prop :=
  True

def algebraic_SoftInIdeal_SoftInRefIdeal [hSoftInIdeal : Cert.SoftInIdeal.Facts] [hSoftInRefIdeal : Cert.SoftInRefIdeal.Facts] : Prop :=
  ∀ (m : (ℓ : Loc Cert.SoftInIdeal.nD Cert.SoftInIdeal.τ Cert.SoftInIdeal.sig) → Buf (Elt Ideal) ℓ) (g : Dev Cert.SoftInIdeal.nD → PrngReg)
    (m' : (ℓ : Loc Cert.SoftInRefIdeal.nD Cert.SoftInRefIdeal.τ Cert.SoftInRefIdeal.sig) → Buf (Elt Ideal) ℓ) (g' : Dev Cert.SoftInRefIdeal.nD → PrngReg), Pre_SoftInIdeal m →
    (∀ c : Dev Cert.SoftInIdeal.nD,
      m' ((c.tc : Thread Cert.SoftInRefIdeal.nD Cert.SoftInRefIdeal.τ).loc Cert.SoftInRefIdeal.main_arg0) = m ((c.tc : Thread Cert.SoftInIdeal.nD Cert.SoftInIdeal.τ).loc Cert.SoftInIdeal.main_arg0)
      ∧ m' ((c.tc : Thread Cert.SoftInRefIdeal.nD Cert.SoftInRefIdeal.τ).loc Cert.SoftInRefIdeal.main_arg1) = m ((c.tc : Thread Cert.SoftInIdeal.nD Cert.SoftInIdeal.τ).loc Cert.SoftInIdeal.main_arg1)) →
    ∃ (v0 : (c : Dev Cert.SoftInIdeal.nD) → Buf (Elt Ideal) ((c.tc : Thread Cert.SoftInIdeal.nD Cert.SoftInIdeal.τ).loc Cert.SoftInIdeal.main_v0)),
      θ_run (Cert.SoftInIdeal.defs (F := Ideal)) (onTc (τ := Cert.SoftInIdeal.τ) (Cert.SoftInIdeal.main (F := Ideal))) ⟨m, fun _ => 0, g⟩ (fun r => ∀ c : Dev Cert.SoftInIdeal.nD,
          r.2.mem ((c.tc : Thread Cert.SoftInIdeal.nD Cert.SoftInIdeal.τ).loc Cert.SoftInIdeal.main_v0) = v0 c
          ∧ r.2.mem ((c.tc : Thread Cert.SoftInIdeal.nD Cert.SoftInIdeal.τ).loc Cert.SoftInIdeal.main_arg0) = m ((c.tc : Thread Cert.SoftInIdeal.nD Cert.SoftInIdeal.τ).loc Cert.SoftInIdeal.main_arg0)
          ∧ r.2.mem ((c.tc : Thread Cert.SoftInIdeal.nD Cert.SoftInIdeal.τ).loc Cert.SoftInIdeal.main_arg1) = m ((c.tc : Thread Cert.SoftInIdeal.nD Cert.SoftInIdeal.τ).loc Cert.SoftInIdeal.main_arg1))
      ∧ θ_run (Cert.SoftInRefIdeal.defs (F := Ideal)) (onTc (τ := Cert.SoftInRefIdeal.τ) (Cert.SoftInRefIdeal.main (F := Ideal))) ⟨m', fun _ => 0, g'⟩ (fun r => ∀ c : Dev Cert.SoftInRefIdeal.nD,
          r.2.mem ((c.tc : Thread Cert.SoftInRefIdeal.nD Cert.SoftInRefIdeal.τ).loc Cert.SoftInRefIdeal.main_v0) = v0 c
          ∧ r.2.mem ((c.tc : Thread Cert.SoftInRefIdeal.nD Cert.SoftInRefIdeal.τ).loc Cert.SoftInRefIdeal.main_arg0) = m' ((c.tc : Thread Cert.SoftInRefIdeal.nD Cert.SoftInRefIdeal.τ).loc Cert.SoftInRefIdeal.main_arg0)
          ∧ r.2.mem ((c.tc : Thread Cert.SoftInRefIdeal.nD Cert.SoftInRefIdeal.τ).loc Cert.SoftInRefIdeal.main_arg1) = m' ((c.tc : Thread Cert.SoftInRefIdeal.nD Cert.SoftInRefIdeal.τ).loc Cert.SoftInRefIdeal.main_arg1))

def preserves_SoftOut_SoftOutIdeal : Prop :=
  True

def algebraic_SoftOutIdeal_SoftOutRefIdeal [hSoftOutIdeal : Cert.SoftOutIdeal.Facts] [hSoftOutRefIdeal : Cert.SoftOutRefIdeal.Facts] : Prop :=
  ∀ (m : (ℓ : Loc Cert.SoftOutIdeal.nD Cert.SoftOutIdeal.τ Cert.SoftOutIdeal.sig) → Buf (Elt Ideal) ℓ) (g : Dev Cert.SoftOutIdeal.nD → PrngReg)
    (m' : (ℓ : Loc Cert.SoftOutRefIdeal.nD Cert.SoftOutRefIdeal.τ Cert.SoftOutRefIdeal.sig) → Buf (Elt Ideal) ℓ) (g' : Dev Cert.SoftOutRefIdeal.nD → PrngReg), Pre_SoftOutIdeal m →
    (∀ c : Dev Cert.SoftOutIdeal.nD,
      m' ((c.tc : Thread Cert.SoftOutRefIdeal.nD Cert.SoftOutRefIdeal.τ).loc Cert.SoftOutRefIdeal.main_arg0) = m ((c.tc : Thread Cert.SoftOutIdeal.nD Cert.SoftOutIdeal.τ).loc Cert.SoftOutIdeal.main_arg0)
      ∧ m' ((c.tc : Thread Cert.SoftOutRefIdeal.nD Cert.SoftOutRefIdeal.τ).loc Cert.SoftOutRefIdeal.main_arg1) = m ((c.tc : Thread Cert.SoftOutIdeal.nD Cert.SoftOutIdeal.τ).loc Cert.SoftOutIdeal.main_arg1)) →
    ∃ (v0 : (c : Dev Cert.SoftOutIdeal.nD) → Buf (Elt Ideal) ((c.tc : Thread Cert.SoftOutIdeal.nD Cert.SoftOutIdeal.τ).loc Cert.SoftOutIdeal.main_v0)),
      θ_run (Cert.SoftOutIdeal.defs (F := Ideal)) (onTc (τ := Cert.SoftOutIdeal.τ) (Cert.SoftOutIdeal.main (F := Ideal))) ⟨m, fun _ => 0, g⟩ (fun r => ∀ c : Dev Cert.SoftOutIdeal.nD,
          r.2.mem ((c.tc : Thread Cert.SoftOutIdeal.nD Cert.SoftOutIdeal.τ).loc Cert.SoftOutIdeal.main_v0) = v0 c
          ∧ r.2.mem ((c.tc : Thread Cert.SoftOutIdeal.nD Cert.SoftOutIdeal.τ).loc Cert.SoftOutIdeal.main_arg0) = m ((c.tc : Thread Cert.SoftOutIdeal.nD Cert.SoftOutIdeal.τ).loc Cert.SoftOutIdeal.main_arg0)
          ∧ r.2.mem ((c.tc : Thread Cert.SoftOutIdeal.nD Cert.SoftOutIdeal.τ).loc Cert.SoftOutIdeal.main_arg1) = m ((c.tc : Thread Cert.SoftOutIdeal.nD Cert.SoftOutIdeal.τ).loc Cert.SoftOutIdeal.main_arg1))
      ∧ θ_run (Cert.SoftOutRefIdeal.defs (F := Ideal)) (onTc (τ := Cert.SoftOutRefIdeal.τ) (Cert.SoftOutRefIdeal.main (F := Ideal))) ⟨m', fun _ => 0, g'⟩ (fun r => ∀ c : Dev Cert.SoftOutRefIdeal.nD,
          r.2.mem ((c.tc : Thread Cert.SoftOutRefIdeal.nD Cert.SoftOutRefIdeal.τ).loc Cert.SoftOutRefIdeal.main_v0) = v0 c
          ∧ r.2.mem ((c.tc : Thread Cert.SoftOutRefIdeal.nD Cert.SoftOutRefIdeal.τ).loc Cert.SoftOutRefIdeal.main_arg0) = m' ((c.tc : Thread Cert.SoftOutRefIdeal.nD Cert.SoftOutRefIdeal.τ).loc Cert.SoftOutRefIdeal.main_arg0)
          ∧ r.2.mem ((c.tc : Thread Cert.SoftOutRefIdeal.nD Cert.SoftOutRefIdeal.τ).loc Cert.SoftOutRefIdeal.main_arg1) = m' ((c.tc : Thread Cert.SoftOutRefIdeal.nD Cert.SoftOutRefIdeal.τ).loc Cert.SoftOutRefIdeal.main_arg1))

def Claim : Prop :=
  ∃ (hDwd : Cert.Dwd.Facts) (hDwdIdeal : Cert.DwdIdeal.Facts) (hDwdRefIdeal : Cert.DwdRefIdeal.Facts) (hBwd : Cert.Bwd.Facts) (hBwdIdeal : Cert.BwdIdeal.Facts) (hBwdRefIdeal : Cert.BwdRefIdeal.Facts) (hXq : Cert.Xq.Facts) (hXqIdeal : Cert.XqIdeal.Facts) (hXqRefIdeal : Cert.XqRefIdeal.Facts) (hDown : Cert.Down.Facts) (hDownIdeal : Cert.DownIdeal.Facts) (hDownRefIdeal : Cert.DownRefIdeal.Facts) (hSoftIn : Cert.SoftIn.Facts) (hSoftInIdeal : Cert.SoftInIdeal.Facts) (hSoftInRefIdeal : Cert.SoftInRefIdeal.Facts) (hSoftOut : Cert.SoftOut.Facts) (hSoftOutIdeal : Cert.SoftOutIdeal.Facts) (hSoftOutRefIdeal : Cert.SoftOutRefIdeal.Facts),
    quiescent_Dwd (hDwd := hDwd)
    ∧ quiescent_DwdIdeal (hDwdIdeal := hDwdIdeal)
    ∧ quiescent_DwdRefIdeal (hDwdRefIdeal := hDwdRefIdeal)
    ∧ quiescent_Bwd (hBwd := hBwd)
    ∧ quiescent_BwdIdeal (hBwdIdeal := hBwdIdeal)
    ∧ quiescent_BwdRefIdeal (hBwdRefIdeal := hBwdRefIdeal)
    ∧ quiescent_Xq (hXq := hXq)
    ∧ quiescent_XqIdeal (hXqIdeal := hXqIdeal)
    ∧ quiescent_XqRefIdeal (hXqRefIdeal := hXqRefIdeal)
    ∧ quiescent_Down (hDown := hDown)
    ∧ quiescent_DownIdeal (hDownIdeal := hDownIdeal)
    ∧ quiescent_DownRefIdeal (hDownRefIdeal := hDownRefIdeal)
    ∧ quiescent_SoftIn (hSoftIn := hSoftIn)
    ∧ quiescent_SoftInIdeal (hSoftInIdeal := hSoftInIdeal)
    ∧ quiescent_SoftInRefIdeal (hSoftInRefIdeal := hSoftInRefIdeal)
    ∧ quiescent_SoftOut (hSoftOut := hSoftOut)
    ∧ quiescent_SoftOutIdeal (hSoftOutIdeal := hSoftOutIdeal)
    ∧ quiescent_SoftOutRefIdeal (hSoftOutRefIdeal := hSoftOutRefIdeal)
    ∧ preserves_Dwd_DwdIdeal
    ∧ algebraic_DwdIdeal_DwdRefIdeal (hDwdIdeal := hDwdIdeal) (hDwdRefIdeal := hDwdRefIdeal)
    ∧ preserves_Bwd_BwdIdeal
    ∧ algebraic_BwdIdeal_BwdRefIdeal (hBwdIdeal := hBwdIdeal) (hBwdRefIdeal := hBwdRefIdeal)
    ∧ preserves_Xq_XqIdeal
    ∧ algebraic_XqIdeal_XqRefIdeal (hXqIdeal := hXqIdeal) (hXqRefIdeal := hXqRefIdeal)
    ∧ preserves_Down_DownIdeal
    ∧ algebraic_DownIdeal_DownRefIdeal (hDownIdeal := hDownIdeal) (hDownRefIdeal := hDownRefIdeal)
    ∧ preserves_SoftIn_SoftInIdeal
    ∧ algebraic_SoftInIdeal_SoftInRefIdeal (hSoftInIdeal := hSoftInIdeal) (hSoftInRefIdeal := hSoftInRefIdeal)
    ∧ preserves_SoftOut_SoftOutIdeal
    ∧ algebraic_SoftOutIdeal_SoftOutRefIdeal (hSoftOutIdeal := hSoftOutIdeal) (hSoftOutRefIdeal := hSoftOutRefIdeal)
-- ==== Dwd.lean ====
abbrev S9216x5632 : Shape := ⟨2, ![9216, 5632]⟩
abbrev S9216x2048 : Shape := ⟨2, ![9216, 2048]⟩
abbrev S5632x2048 : Shape := ⟨2, ![5632, 2048]⟩
abbrev S1x2048 : Shape := ⟨2, ![1, 2048]⟩
abbrev S768x1408 : Shape := ⟨2, ![768, 1408]⟩
abbrev S768x2048 : Shape := ⟨2, ![768, 2048]⟩
abbrev S352x2048 : Shape := ⟨2, ![352, 2048]⟩
abbrev S1408x2048 : Shape := ⟨2, ![1408, 2048]⟩
abbrev S768x512 : Shape := ⟨2, ![768, 512]⟩
abbrev S1408x512 : Shape := ⟨2, ![1408, 512]⟩

abbrev nBuf : Space → Nat
  | .hbm => 6
  | .vmem => 12
  | .smem => 0
  | _ => 0

abbrev bufTy : (tb : Table) → Fin (tcTables nBuf tb) → BufTy
  | .hbm, ⟨0, _⟩ => ⟨S9216x5632, .i8⟩
  | .hbm, ⟨1, _⟩ => ⟨S9216x2048, .bf16⟩
  | .hbm, ⟨2, _⟩ => ⟨S5632x2048, .f32⟩
  | .hbm, ⟨3, _⟩ => ⟨S5632x2048, .i8⟩
  | .hbm, ⟨4, _⟩ => ⟨S1x2048, .f32⟩
  | .hbm, ⟨5, _⟩ => ⟨S5632x2048, .f32⟩
  | .local _ .vmem, ⟨0, _⟩ => ⟨S768x1408, .i8⟩
  | .local _ .vmem, ⟨1, _⟩ => ⟨S768x1408, .i8⟩
  | .local _ .vmem, ⟨2, _⟩ => ⟨S768x2048, .bf16⟩
  | .local _ .vmem, ⟨3, _⟩ => ⟨S768x2048, .bf16⟩
  | .local _ .vmem, ⟨4, _⟩ => ⟨S352x2048, .f32⟩
  | .local _ .vmem, ⟨5, _⟩ => ⟨S352x2048, .f32⟩
  | .local _ .vmem, ⟨6, _⟩ => ⟨S352x2048, .i8⟩
  | .local _ .vmem, ⟨7, _⟩ => ⟨S352x2048, .i8⟩
  | .local _ .vmem, ⟨8, _⟩ => ⟨S1x2048, .f32⟩
  | .local _ .vmem, ⟨9, _⟩ => ⟨S1408x2048, .f32⟩
  | .local _ .vmem, ⟨10, _⟩ => ⟨S1408x2048, .f32⟩
  | .local _ .vmem, ⟨11, _⟩ => ⟨S1408x2048, .f32⟩
  | _, _ => ⟨S9216x5632, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 12], ![false, false]⟩

def k0_cond1 (i : grid0.Coords) : BitVec 1 :=
  let arg1 : BitVec 32 := BitVec.ofNat 32 (i 1).val
  let c11_i32 : BitVec 32 := 11#32
  let v0 : BitVec 1 := Scalar.cmpi .slt arg1 c11_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c3_i32 : BitVec 32 := 3#32
  let v6 : BitVec 32 := Scalar.minsi arg1 c3_i32
  let c352_i32 : BitVec 32 := 352#32
  let v7 : BitVec 32 := Scalar.muli v6 c352_i32
  v7
def k0_off1 (i : grid0.Coords) : Fin 2 → Nat :=
  let arg1 : BitVec 32 := BitVec.ofNat 32 (i 1).val
  let c3_i32 : BitVec 32 := 3#32
  let v6 : BitVec 32 := Scalar.minsi arg1 c3_i32
  let c352_i32 : BitVec 32 := 352#32
  let v7 : BitVec 32 := Scalar.muli v6 c352_i32
  let v8 : BitVec 32 := v7
  let v43 : Index := Scalar.indexCast v8
  let c0_17 : Index := 0#32
  ![v43.toNat, 0]
def k0_cond2 (i : grid0.Coords) : BitVec 1 :=
  let arg1 : BitVec 32 := BitVec.ofNat 32 (i 1).val
  let c11_i32_0 : BitVec 32 := 11#32
  let v3 : BitVec 1 := Scalar.cmpi .eq arg1 c11_i32_0
  let v4 : BitVec 32 := Scalar.extui v3
  let c0_i32_1 : BitVec 32 := 0#32
  let v5 : BitVec 1 := Scalar.cmpi .ne v4 c0_i32_1
  v5

def k0_mult2 (i : grid0.Coords) : BitVec 32 :=
  let arg1 : BitVec 32 := BitVec.ofNat 32 (i 1).val
  let c3_i32 : BitVec 32 := 3#32
  let v6 : BitVec 32 := Scalar.minsi arg1 c3_i32
  let c352_i32 : BitVec 32 := 352#32
  let v7 : BitVec 32 := Scalar.muli v6 c352_i32
  v7
def k0_off2 (i : grid0.Coords) : Fin 2 → Nat :=
  let arg1 : BitVec 32 := BitVec.ofNat 32 (i 1).val
  let c3_i32 : BitVec 32 := 3#32
  let v6 : BitVec 32 := Scalar.minsi arg1 c3_i32
  let c352_i32 : BitVec 32 := 352#32
  let v7 : BitVec 32 := Scalar.muli v6 c352_i32
  let v8 : BitVec 32 := v7
  let v43 : Index := Scalar.indexCast v8
  let c0_17 : Index := 0#32
  ![v43.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1408 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1408x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DwdRefIdeal.lean ====
abbrev S9216x5632 : Shape := ⟨2, ![9216, 5632]⟩
abbrev S9216x2048 : Shape := ⟨2, ![9216, 2048]⟩
abbrev S5632x2048 : Shape := ⟨2, ![5632, 2048]⟩
abbrev S1x2048 : Shape := ⟨2, ![1, 2048]⟩

abbrev nBuf : Space → Nat
  | .hbm => 6
  | .vmem => 6
  | .smem => 0
  | _ => 0

abbrev bufTy : (tb : Table) → Fin (tcTables nBuf tb) → BufTy
  | .hbm, ⟨0, _⟩ => ⟨S9216x5632, .i8⟩
  | .hbm, ⟨1, _⟩ => ⟨S9216x2048, .bf16⟩
  | .hbm, ⟨2, _⟩ => ⟨S5632x2048, .f32⟩
  | .hbm, ⟨3, _⟩ => ⟨S5632x2048, .i8⟩
  | .hbm, ⟨4, _⟩ => ⟨S1x2048, .f32⟩
  | .hbm, ⟨5, _⟩ => ⟨S5632x2048, .f32⟩
  | .local _ .vmem, ⟨0, _⟩ => ⟨S9216x5632, .i8⟩
  | .local _ .vmem, ⟨1, _⟩ => ⟨S9216x2048, .bf16⟩
  | .local _ .vmem, ⟨2, _⟩ => ⟨S5632x2048, .f32⟩
  | .local _ .vmem, ⟨3, _⟩ => ⟨S5632x2048, .i8⟩
  | .local _ .vmem, ⟨4, _⟩ => ⟨S1x2048, .f32⟩
  | .local _ .vmem, ⟨5, _⟩ => ⟨S5632x2048, .f32⟩
  | _, _ => ⟨S9216x5632, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S9216x5632 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5632x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5632x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5632x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Bwd.lean ====
abbrev S9216x2048 : Shape := ⟨2, ![9216, 2048]⟩
abbrev S5632x2048 : Shape := ⟨2, ![5632, 2048]⟩
abbrev S9216x5632 : Shape := ⟨2, ![9216, 5632]⟩
abbrev S9216x1 : Shape := ⟨2, ![9216, 1]⟩
abbrev S2048x5632 : Shape := ⟨2, ![2048, 5632]⟩
abbrev S1x5632 : Shape := ⟨2, ![1, 5632]⟩
abbrev S9216x128 : Shape := ⟨2, ![9216, 128]⟩
abbrev S512x2048 : Shape := ⟨2, ![512, 2048]⟩
abbrev S512x512 : Shape := ⟨2, ![512, 512]⟩
abbrev S512x128 : Shape := ⟨2, ![512, 128]⟩
abbrev S128x512 : Shape := ⟨2, ![128, 512]⟩
abbrev S1x512 : Shape := ⟨2, ![1, 512]⟩
abbrev S2048x512 : Shape := ⟨2, ![2048, 512]⟩
abbrev S2x512x512 : Shape := ⟨3, ![2, 512, 512]⟩
abbrev S256x2048 : Shape := ⟨2, ![256, 2048]⟩
abbrev S256x512 : Shape := ⟨2, ![256, 512]⟩
abbrev S256x128 : Shape := ⟨2, ![256, 128]⟩
abbrev S1x256x512 : Shape := ⟨3, ![1, 256, 512]⟩
abbrev S1x512x512 : Shape := ⟨3, ![1, 512, 512]⟩

abbrev nBuf : Space → Nat
  | .hbm => 15
  | .vmem => 32
  | .smem => 0
  | _ => 0

abbrev bufTy : (tb : Table) → Fin (tcTables nBuf tb) → BufTy
  | .hbm, ⟨0, _⟩ => ⟨S9216x2048, .bf16⟩
  | .hbm, ⟨1, _⟩ => ⟨S5632x2048, .bf16⟩
  | .hbm, ⟨2, _⟩ => ⟨S9216x5632, .f32⟩
  | .hbm, ⟨3, _⟩ => ⟨S9216x5632, .f32⟩
  | .hbm, ⟨4, _⟩ => ⟨S9216x1, .f32⟩
  | .hbm, ⟨5, _⟩ => ⟨S9216x2048, .i8⟩
  | .hbm, ⟨6, _⟩ => ⟨S2048x5632, .f32⟩
  | .hbm, ⟨7, _⟩ => ⟨S2048x5632, .f32⟩
  | .hbm, ⟨8, _⟩ => ⟨S2048x5632, .i8⟩
  | .hbm, ⟨9, _⟩ => ⟨S2048x5632, .i8⟩
  | .hbm, ⟨10, _⟩ => ⟨S1x5632, .f32⟩
  | .hbm, ⟨11, _⟩ => ⟨S1x5632, .f32⟩
  | .hbm, ⟨12, _⟩ => ⟨S9216x128, .f32⟩
  | .hbm, ⟨13, _⟩ => ⟨S2048x5632, .f32⟩
  | .hbm, ⟨14, _⟩ => ⟨S2048x5632, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x2048, .i8⟩
  | .local _ .vmem, ⟨11, _⟩ => ⟨S512x2048, .i8⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .i8⟩
  | .local _ .vmem, ⟨17, _⟩ => ⟨S128x512, .i8⟩
  | .local _ .vmem, ⟨18, _⟩ => ⟨S128x512, .i8⟩
  | .local _ .vmem, ⟨19, _⟩ => ⟨S128x512, .i8⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | .local _ .vmem, ⟨28, _⟩ => ⟨S2x512x512, .bf16⟩
  | .local _ .vmem, ⟨29, _⟩ => ⟨S2x512x512, .bf16⟩
  | .local _ .vmem, ⟨30, _⟩ => ⟨S2048x512, .f32⟩
  | .local _ .vmem, ⟨31, _⟩ => ⟨S2048x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![199], ![false]⟩

def k0_cond1 (i : grid0.Coords) : BitVec 1 :=
  let arg0 : BitVec 32 := BitVec.ofNat 32 (i 0).val
  let c0_i32_0 : BitVec 32 := 0#32
  let v4 : BitVec 1 := Scalar.cmpi .eq arg0 c0_i32_0
  let v5 : BitVec 32 := Scalar.extui v4
  let c0_i32_1 : BitVec 32 := 0#32
  let v6 : BitVec 1 := Scalar.cmpi .ne v5 c0_i32_1
  v6

def k0_off1 (i : grid0.Coords) : Fin 3 → Nat :=
  let arg0 : BitVec 32 := BitVec.ofNat 32 (i 0).val
  let c2_i32 : BitVec 32 := 2#32
  let v3 : BitVec 32 := Scalar.remsi arg0 c2_i32
  let v38 : Index := Scalar.indexCast v3
  let c0_18 : Index := 0#32
  let c0_19 : Index := 0#32
  ![v38.toNat, 0, 0]
def k0_off2 (i : grid0.Coords) : Fin 3 → Nat :=
  let arg0 : BitVec 32 := BitVec.ofNat 32 (i 0).val
  let c2_i32 : BitVec 32 := 2#32
  let v3 : BitVec 32 := Scalar.remsi arg0 c2_i32
  let v69 : Index := Scalar.indexCast v3
  let c256_34 : Index := 256#32
  let c0_35 : Index := 0#32
  ![v69.toNat, 256, 0]
def k0_cond2 (i : grid0.Coords) : BitVec 1 :=
  let arg0 : BitVec 32 := BitVec.ofNat 32 (i 0).val
  let c0_i32_2 : BitVec 32 := 0#32
  let v7 : BitVec 1 := Scalar.cmpi .sgt arg0 c0_i32_2
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.remsi v1 c18_i32
  let c17_i32 : BitVec 32 := 17#32
  let v8 : BitVec 1 := Scalar.cmpi .slt v2 c17_i32
  let v9 : BitVec 1 := Scalar.andi v7 v8
  let v10 : BitVec 32 := Scalar.extui v9
  let c0_i32_3 : BitVec 32 := 0#32
  let v11 : BitVec 1 := Scalar.cmpi .ne v10 c0_i32_3
  v11

def k0_off3 (i : grid0.Coords) : Fin 3 → Nat :=
  let arg0 : BitVec 32 := BitVec.ofNat 32 (i 0).val
  let c2_i32 : BitVec 32 := 2#32
  let v3 : BitVec 32 := Scalar.remsi arg0 c2_i32
  let v38 : Index := Scalar.indexCast v3
  let c0_18 : Index := 0#32
  let c0_19 : Index := 0#32
  ![v38.toNat, 0, 0]
def k0_off4 (i : grid0.Coords) : Fin 3 → Nat :=
  let arg0 : BitVec 32 := BitVec.ofNat 32 (i 0).val
  let c2_i32 : BitVec 32 := 2#32
  let v3 : BitVec 32 := Scalar.remsi arg0 c2_i32
  let v69 : Index := Scalar.indexCast v3
  let c256_34 : Index := 256#32
  let c0_35 : Index := 0#32
  ![v69.toNat, 256, 0]
def k0_mult1 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.remsi v1 c18_i32
  let c15_i32 : BitVec 32 := 15#32
  let v79 : BitVec 32 := Scalar.minsi v2 c15_i32
  let c128_i32 : BitVec 32 := 128#32
  let v80 : BitVec 32 := Scalar.muli v79 c128_i32
  v80
def k0_off5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.remsi v1 c18_i32
  let c15_i32 : BitVec 32 := 15#32
  let v79 : BitVec 32 := Scalar.minsi v2 c15_i32
  let c128_i32 : BitVec 32 := 128#32
  let v80 : BitVec 32 := Scalar.muli v79 c128_i32
  let v81 : BitVec 32 := v80
  let v116 : Index := Scalar.indexCast v81
  let c0_55 : Index := 0#32
  ![v116.toNat, 0]
def k0_off6 (i : grid0.Coords) : Fin 3 → Nat :=
  let c1_i32_76 : BitVec 32 := 1#32
  let arg0 : BitVec 32 := BitVec.ofNat 32 (i 0).val
  let c2_i32 : BitVec 32 := 2#32
  let v3 : BitVec 32 := Scalar.remsi arg0 c2_i32
  let v160 : BitVec 32 := Scalar.subi c1_i32_76 v3
  let v161 : Index := Scalar.indexCast v160
  let c0_77 : Index := 0#32
  let c0_78 : Index := 0#32
  ![v161.toNat, 0, 0]
def k0_cond3 (i : grid0.Coords) : BitVec 1 :=
  let arg0 : BitVec 32 := BitVec.ofNat 32 (i 0).val
  let c0_i32_4 : BitVec 32 := 0#32
  let v12 : BitVec 1 := Scalar.cmpi .sgt arg0 c0_i32_4
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.remsi v1 c18_i32
  let c17_i32_5 : BitVec 32 := 17#32
  let v13 : BitVec 1 := Scalar.cmpi .eq v2 c17_i32_5
  let v14 : BitVec 1 := Scalar.andi v12 v13
  let v15 : BitVec 32 := Scalar.extui v14
  let c0_i32_6 : BitVec 32 := 0#32
  let v16 : BitVec 1 := Scalar.cmpi .ne v15 c0_i32_6
  v16

def k0_off7 (i : grid0.Coords) : Fin 3 → Nat :=
  let arg0 : BitVec 32 := BitVec.ofNat 32 (i 0).val
  let c2_i32 : BitVec 32 := 2#32
  let v3 : BitVec 32 := Scalar.remsi arg0 c2_i32
  let v38 : Index := Scalar.indexCast v3
  let c0_18 : Index := 0#32
  let c0_19 : Index := 0#32
  ![v38.toNat, 0, 0]
def k0_off8 (i : grid0.Coords) : Fin 3 → Nat :=
  let arg0 : BitVec 32 := BitVec.ofNat 32 (i 0).val
  let c2_i32 : BitVec 32 := 2#32
  let v3 : BitVec 32 := Scalar.remsi arg0 c2_i32
  let v69 : Index := Scalar.indexCast v3
  let c256_34 : Index := 256#32
  let c0_35 : Index := 0#32
  ![v69.toNat, 256, 0]
def k0_mult2 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.remsi v1 c18_i32
  let c15_i32 : BitVec 32 := 15#32
  let v79 : BitVec 32 := Scalar.minsi v2 c15_i32
  let c128_i32 : BitVec 32 := 128#32
  let v80 : BitVec 32 := Scalar.muli v79 c128_i32
  v80
def k0_off9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.remsi v1 c18_i32
  let c15_i32 : BitVec 32 := 15#32
  let v79 : BitVec 32 := Scalar.minsi v2 c15_i32
  let c128_i32 : BitVec 32 := 128#32
  let v80 : BitVec 32 := Scalar.muli v79 c128_i32
  let v81 : BitVec 32 := v80
  let v116 : Index := Scalar.indexCast v81
  let c0_55 : Index := 0#32
  ![v116.toNat, 0]
def k0_off10 (i : grid0.Coords) : Fin 3 → Nat :=
  let c1_i32_76 : BitVec 32 := 1#32
  let arg0 : BitVec 32 := BitVec.ofNat 32 (i 0).val
  let c2_i32 : BitVec 32 := 2#32
  let v3 : BitVec 32 := Scalar.remsi arg0 c2_i32
  let v160 : BitVec 32 := Scalar.subi c1_i32_76 v3
  let v161 : Index := Scalar.indexCast v160
  let c0_77 : Index := 0#32
  let c0_78 : Index := 0#32
  ![v161.toNat, 0, 0]
def cc0_transform_0 (i : grid0.Coords) : Fin 2 → Nat :=
  let arg0 : BitVec 32 := BitVec.ofNat 32 (i 0).val
  let c197_i32 : BitVec 32 := 197#32
  let v0 : BitVec 32 := Scalar.minsi arg0 c197_i32
  let c18_i32 : BitVec 32 := 18#32
  let v1 : BitVec 32 := Scalar.divsi v0 c18_i32
  let c18_i32_0 : BitVec 32 := 18#32
  let v2 : BitVec 32 := Scalar.remsi v0 c18_i32_0
  let c0_i32 : BitVec 32 := 0#32
  let c0_i32_1 : BitVec 32 := 0#32
  ![v2.toNat, c0_i32.toNat]

def cc0_transform_1 (i : grid0.Coords) : Fin 2 → Nat :=
  let arg0 : BitVec 32 := BitVec.ofNat 32 (i 0).val
  let c197_i32 : BitVec 32 := 197#32
  let v0 : BitVec 32 := Scalar.minsi arg0 c197_i32
  let c18_i32 : BitVec 32 := 18#32
  let v1 : BitVec 32 := Scalar.divsi v0 c18_i32
  let c18_i32_0 : BitVec 32 := 18#32
  let v2 : BitVec 32 := Scalar.remsi v0 c18_i32_0
  let c0_i32 : BitVec 32 := 0#32
  let c0_i32_1 : BitVec 32 := 0#32
  ![v1.toNat, c0_i32.toNat]

def cc0_transform_2 (i : grid0.Coords) : Fin 2 → Nat :=
  let arg0 : BitVec 32 := BitVec.ofNat 32 (i 0).val
  let c197_i32 : BitVec 32 := 197#32
  let v0 : BitVec 32 := Scalar.minsi arg0 c197_i32
  let c18_i32 : BitVec 32 := 18#32
  let v1 : BitVec 32 := Scalar.divsi v0 c18_i32
  let c18_i32_0 : BitVec 32 := 18#32
  let v2 : BitVec 32 := Scalar.remsi v0 c18_i32_0
  let c197_i32_1 : BitVec 32 := 197#32
  let v3 : BitVec 32 := Scalar.minsi arg0 c197_i32_1
  let c18_i32_2 : BitVec 32 := 18#32
  let v4 : BitVec 32 := Scalar.divsi v3 c18_i32_2
  let c18_i32_3 : BitVec 32 := 18#32
  let v5 : BitVec 32 := Scalar.remsi v3 c18_i32_3
  let c0_i32 : BitVec 32 := 0#32
  ![v2.toNat, v4.toNat]

def cc0_transform_3 (i : grid0.Coords) : Fin 2 → Nat :=
  let arg0 : BitVec 32 := BitVec.ofNat 32 (i 0).val
  let c197_i32 : BitVec 32 := 197#32
  let v0 : BitVec 32 := Scalar.minsi arg0 c197_i32
  let c18_i32 : BitVec 32 := 18#32
  let v1 : BitVec 32 := Scalar.divsi v0 c18_i32
  let c18_i32_0 : BitVec 32 := 18#32
  let v2 : BitVec 32 := Scalar.remsi v0 c18_i32_0
  let c197_i32_1 : BitVec 32 := 197#32
  let v3 : BitVec 32 := Scalar.minsi arg0 c197_i32_1
  let c18_i32_2 : BitVec 32 := 18#32
  let v4 : BitVec 32 := Scalar.divsi v3 c18_i32_2
  let c18_i32_3 : BitVec 32 := 18#32
  let v5 : BitVec 32 := Scalar.remsi v3 c18_i32_3
  let c0_i32 : BitVec 32 := 0#32
  ![v2.toNat, v4.toNat]

def cc0_transform_4 (i : grid0.Coords) : Fin 2 → Nat :=
  let arg0 : BitVec 32 := BitVec.ofNat 32 (i 0).val
  let c197_i32 : BitVec 32 := 197#32
  let v0 : BitVec 32 := Scalar.minsi arg0 c197_i32
  let c18_i32 : BitVec 32 := 18#32
  let v1 : BitVec 32 := Scalar.divsi v0 c18_i32
  let c18_i32_0 : BitVec 32 := 18#32
  let v2 : BitVec 32 := Scalar.remsi v0 c18_i32_0
  let c0_i32 : BitVec 32 := 0#32
  let c0_i32_1 : BitVec 32 := 0#32
  ![v2.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.divsi v1 c18_i32
  let c18_i32_0 : BitVec 32 := 18#32
  let v3 : BitVec 32 := Scalar.remsi v1 c18_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.divsi v1 c18_i32
  let c18_i32_0 : BitVec 32 := 18#32
  let v3 : BitVec 32 := Scalar.remsi v1 c18_i32_0
  let c15_i32 : BitVec 32 := 15#32
  let v4 : BitVec 32 := Scalar.minsi v3 c15_i32
  let c1_i32_1 : BitVec 32 := 1#32
  let v5 : BitVec 32 := Scalar.subi arg0 c1_i32_1
  let c0_i32_2 : BitVec 32 := 0#32
  let v6 : BitVec 32 := Scalar.maxsi v5 c0_i32_2
  let c18_i32_3 : BitVec 32 := 18#32
  let v7 : BitVec 32 := Scalar.divsi v6 c18_i32_3
  let c18_i32_4 : BitVec 32 := 18#32
  let v8 : BitVec 32 := Scalar.remsi v6 c18_i32_4
  let c0_i32_5 : BitVec 32 := 0#32
  ![v4.toNat, v7.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.divsi v1 c18_i32
  let c18_i32_0 : BitVec 32 := 18#32
  let v3 : BitVec 32 := Scalar.remsi v1 c18_i32_0
  let c15_i32 : BitVec 32 := 15#32
  let v4 : BitVec 32 := Scalar.minsi v3 c15_i32
  let c1_i32_1 : BitVec 32 := 1#32
  let v5 : BitVec 32 := Scalar.subi arg0 c1_i32_1
  let c0_i32_2 : BitVec 32 := 0#32
  let v6 : BitVec 32 := Scalar.maxsi v5 c0_i32_2
  let c18_i32_3 : BitVec 32 := 18#32
  let v7 : BitVec 32 := Scalar.divsi v6 c18_i32_3
  let c18_i32_4 : BitVec 32 := 18#32
  let v8 : BitVec 32 := Scalar.remsi v6 c18_i32_4
  let c0_i32_5 : BitVec 32 := 0#32
  ![v4.toNat, v7.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.divsi v1 c18_i32
  let c18_i32_0 : BitVec 32 := 18#32
  let v3 : BitVec 32 := Scalar.remsi v1 c18_i32_0
  let c15_i32 : BitVec 32 := 15#32
  let v4 : BitVec 32 := Scalar.minsi v3 c15_i32
  let c1_i32_1 : BitVec 32 := 1#32
  let v5 : BitVec 32 := Scalar.subi arg0 c1_i32_1
  let c0_i32_2 : BitVec 32 := 0#32
  let v6 : BitVec 32 := Scalar.maxsi v5 c0_i32_2
  let c18_i32_3 : BitVec 32 := 18#32
  let v7 : BitVec 32 := Scalar.divsi v6 c18_i32_3
  let c18_i32_4 : BitVec 32 := 18#32
  let v8 : BitVec 32 := Scalar.remsi v6 c18_i32_4
  let c0_i32_5 : BitVec 32 := 0#32
  ![v4.toNat, v7.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.divsi v1 c18_i32
  let c18_i32_0 : BitVec 32 := 18#32
  let v3 : BitVec 32 := Scalar.remsi v1 c18_i32_0
  let c15_i32 : BitVec 32 := 15#32
  let v4 : BitVec 32 := Scalar.minsi v3 c15_i32
  let c1_i32_1 : BitVec 32 := 1#32
  let v5 : BitVec 32 := Scalar.subi arg0 c1_i32_1
  let c0_i32_2 : BitVec 32 := 0#32
  let v6 : BitVec 32 := Scalar.maxsi v5 c0_i32_2
  let c18_i32_3 : BitVec 32 := 18#32
  let v7 : BitVec 32 := Scalar.divsi v6 c18_i32_3
  let c18_i32_4 : BitVec 32 := 18#32
  let v8 : BitVec 32 := Scalar.remsi v6 c18_i32_4
  let c0_i32_5 : BitVec 32 := 0#32
  ![v4.toNat, v7.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.divsi v1 c18_i32
  let c18_i32_0 : BitVec 32 := 18#32
  let v3 : BitVec 32 := Scalar.remsi v1 c18_i32_0
  let c0_i32_1 : BitVec 32 := 0#32
  let c0_i32_2 : BitVec 32 := 0#32
  ![c0_i32_1.toNat, v2.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.divsi v1 c18_i32
  let c18_i32_0 : BitVec 32 := 18#32
  let v3 : BitVec 32 := Scalar.remsi v1 c18_i32_0
  let c0_i32_1 : BitVec 32 := 0#32
  let c0_i32_2 : BitVec 32 := 0#32
  ![c0_i32_1.toNat, v2.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.divsi v1 c18_i32
  let c18_i32_0 : BitVec 32 := 18#32
  let v3 : BitVec 32 := Scalar.remsi v1 c18_i32_0
  let c0_i32_1 : BitVec 32 := 0#32
  let c0_i32_2 : BitVec 32 := 0#32
  ![c0_i32_1.toNat, v2.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let v2 : BitVec 32 := Scalar.divsi v1 c18_i32
  let c18_i32_0 : BitVec 32 := 18#32
  let v3 : BitVec 32 := Scalar.remsi v1 c18_i32_0
  let c0_i32_1 : BitVec 32 := 0#32
  let c0_i32_2 : BitVec 32 := 0#32
  ![c0_i32_1.toNat, v2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== BwdRefIdeal.lean ====
abbrev S9216x2048 : Shape := ⟨2, ![9216, 2048]⟩
abbrev S5632x2048 : Shape := ⟨2, ![5632, 2048]⟩
abbrev S9216x5632 : Shape := ⟨2, ![9216, 5632]⟩
abbrev S9216x1 : Shape := ⟨2, ![9216, 1]⟩
abbrev S2048x5632 : Shape := ⟨2, ![2048, 5632]⟩
abbrev S1x5632 : Shape := ⟨2, ![1, 5632]⟩

abbrev nBuf : Space → Nat
  | .hbm => 14
  | .vmem => 14
  | .smem => 0
  | _ => 0

abbrev bufTy : (tb : Table) → Fin (tcTables nBuf tb) → BufTy
  | .hbm, ⟨0, _⟩ => ⟨S9216x2048, .bf16⟩
  | .hbm, ⟨1, _⟩ => ⟨S5632x2048, .bf16⟩
  | .hbm, ⟨2, _⟩ => ⟨S9216x5632, .f32⟩
  | .hbm, ⟨3, _⟩ => ⟨S9216x5632, .f32⟩
  | .hbm, ⟨4, _⟩ => ⟨S9216x1, .f32⟩
  | .hbm, ⟨5, _⟩ => ⟨S9216x2048, .i8⟩
  | .hbm, ⟨6, _⟩ => ⟨S2048x5632, .f32⟩
  | .hbm, ⟨7, _⟩ => ⟨S2048x5632, .f32⟩
  | .hbm, ⟨8, _⟩ => ⟨S2048x5632, .i8⟩
  | .hbm, ⟨9, _⟩ => ⟨S2048x5632, .i8⟩
  | .hbm, ⟨10, _⟩ => ⟨S1x5632, .f32⟩
  | .hbm, ⟨11, _⟩ => ⟨S1x5632, .f32⟩
  | .hbm, ⟨12, _⟩ => ⟨S2048x5632, .f32⟩
  | .hbm, ⟨13, _⟩ => ⟨S2048x5632, .f32⟩
  | .local _ .vmem, ⟨0, _⟩ => ⟨S9216x2048, .bf16⟩
  | .local _ .vmem, ⟨1, _⟩ => ⟨S5632x2048, .bf16⟩
  | .local _ .vmem, ⟨2, _⟩ => ⟨S9216x5632, .f32⟩
  | .local _ .vmem, ⟨3, _⟩ => ⟨S9216x5632, .f32⟩
  | .local _ .vmem, ⟨4, _⟩ => ⟨S9216x1, .f32⟩
  | .local _ .vmem, ⟨5, _⟩ => ⟨S9216x2048, .i8⟩
  | .local _ .vmem, ⟨6, _⟩ => ⟨S2048x5632, .f32⟩
  | .local _ .vmem, ⟨7, _⟩ => ⟨S2048x5632, .f32⟩
  | .local _ .vmem, ⟨8, _⟩ => ⟨S2048x5632, .i8⟩
  | .local _ .vmem, ⟨9, _⟩ => ⟨S2048x5632, .i8⟩
  | .local _ .vmem, ⟨10, _⟩ => ⟨S1x5632, .f32⟩
  | .local _ .vmem, ⟨11, _⟩ => ⟨S1x5632, .f32⟩
  | .local _ .vmem, ⟨12, _⟩ => ⟨S2048x5632, .f32⟩
  | .local _ .vmem, ⟨13, _⟩ => ⟨S2048x5632, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S9216x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x5632 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x5632 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Xq.lean ====
abbrev S9216x2048 : Shape := ⟨2, ![9216, 2048]⟩
abbrev S9216x128 : Shape := ⟨2, ![9216, 128]⟩
abbrev S72x128 : Shape := ⟨2, ![72, 128]⟩
abbrev S1024x2048 : Shape := ⟨2, ![1024, 2048]⟩
abbrev S1024x128 : Shape := ⟨2, ![1024, 128]⟩
abbrev S8x128 : Shape := ⟨2, ![8, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .i8⟩
  | .hbm, ⟨2, _⟩ => ⟨S9216x128, .f32⟩
  | .hbm, ⟨3, _⟩ => ⟨S72x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .i8⟩
  | .local _ .vmem, ⟨3, _⟩ => ⟨S1024x2048, .i8⟩
  | .local _ .vmem, ⟨4, _⟩ => ⟨S1024x128, .f32⟩
  | .local _ .vmem, ⟨5, _⟩ => ⟨S1024x128, .f32⟩
  | .local _ .vmem, ⟨6, _⟩ => ⟨S8x128, .f32⟩
  | .local _ .vmem, ⟨7, _⟩ => ⟨S8x128, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XqRefIdeal.lean ====
abbrev S9216x2048 : Shape := ⟨2, ![9216, 2048]⟩
abbrev S9216x128 : Shape := ⟨2, ![9216, 128]⟩
abbrev S72x128 : Shape := ⟨2, ![72, 128]⟩
abbrev S9216 : Shape := ⟨1, ![9216]⟩
abbrev S9216x1 : Shape := ⟨2, ![9216, 1]⟩

abbrev nBuf : Space → Nat
  | .hbm => 4
  | .vmem => 4
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .i8⟩
  | .hbm, ⟨2, _⟩ => ⟨S9216x128, .f32⟩
  | .hbm, ⟨3, _⟩ => ⟨S72x128, .f32⟩
  | .local _ .vmem, ⟨0, _⟩ => ⟨S9216x2048, .bf16⟩
  | .local _ .vmem, ⟨1, _⟩ => ⟨S9216x2048, .i8⟩
  | .local _ .vmem, ⟨2, _⟩ => ⟨S9216x128, .f32⟩
  | .local _ .vmem, ⟨3, _⟩ => ⟨S72x128, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S9216x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Down.lean ====
abbrev S9216x5632 : Shape := ⟨2, ![9216, 5632]⟩
abbrev S9216x1 : Shape := ⟨2, ![9216, 1]⟩
abbrev S5632x2048 : Shape := ⟨2, ![5632, 2048]⟩
abbrev S1x2048 : Shape := ⟨2, ![1, 2048]⟩
abbrev S9216x2048 : Shape := ⟨2, ![9216, 2048]⟩
abbrev S9216x128 : Shape := ⟨2, ![9216, 128]⟩
abbrev S72x128 : Shape := ⟨2, ![72, 128]⟩
abbrev S1024x5632 : Shape := ⟨2, ![1024, 5632]⟩
abbrev S1024x128 : Shape := ⟨2, ![1024, 128]⟩
abbrev S5632x512 : Shape := ⟨2, ![5632, 512]⟩
abbrev S1x512 : Shape := ⟨2, ![1, 512]⟩
abbrev S1024x512 : Shape := ⟨2, ![1024, 512]⟩
abbrev S8x128 : Shape := ⟨2, ![8, 128]⟩
abbrev S256x128 : Shape := ⟨2, ![256, 128]⟩
abbrev S256x512 : Shape := ⟨2, ![256, 512]⟩
abbrev S256x5632 : Shape := ⟨2, ![256, 5632]⟩
abbrev S1024 : Shape := ⟨1, ![1024]⟩

abbrev nBuf : Space → Nat
  | .hbm => 10
  | .vmem => 19
  | .smem => 0
  | _ => 0

abbrev bufTy : (tb : Table) → Fin (tcTables nBuf tb) → BufTy
  | .hbm, ⟨0, _⟩ => ⟨S9216x5632, .i8⟩
  | .hbm, ⟨1, _⟩ => ⟨S9216x1, .f32⟩
  | .hbm, ⟨2, _⟩ => ⟨S5632x2048, .bf16⟩
  | .hbm, ⟨3, _⟩ => ⟨S1x2048, .f32⟩
  | .hbm, ⟨4, _⟩ => ⟨S9216x2048, .bf16⟩
  | .hbm, ⟨5, _⟩ => ⟨S9216x2048, .bf16⟩
  | .hbm, ⟨6, _⟩ => ⟨S9216x128, .f32⟩
  | .hbm, ⟨7, _⟩ => ⟨S9216x2048, .bf16⟩
  | .hbm, ⟨8, _⟩ => ⟨S9216x2048, .bf16⟩
  | .hbm, ⟨9, _⟩ => ⟨S72x128, .f32⟩
  | .local _ .vmem, ⟨0, _⟩ => ⟨S1024x5632, .i8⟩
  | .local _ .vmem, ⟨1, _⟩ => ⟨S1024x5632, .i8⟩
  | .local _ .vmem, ⟨2, _⟩ => ⟨S1024x128, .f32⟩
  | .local _ .vmem, ⟨3, _⟩ => ⟨S1024x128, .f32⟩
  | .local _ .vmem, ⟨4, _⟩ => ⟨S5632x512, .bf16⟩
  | .local _ .vmem, ⟨5, _⟩ => ⟨S5632x512, .bf16⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S8x128, .f32⟩
  | .local _ .vmem, ⟨17, _⟩ => ⟨S8x128, .f32⟩
  | .local _ .vmem, ⟨18, _⟩ => ⟨S1024x128, .f32⟩
  | _, _ => ⟨S9216x5632, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![9, 4], ![false, false]⟩

def k0_cond1 (i : grid0.Coords) : BitVec 1 :=
  let arg1 : BitVec 32 := BitVec.ofNat 32 (i 1).val
  let c3_i32 : BitVec 32 := 3#32
  let v180 : BitVec 1 := Scalar.cmpi .eq arg1 c3_i32
  let v181 : BitVec 32 := Scalar.extui v180
  let c0_i32_94 : BitVec 32 := 0#32
  let v182 : BitVec 1 := Scalar.cmpi .ne v181 c0_i32_94
  v182

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x5632 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5632x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DownRefIdeal.lean ====
abbrev S9216x5632 : Shape := ⟨2, ![9216, 5632]⟩
abbrev S9216x1 : Shape := ⟨2, ![9216, 1]⟩
abbrev S5632x2048 : Shape := ⟨2, ![5632, 2048]⟩
abbrev S1x2048 : Shape := ⟨2, ![1, 2048]⟩
abbrev S9216x2048 : Shape := ⟨2, ![9216, 2048]⟩
abbrev S72x128 : Shape := ⟨2, ![72, 128]⟩
abbrev S9216 : Shape := ⟨1, ![9216]⟩

abbrev nBuf : Space → Nat
  | .hbm => 9
  | .vmem => 9
  | .smem => 0
  | _ => 0

abbrev bufTy : (tb : Table) → Fin (tcTables nBuf tb) → BufTy
  | .hbm, ⟨0, _⟩ => ⟨S9216x5632, .i8⟩
  | .hbm, ⟨1, _⟩ => ⟨S9216x1, .f32⟩
  | .hbm, ⟨2, _⟩ => ⟨S5632x2048, .bf16⟩
  | .hbm, ⟨3, _⟩ => ⟨S1x2048, .f32⟩
  | .hbm, ⟨4, _⟩ => ⟨S9216x2048, .bf16⟩
  | .hbm, ⟨5, _⟩ => ⟨S9216x2048, .bf16⟩
  | .hbm, ⟨6, _⟩ => ⟨S9216x2048, .bf16⟩
  | .hbm, ⟨7, _⟩ => ⟨S9216x2048, .bf16⟩
  | .hbm, ⟨8, _⟩ => ⟨S72x128, .f32⟩
  | .local _ .vmem, ⟨0, _⟩ => ⟨S9216x5632, .i8⟩
  | .local _ .vmem, ⟨1, _⟩ => ⟨S9216x1, .f32⟩
  | .local _ .vmem, ⟨2, _⟩ => ⟨S5632x2048, .bf16⟩
  | .local _ .vmem, ⟨3, _⟩ => ⟨S1x2048, .f32⟩
  | .local _ .vmem, ⟨4, _⟩ => ⟨S9216x2048, .bf16⟩
  | .local _ .vmem, ⟨5, _⟩ => ⟨S9216x2048, .bf16⟩
  | .local _ .vmem, ⟨6, _⟩ => ⟨S9216x2048, .bf16⟩
  | .local _ .vmem, ⟨7, _⟩ => ⟨S9216x2048, .bf16⟩
  | .local _ .vmem, ⟨8, _⟩ => ⟨S72x128, .f32⟩
  | _, _ => ⟨S9216x5632, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S9216x5632 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S72x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SoftIn.lean ====
abbrev S2048x5632 : Shape := ⟨2, ![2048, 5632]⟩
abbrev S128x5632 : Shape := ⟨2, ![128, 5632]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .i8⟩
  | .hbm, ⟨1, _⟩ => ⟨S2048x5632, .f32⟩
  | .hbm, ⟨2, _⟩ => ⟨S2048x5632, .bf16⟩
  | .local _ .vmem, ⟨0, _⟩ => ⟨S128x5632, .i8⟩
  | .local _ .vmem, ⟨1, _⟩ => ⟨S128x5632, .i8⟩
  | .local _ .vmem, ⟨2, _⟩ => ⟨S128x5632, .f32⟩
  | .local _ .vmem, ⟨3, _⟩ => ⟨S128x5632, .f32⟩
  | .local _ .vmem, ⟨4, _⟩ => ⟨S128x5632, .bf16⟩
  | .local _ .vmem, ⟨5, _⟩ => ⟨S128x5632, .bf16⟩
  | _, _ => ⟨S2048x5632, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SoftInRefIdeal.lean ====
abbrev S2048x5632 : Shape := ⟨2, ![2048, 5632]⟩

abbrev nBuf : Space → Nat
  | .hbm => 3
  | .vmem => 3
  | .smem => 0
  | _ => 0

abbrev bufTy : (tb : Table) → Fin (tcTables nBuf tb) → BufTy
  | .hbm, ⟨0, _⟩ => ⟨S2048x5632, .i8⟩
  | .hbm, ⟨1, _⟩ => ⟨S2048x5632, .f32⟩
  | .hbm, ⟨2, _⟩ => ⟨S2048x5632, .bf16⟩
  | .local _ .vmem, ⟨0, _⟩ => ⟨S2048x5632, .i8⟩
  | .local _ .vmem, ⟨1, _⟩ => ⟨S2048x5632, .f32⟩
  | .local _ .vmem, ⟨2, _⟩ => ⟨S2048x5632, .bf16⟩
  | _, _ => ⟨S2048x5632, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x5632 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SoftOut.lean ====
abbrev S5632x2048 : Shape := ⟨2, ![5632, 2048]⟩
abbrev S352x2048 : Shape := ⟨2, ![352, 2048]⟩

abbrev nBuf : Space → Nat
  | .hbm => 3
  | .vmem => 6
  | .smem => 0
  | _ => 0

abbrev bufTy : (tb : Table) → Fin (tcTables nBuf tb) → BufTy
  | .hbm, ⟨0, _⟩ => ⟨S5632x2048, .i8⟩
  | .hbm, ⟨1, _⟩ => ⟨S5632x2048, .f32⟩
  | .hbm, ⟨2, _⟩ => ⟨S5632x2048, .bf16⟩
  | .local _ .vmem, ⟨0, _⟩ => ⟨S352x2048, .i8⟩
  | .local _ .vmem, ⟨1, _⟩ => ⟨S352x2048, .i8⟩
  | .local _ .vmem, ⟨2, _⟩ => ⟨S352x2048, .f32⟩
  | .local _ .vmem, ⟨3, _⟩ => ⟨S352x2048, .f32⟩
  | .local _ .vmem, ⟨4, _⟩ => ⟨S352x2048, .bf16⟩
  | .local _ .vmem, ⟨5, _⟩ => ⟨S352x2048, .bf16⟩
  | _, _ => ⟨S5632x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SoftOutRefIdeal.lean ====
abbrev S5632x2048 : Shape := ⟨2, ![5632, 2048]⟩

abbrev nBuf : Space → Nat
  | .hbm => 3
  | .vmem => 3
  | .smem => 0
  | _ => 0

abbrev bufTy : (tb : Table) → Fin (tcTables nBuf tb) → BufTy
  | .hbm, ⟨0, _⟩ => ⟨S5632x2048, .i8⟩
  | .hbm, ⟨1, _⟩ => ⟨S5632x2048, .f32⟩
  | .hbm, ⟨2, _⟩ => ⟨S5632x2048, .bf16⟩
  | .local _ .vmem, ⟨0, _⟩ => ⟨S5632x2048, .i8⟩
  | .local _ .vmem, ⟨1, _⟩ => ⟨S5632x2048, .f32⟩
  | .local _ .vmem, ⟨2, _⟩ => ⟨S5632x2048, .bf16⟩
  | _, _ => ⟨S5632x2048, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S5632x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5632x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.DwdRunAcc.lean ====
module

public import proofs.«01_k».proof.Proof.Gen.DwdIdeal.Skeleton
public import proofs.«01_k».proof.Proof.Gen.DwdIdeal.Frame

@[expose] public section

set_option maxRecDepth 16384

noncomputable section

namespace Cert.DwdIdeal.Hand

open Cert.DwdIdeal Cert.DwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that folds one token tile into the product. -/
def runAcc (c : Dev nD) (i : grid0.Coords) (arg2 : Memref sig .tc .vmem S768x1408 .i8) (harg2 : arg2.IsWhole) (arg3 : Memref sig .tc .vmem S768x2048 .bf16) (harg3 : arg3.IsWhole) (arg4 : Memref sig .tc .vmem S352x2048 .f32) (harg4 : arg4.IsWhole) (arg5 : Memref sig .tc .vmem S352x2048 .i8) (harg5 : arg5.IsWhole) (arg6 : Memref sig .tc .vmem S1x2048 .f32) (harg6 : arg6.IsWhole) (arg7 : Memref sig .tc .vmem S1408x2048 .f32) (harg7 : arg7.IsWhole) (arg8 : Memref sig .tc .vmem S1408x2048 .f32) (harg8 : arg8.IsWhole) (h1 : k0_cond1 i = 1#1) (h2 : ¬ k0_cond2 i = 1#1)
    (x0 : Vec F S768x1408 .i8) (x1 : Vec F S768x2048 .bf16) (x2 : Vec F S352x2048 .f32) (x3 : Vec F S352x2048 .i8) (x4 : Vec F S1x2048 .f32)
    (y0 : Vec F S1408x2048 .f32) (y1 : Vec F S1408x2048 .f32) :
    { p : Vec F S1408x2048 .f32 × Vec F S1408x2048 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y0 ∗ owns (c : Thread nD τ) arg8 fullShare y1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare p.1 ∗ owns (c : Thread nD τ) arg8 fullShare p.2) -∗ K ⟨⟩))
          ⊢ wp frame (wpE (defs₀ (F := F)) Variants.none c none) E (cc0_bwd_down i arg2 harg2 arg3 harg3 arg4 harg4 arg5 harg5 arg6 harg6 arg7 harg7 arg8 harg8) K } := by
  refine ⟨(?_, ?_), ?_⟩; rotate_left 2
  · intro E K
    simp only [cc0_bwd_down_eq_skeleton]; unfold cc0_bwd_down_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; rfl
    iexists _; isplitr; swap; · iexact H6
    ipureintro; rfl

end Cert.DwdIdeal.Hand

end
-- ==== Proof.DwdRunEnd.lean ====
module

public import proofs.«01_k».proof.Proof.Gen.DwdIdeal.Skeleton
public import proofs.«01_k».proof.Proof.Gen.DwdIdeal.Frame

@[expose] public section

set_option maxRecDepth 16384

noncomputable section

namespace Cert.DwdIdeal.Hand

open Cert.DwdIdeal Cert.DwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last token tile of a column block: the product is completed and scaled. -/
def runEnd (c : Dev nD) (i : grid0.Coords) (arg2 : Memref sig .tc .vmem S768x1408 .i8) (harg2 : arg2.IsWhole) (arg3 : Memref sig .tc .vmem S768x2048 .bf16) (harg3 : arg3.IsWhole) (arg4 : Memref sig .tc .vmem S352x2048 .f32) (harg4 : arg4.IsWhole) (arg5 : Memref sig .tc .vmem S352x2048 .i8) (harg5 : arg5.IsWhole) (arg6 : Memref sig .tc .vmem S1x2048 .f32) (harg6 : arg6.IsWhole) (arg7 : Memref sig .tc .vmem S1408x2048 .f32) (harg7 : arg7.IsWhole) (arg8 : Memref sig .tc .vmem S1408x2048 .f32) (harg8 : arg8.IsWhole) (h1 : ¬ k0_cond1 i = 1#1) (h2 : k0_cond2 i = 1#1)
    (x0 : Vec F S768x1408 .i8) (x1 : Vec F S768x2048 .bf16) (x2 : Vec F S352x2048 .f32) (x3 : Vec F S352x2048 .i8) (x4 : Vec F S1x2048 .f32)
    (y0 : Vec F S1408x2048 .f32) (y1 : Vec F S1408x2048 .f32) :
    { p : Vec F S1408x2048 .f32 × Vec F S1408x2048 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y0 ∗ owns (c : Thread nD τ) arg8 fullShare y1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare p.1 ∗ owns (c : Thread nD τ) arg8 fullShare p.2) -∗ K ⟨⟩))
          ⊢ wp frame (wpE (defs₀ (F := F)) Variants.none c none) E (cc0_bwd_down i arg2 harg2 arg3 harg3 arg4 harg4 arg5 harg5 arg6 harg6 arg7 harg7 arg8 harg8) K } := by
  refine ⟨(?_, ?_), ?_⟩; rotate_left 2
  · intro E K
    simp only [cc0_bwd_down_eq_skeleton]; unfold cc0_bwd_down_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; rfl
    iexists _; isplitr; swap; · iexact H6
    ipureintro; rfl

end Cert.DwdIdeal.Hand

end
-- ==== Proof.DwdFree.lean ====
/- The frame: from any memory the call ends, leaves its arguments unchanged and its counters at zero. Nothing is said here of
   what the outputs hold. -/
module

public import proofs.«01_k».proof.Proof.Gen.DwdIdeal.Skeleton
public import proofs.«01_k».proof.Proof.Gen.DwdIdeal.Frame
public import proofs.«01_k».proof.Proof.DwdRunAcc
public import proofs.«01_k».proof.Proof.DwdRunEnd
public import Idealize.ShloMosaic.Lib.Claim
public import Idealize.ShloMosaic.Lib.Pipeline.FrameBody

@[expose] public section

set_option maxRecDepth 16384

noncomputable section

namespace Cert.DwdIdeal.Free

open Cert.DwdIdeal Cert.DwdIdeal.Gen Cert.DwdIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S1408x2048 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

theorem cond1_iff : ∀ t : Fin cfg0.N, k0_cond1 (grid0.coords t) = 1#1 ↔ t.val % 12 ≠ 11 :=
  (by decide +kernel : ∀ t : Fin grid0.N, k0_cond1 (grid0.coords t) = 1#1 ↔ t.val % 12 ≠ 11)
theorem cond2_iff : ∀ t : Fin cfg0.N, k0_cond2 (grid0.coords t) = 1#1 ↔ t.val % 12 = 11 :=
  (by decide +kernel : ∀ t : Fin grid0.N, k0_cond2 (grid0.coords t) = 1#1 ↔ t.val % 12 = 11)

/-- The output windows, of which nothing is named. -/
def forgets0 : Fin 6 → Bool := fun w => decide (5 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (st0_5 t) fullShare d))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, leaves0_0, before0_1, leaves0_1, before0_2, leaves0_2, before0_3, leaves0_3, before0_4, leaves0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  have hN : t.val < 48 := lt_of_lt_of_eq t.isLt N_0
  by_cases h1 : t.val % 12 = 11
  · iintro ⟨⟨⟨%s0, S0⟩, Hg⟩, Ho, ⟨%d0, H0⟩, ⟨%d1, H1⟩, ⟨%d2, H2⟩, ⟨%d3, H3⟩, ⟨%d4, H4⟩, ⟨%d5, H5⟩⟩
    iapply ((runEnd (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (Memref.isWhole_whole _) (fun h => (cond1_iff t).mp h h1) ((cond2_iff t).mpr h1) (iblk m c 0 t) (iblk m c 1 t) (iblk m c 2 t) (iblk m c 3 t) (iblk m c 4 t) d5 s0).2 Set.univ _)
    isplitl [H0]; · iexact H0
    isplitl [H1]; · iexact H1
    isplitl [H2]; · iexact H2
    isplitl [H3]; · iexact H3
    isplitl [H4]; · iexact H4
    isplitl [H5]; · iexact H5
    isplitl [S0]; · iexact S0
    iintro ⟨H0, H1, H2, H3, H4, H5, S0⟩
    isplitl [S0 Hg]
    · isplitl [S0]
      · iexists _; iexact S0
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · iintro ⟨⟨⟨%s0, S0⟩, Hg⟩, Ho, ⟨%d0, H0⟩, ⟨%d1, H1⟩, ⟨%d2, H2⟩, ⟨%d3, H3⟩, ⟨%d4, H4⟩, ⟨%d5, H5⟩⟩
    iapply ((runAcc (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (Memref.isWhole_whole _) ((cond1_iff t).mpr h1) (fun h => h1 ((cond2_iff t).mp h)) (iblk m c 0 t) (iblk m c 1 t) (iblk m c 2 t) (iblk m c 3 t) (iblk m c 4 t) d5 s0).2 Set.univ _)
    isplitl [H0]; · iexact H0
    isplitl [H1]; · iexact H1
    isplitl [H2]; · iexact H2
    isplitl [H3]; · iexact H3
    isplitl [H4]; · iexact H4
    isplitl [H5]; · iexact H5
    isplitl [S0]; · iexact S0
    iintro ⟨H0, H1, H2, H3, H4, H5, S0⟩
    isplitl [S0 Hg]
    · isplitl [S0]
      · iexists _; iexact S0
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call runs from any memory, leaves its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h' => ⟨fun c => have h := h'.1
    ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c))⟩, h'.2⟩) (run_main_quiescent m ρ)

end Cert.DwdIdeal.Free
end
-- ==== Proof.DwdFrame.lean ====
/- The frame of the program as printed: its body is the idealised one, so the frame carries over. -/
module

public import proofs.«01_k».proof.Proof.Gen.Dwd.Frame
public import proofs.«01_k».proof.Proof.DwdFree

@[expose] public section

set_option maxRecDepth 16384

noncomputable section

namespace Cert.Dwd.Hand

open Idealize.SL Idealize.SL.Sem Idealize.ShloMosaic Idealize.ShloMosaic.TcCoe
open Cert.Dwd

variable {F : FTy → Type} [FloatOps F]
variable [h1 : Cert.Dwd.Facts] [h2 : Cert.DwdIdeal.Facts]

/-- The two bodies are the same term. -/
theorem body_eq : @Cert.Dwd.cc0_bwd_down F _ _ = @Cert.DwdIdeal.cc0_bwd_down F _ _ := by with_unfolding_all rfl

set_option maxHeartbeats 8000000 in
theorem defs₀_eq : Cert.Dwd.defs₀ (F := F) = Cert.DwdIdeal.defs₀ (F := F) := by
  unfold Cert.Dwd.defs₀ Cert.DwdIdeal.defs₀
  congr 1
  funext l a
  obtain ⟨l, hl⟩ := l
  obtain rfl : l = 0 := by have : l < 1 := hl; omega
  obtain ⟨t, s⟩ := a
  exact congrFun (congrFun (congrFun (congrFun (congrFun (congrFun (congrFun (congrFun (congrFun (congrFun (congrFun (congrFun (congrFun (congrFun (congrFun body_eq (Cert.DwdIdeal.grid0.coords t)) _) _) _) _) _) _) _) _) _) _) _) _) _) _

theorem defs_eq : Cert.Dwd.defs (F := F) = Cert.DwdIdeal.defs (F := F) :=
  congrArg (Pipeline.defs Cert.DwdIdeal.pcfgs) defs₀_eq

/-- The program runs, leaves its arguments unchanged and its counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) := by
  rw [defs_eq]
  exact Cert.DwdIdeal.Free.frame m ρ

end Cert.Dwd.Hand
end
-- ==== Proof.Scalars.lean ====
module

public import Idealize.ShloMosaic.Lib.Pointwise

/-! The scalar formulas the kernel and the reference share, over the extended reals: when a rounding variable is live
    and the factor by which its gradient is the gradient of the dequantised weight. -/

@[expose] public section

noncomputable section

namespace Cert.Scalars

open Idealize.ShloMosaic

/-- The stretched sigmoid before clipping: `1.2 * sigmoid v - 0.1`. -/
def stretched (v : EReal) : EReal :=
  Ideal.logistic v * Ideal.ofBits FTy.f32 1067030938#32 - Ideal.ofBits FTy.f32 1036831949#32

/-- The weight before the int4 clip: the floor plus the clipped stretched sigmoid. -/
def weight (f : BitVec 8) (v : EReal) : EReal := FloatOps.sitofp (F := Ideal) FTy.f32 f + min 1 (max 0 (stretched v))

/-- Whether the gradient passes both clips: the weight lies in `[-8, 7]` and the stretched sigmoid in `(0, 1)`. -/
def live (f : BitVec 8) (v : EReal) : BitVec 1 :=
  IntOp.andi (IntOp.andi (IntOp.andi
      (BitVec.ofBool (decide (Ideal.ofBits FTy.f32 3238002688#32 ≤ weight f v)))
      (BitVec.ofBool (decide (weight f v ≤ Ideal.ofBits FTy.f32 1088421888#32))))
      (BitVec.ofBool (decide (0 < stretched v))))
    (BitVec.ofBool (decide (stretched v < 1)))

/-- The factor of a rounding variable's gradient: `s * 1.2 * sigmoid v * (1 - sigmoid v)` where it is live, else 0. -/
def fac (f : BitVec 8) (v s : EReal) : EReal :=
  Scalar.select (live f v) (s * (Ideal.ofBits FTy.f32 1067030938#32 * Ideal.logistic v * (1 - Ideal.logistic v))) 0

/-- The gradient of a rounding variable from the gradient `g` of the unscaled weight. -/
def dv (f : BitVec 8) (v s g : EReal) : EReal :=
  Scalar.select (live f v) (g * s * Ideal.ofBits FTy.f32 1067030938#32 * Ideal.logistic v * (1 - Ideal.logistic v)) 0

/-- Scaling by the factor is the gradient. -/
theorem mul_fac (f : BitVec 8) (v s g : EReal) : g * fac f v s = dv f v s g := by
  unfold fac dv Scalar.select
  split
  · simp only [mul_assoc]
  · exact mul_zero g

/-- The gradient of the gate projection, scaled by its token's scale `s`: `a` is the gradient of the activation, `g` the gate
    and `u` the up projection. -/
def dGate (a g u s : EReal) : EReal := a * u * Ideal.logistic g * (1 + g * (1 - Ideal.logistic g)) * s

/-- The gradient of the up projection, scaled by its token's scale `s`. -/
def dUp (a g s : EReal) : EReal := a * (g * Ideal.logistic g) * s

end Cert.Scalars

end
-- ==== Proof.DwdVal.lean ====
module

public import proofs.«01_k».proof.Proof.Gen.DwdIdeal.Skeleton
public import proofs.«01_k».proof.Proof.Gen.DwdIdeal.Frame
public import proofs.«01_k».proof.Proof.DwdRunAcc
public import proofs.«01_k».proof.Proof.DwdRunEnd
public import proofs.«01_k».proof.Proof.Scalars
public import Idealize.ShloMosaic.Lib.Pipeline.ValueKit
public import Idealize.ShloMosaic.Lib.Pointwise
public import Idealize.ShloMosaic.Lib.VecWindow

@[expose] public section

set_option maxRecDepth 16384

noncomputable section

namespace Cert.DwdIdeal.Hand

open Cert.DwdIdeal Cert.DwdIdeal.Gen
open Idealize.ShloMosaic Idealize.ShloMosaic.TcCoe Idealize.ShloMosaic.Tactic
open Idealize.SL Idealize.SL.RA Idealize.SL.BI
open scoped Idealize.SL.BI
open Idealize.SL.Sem
open Idealize.ShloMosaic.Rounds
open Idealize.ShloMosaic.Pipeline (Dat Cfg Window BodyObligation cellOf)

/-- The row at which a step writes its part of the factor, in closed form. -/
theorem off1_eq : ∀ i : grid0.Coords, k0_off1 i = ![352 * min (i 1).val 3, 0] := by decide +kernel
theorem off2_eq : ∀ i : grid0.Coords, k0_off2 i = ![352 * min (i 1).val 3, 0] := by decide +kernel

/-- One token tile folded into the product: the element before, or zero at the first tile, plus the tile's sum. -/
theorem acc_out (c : Dev nD) (i : grid0.Coords) (arg2 : Memref sig .tc .vmem S768x1408 .i8) (harg2 : arg2.IsWhole) (arg3 : Memref sig .tc .vmem S768x2048 .bf16) (harg3 : arg3.IsWhole) (arg4 : Memref sig .tc .vmem S352x2048 .f32) (harg4 : arg4.IsWhole) (arg5 : Memref sig .tc .vmem S352x2048 .i8) (harg5 : arg5.IsWhole) (arg6 : Memref sig .tc .vmem S1x2048 .f32) (harg6 : arg6.IsWhole) (arg7 : Memref sig .tc .vmem S1408x2048 .f32) (harg7 : arg7.IsWhole) (arg8 : Memref sig .tc .vmem S1408x2048 .f32) (harg8 : arg8.IsWhole) (h1 : k0_cond1 i = 1#1) (h2 : ¬ k0_cond2 i = 1#1)
    (x0 : Vec Ideal S768x1408 .i8) (x1 : Vec Ideal S768x2048 .bf16) (x2 : Vec Ideal S352x2048 .f32) (x3 : Vec Ideal S352x2048 .i8) (x4 : Vec Ideal S1x2048 .f32)
    (y0 : Vec Ideal S1408x2048 .f32) (y1 : Vec Ideal S1408x2048 .f32) (r : Fin 1408) (q : Fin 2048) :
    (runAcc (F := Ideal) c i arg2 harg2 arg3 harg3 arg4 harg4 arg5 harg5 arg6 harg6 arg7 harg7 arg8 harg8 h1 h2 x0 x1 x2 x3 x4 y0 y1).1.1 (ix2 r q)
      = Scalar.select (Scalar.cmpi .eq (BitVec.ofNat 32 (i 1).val) 0#32) 0 (y0 (ix2 r q))
        + ∑ k : Fin 768, FloatOps.sitofp (F := Ideal) .bf16 (x0 (ix2 k r)) * x1 (ix2 k q) := by
  unfold runAcc; dsimp only
  by_cases h1536 : 1536 ≤ q.val
  · refine (View.read_writes_cons_unit_of_mem _ _ _ _ _ _ (ix2 r ⟨q.val - 1536, by omega⟩) rfl (fun a => by match a with | ⟨0, _⟩ => exact (Nat.zero_add _).symm | ⟨1, _⟩ => show q.val = 1536 + (q.val - 1536); omega)).trans ?_
    sl_unfold_words
    simp only [View.readAt_eq_ld, Memref.IsWhole.read_unread]
    pointwise [k0_pay1, k0_pay2, k0_pay3, k0_pay6, k0_pay7, k0_pay8, k0_pay9, k0_pay12, k0_pay13, k0_pay14, k0_pay15]
    simp only [Memref.IsWhole.read_unread, show 1536 + (q.val - 1536) = q.val from by omega, Fin.eta]
  refine (View.read_writes_cons_unit_of_not_mem _ _ _ _ _ _ rfl 1 (Or.inl (by show q.val < 1536; omega))).trans ?_
  by_cases h1024 : 1024 ≤ q.val
  · refine (View.read_writes_cons_unit_of_mem _ _ _ _ _ _ (ix2 r ⟨q.val - 1024, by omega⟩) rfl (fun a => by match a with | ⟨0, _⟩ => exact (Nat.zero_add _).symm | ⟨1, _⟩ => show q.val = 1024 + (q.val - 1024); omega)).trans ?_
    sl_unfold_words
    simp only [View.readAt_eq_ld, Memref.IsWhole.read_unread]
    pointwise [k0_pay1, k0_pay2, k0_pay3, k0_pay6, k0_pay7, k0_pay8, k0_pay9, k0_pay12, k0_pay13, k0_pay14, k0_pay15]
    simp only [Memref.IsWhole.read_unread, show 1024 + (q.val - 1024) = q.val from by omega, Fin.eta]
  refine (View.read_writes_cons_unit_of_not_mem _ _ _ _ _ _ rfl 1 (Or.inl (by show q.val < 1024; omega))).trans ?_
  by_cases h512 : 512 ≤ q.val
  · refine (View.read_writes_cons_unit_of_mem _ _ _ _ _ _ (ix2 r ⟨q.val - 512, by omega⟩) rfl (fun a => by match a with | ⟨0, _⟩ => exact (Nat.zero_add _).symm | ⟨1, _⟩ => show q.val = 512 + (q.val - 512); omega)).trans ?_
    sl_unfold_words
    simp only [View.readAt_eq_ld, Memref.IsWhole.read_unread]
    pointwise [k0_pay1, k0_pay2, k0_pay3, k0_pay6, k0_pay7, k0_pay8, k0_pay9, k0_pay12, k0_pay13, k0_pay14, k0_pay15]
    simp only [Memref.IsWhole.read_unread, show 512 + (q.val - 512) = q.val from by omega, Fin.eta]
  refine (View.read_writes_cons_unit_of_not_mem _ _ _ _ _ _ rfl 1 (Or.inl (by show q.val < 512; omega))).trans ?_
  refine (View.read_writes_cons_unit_of_mem _ _ _ _ _ _ (ix2 r ⟨q.val - 0, by omega⟩) rfl (fun a => by match a with | ⟨0, _⟩ => exact (Nat.zero_add _).symm | ⟨1, _⟩ => show q.val = 0 + (q.val - 0); omega)).trans ?_
  sl_unfold_words
  simp only [View.readAt_eq_ld, Memref.IsWhole.read_unread]
  pointwise [k0_pay1, k0_pay2, k0_pay3, k0_pay6, k0_pay7, k0_pay8, k0_pay9, k0_pay12, k0_pay13, k0_pay14, k0_pay15]

/-- A step writes its rows of the factor. -/
theorem acc_fac_in (c : Dev nD) (i : grid0.Coords) (arg2 : Memref sig .tc .vmem S768x1408 .i8) (harg2 : arg2.IsWhole) (arg3 : Memref sig .tc .vmem S768x2048 .bf16) (harg3 : arg3.IsWhole) (arg4 : Memref sig .tc .vmem S352x2048 .f32) (harg4 : arg4.IsWhole) (arg5 : Memref sig .tc .vmem S352x2048 .i8) (harg5 : arg5.IsWhole) (arg6 : Memref sig .tc .vmem S1x2048 .f32) (harg6 : arg6.IsWhole) (arg7 : Memref sig .tc .vmem S1408x2048 .f32) (harg7 : arg7.IsWhole) (arg8 : Memref sig .tc .vmem S1408x2048 .f32) (harg8 : arg8.IsWhole) (h1 : k0_cond1 i = 1#1) (h2 : ¬ k0_cond2 i = 1#1)
    (x0 : Vec Ideal S768x1408 .i8) (x1 : Vec Ideal S768x2048 .bf16) (x2 : Vec Ideal S352x2048 .f32) (x3 : Vec Ideal S352x2048 .i8) (x4 : Vec Ideal S1x2048 .f32)
    (y0 : Vec Ideal S1408x2048 .f32) (y1 : Vec Ideal S1408x2048 .f32) (r : Fin 1408) (q : Fin 2048) (r' : Fin 352) (hr : r.val = 352 * min (i 1).val 3 + r'.val) :
    (runAcc (F := Ideal) c i arg2 harg2 arg3 harg3 arg4 harg4 arg5 harg5 arg6 harg6 arg7 harg7 arg8 harg8 h1 h2 x0 x1 x2 x3 x4 y0 y1).1.2 (ix2 r q) = Scalars.fac (x3 (ix2 r' q)) (x2 (ix2 r' q)) (x4 (ix2 0 q)) := by
  unfold runAcc; dsimp only
  refine (View.read_writes_cons_unit_of_mem _ _ _ _ _ _ (ix2 r' q) (off1_eq i) (fun a => by match a with | ⟨0, _⟩ => exact hr | ⟨1, _⟩ => exact (Nat.zero_add _).symm)).trans ?_
  sl_unfold_words
  simp only [View.readAt_eq_ld, Memref.IsWhole.read_unread]
  pointwise [k0_pay4, k0_pay5]
  rfl
/-- It leaves the other rows. -/
theorem acc_fac_out (c : Dev nD) (i : grid0.Coords) (arg2 : Memref sig .tc .vmem S768x1408 .i8) (harg2 : arg2.IsWhole) (arg3 : Memref sig .tc .vmem S768x2048 .bf16) (harg3 : arg3.IsWhole) (arg4 : Memref sig .tc .vmem S352x2048 .f32) (harg4 : arg4.IsWhole) (arg5 : Memref sig .tc .vmem S352x2048 .i8) (harg5 : arg5.IsWhole) (arg6 : Memref sig .tc .vmem S1x2048 .f32) (harg6 : arg6.IsWhole) (arg7 : Memref sig .tc .vmem S1408x2048 .f32) (harg7 : arg7.IsWhole) (arg8 : Memref sig .tc .vmem S1408x2048 .f32) (harg8 : arg8.IsWhole) (h1 : k0_cond1 i = 1#1) (h2 : ¬ k0_cond2 i = 1#1)
    (x0 : Vec Ideal S768x1408 .i8) (x1 : Vec Ideal S768x2048 .bf16) (x2 : Vec Ideal S352x2048 .f32) (x3 : Vec Ideal S352x2048 .i8) (x4 : Vec Ideal S1x2048 .f32)
    (y0 : Vec Ideal S1408x2048 .f32) (y1 : Vec Ideal S1408x2048 .f32) (r : Fin 1408) (q : Fin 2048) (hr : r.val < 352 * min (i 1).val 3 ∨ 352 * min (i 1).val 3 + 352 ≤ r.val) :
    (runAcc (F := Ideal) c i arg2 harg2 arg3 harg3 arg4 harg4 arg5 harg5 arg6 harg6 arg7 harg7 arg8 harg8 h1 h2 x0 x1 x2 x3 x4 y0 y1).1.2 (ix2 r q) = y1 (ix2 r q) := by
  unfold runAcc; dsimp only
  refine (View.read_writes_cons_unit_of_not_mem _ _ _ _ _ _ (off1_eq i) 0 hr).trans ?_
  rw [View.writes_nil, Memref.IsWhole.read_unread]

/-- The last step writes its rows of the factor. -/
theorem end_fac_in (c : Dev nD) (i : grid0.Coords) (arg2 : Memref sig .tc .vmem S768x1408 .i8) (harg2 : arg2.IsWhole) (arg3 : Memref sig .tc .vmem S768x2048 .bf16) (harg3 : arg3.IsWhole) (arg4 : Memref sig .tc .vmem S352x2048 .f32) (harg4 : arg4.IsWhole) (arg5 : Memref sig .tc .vmem S352x2048 .i8) (harg5 : arg5.IsWhole) (arg6 : Memref sig .tc .vmem S1x2048 .f32) (harg6 : arg6.IsWhole) (arg7 : Memref sig .tc .vmem S1408x2048 .f32) (harg7 : arg7.IsWhole) (arg8 : Memref sig .tc .vmem S1408x2048 .f32) (harg8 : arg8.IsWhole) (h1 : ¬ k0_cond1 i = 1#1) (h2 : k0_cond2 i = 1#1)
    (x0 : Vec Ideal S768x1408 .i8) (x1 : Vec Ideal S768x2048 .bf16) (x2 : Vec Ideal S352x2048 .f32) (x3 : Vec Ideal S352x2048 .i8) (x4 : Vec Ideal S1x2048 .f32)
    (y0 : Vec Ideal S1408x2048 .f32) (y1 : Vec Ideal S1408x2048 .f32) (r : Fin 1408) (q : Fin 2048) (r' : Fin 352) (hr : r.val = 352 * min (i 1).val 3 + r'.val) :
    (runEnd (F := Ideal) c i arg2 harg2 arg3 harg3 arg4 harg4 arg5 harg5 arg6 harg6 arg7 harg7 arg8 harg8 h1 h2 x0 x1 x2 x3 x4 y0 y1).1.2 (ix2 r q) = Scalars.fac (x3 (ix2 r' q)) (x2 (ix2 r' q)) (x4 (ix2 0 q)) := by
  unfold runEnd; dsimp only
  sl_unfold_words
  refine (View.read_writes_cons_unit_of_mem _ _ _ _ _ _ (ix2 r' q) (off2_eq i) (fun a => by match a with | ⟨0, _⟩ => exact hr | ⟨1, _⟩ => exact (Nat.zero_add _).symm)).trans ?_
  simp only [View.readAt_eq_ld, Memref.IsWhole.read_unread]
  pointwise [k0_pay10, k0_pay11]
  rfl
/-- It leaves the other rows. -/
theorem end_fac_out (c : Dev nD) (i : grid0.Coords) (arg2 : Memref sig .tc .vmem S768x1408 .i8) (harg2 : arg2.IsWhole) (arg3 : Memref sig .tc .vmem S768x2048 .bf16) (harg3 : arg3.IsWhole) (arg4 : Memref sig .tc .vmem S352x2048 .f32) (harg4 : arg4.IsWhole) (arg5 : Memref sig .tc .vmem S352x2048 .i8) (harg5 : arg5.IsWhole) (arg6 : Memref sig .tc .vmem S1x2048 .f32) (harg6 : arg6.IsWhole) (arg7 : Memref sig .tc .vmem S1408x2048 .f32) (harg7 : arg7.IsWhole) (arg8 : Memref sig .tc .vmem S1408x2048 .f32) (harg8 : arg8.IsWhole) (h1 : ¬ k0_cond1 i = 1#1) (h2 : k0_cond2 i = 1#1)
    (x0 : Vec Ideal S768x1408 .i8) (x1 : Vec Ideal S768x2048 .bf16) (x2 : Vec Ideal S352x2048 .f32) (x3 : Vec Ideal S352x2048 .i8) (x4 : Vec Ideal S1x2048 .f32)
    (y0 : Vec Ideal S1408x2048 .f32) (y1 : Vec Ideal S1408x2048 .f32) (r : Fin 1408) (q : Fin 2048) (hr : r.val < 352 * min (i 1).val 3 ∨ 352 * min (i 1).val 3 + 352 ≤ r.val) :
    (runEnd (F := Ideal) c i arg2 harg2 arg3 harg3 arg4 harg4 arg5 harg5 arg6 harg6 arg7 harg7 arg8 harg8 h1 h2 x0 x1 x2 x3 x4 y0 y1).1.2 (ix2 r q) = y1 (ix2 r q) := by
  unfold runEnd; dsimp only
  sl_unfold_words
  refine (View.read_writes_cons_unit_of_not_mem _ _ _ _ _ _ (off2_eq i) 0 hr).trans ?_
  rw [View.writes_nil, Memref.IsWhole.read_unread]

/-- The last token tile folded into the product, and the whole scaled by the factor. -/
theorem end_out (c : Dev nD) (i : grid0.Coords) (arg2 : Memref sig .tc .vmem S768x1408 .i8) (harg2 : arg2.IsWhole) (arg3 : Memref sig .tc .vmem S768x2048 .bf16) (harg3 : arg3.IsWhole) (arg4 : Memref sig .tc .vmem S352x2048 .f32) (harg4 : arg4.IsWhole) (arg5 : Memref sig .tc .vmem S352x2048 .i8) (harg5 : arg5.IsWhole) (arg6 : Memref sig .tc .vmem S1x2048 .f32) (harg6 : arg6.IsWhole) (arg7 : Memref sig .tc .vmem S1408x2048 .f32) (harg7 : arg7.IsWhole) (arg8 : Memref sig .tc .vmem S1408x2048 .f32) (harg8 : arg8.IsWhole) (h1 : ¬ k0_cond1 i = 1#1) (h2 : k0_cond2 i = 1#1)
    (x0 : Vec Ideal S768x1408 .i8) (x1 : Vec Ideal S768x2048 .bf16) (x2 : Vec Ideal S352x2048 .f32) (x3 : Vec Ideal S352x2048 .i8) (x4 : Vec Ideal S1x2048 .f32)
    (y0 : Vec Ideal S1408x2048 .f32) (y1 : Vec Ideal S1408x2048 .f32) (r : Fin 1408) (q : Fin 2048) :
    (runEnd (F := Ideal) c i arg2 harg2 arg3 harg3 arg4 harg4 arg5 harg5 arg6 harg6 arg7 harg7 arg8 harg8 h1 h2 x0 x1 x2 x3 x4 y0 y1).1.1 (ix2 r q)
      = (Scalar.select (Scalar.cmpi .eq (BitVec.ofNat 32 (i 1).val) 0#32) 0 (y0 (ix2 r q))
        + ∑ k : Fin 768, FloatOps.sitofp (F := Ideal) .bf16 (x0 (ix2 k r)) * x1 (ix2 k q))
          * (runEnd (F := Ideal) c i arg2 harg2 arg3 harg3 arg4 harg4 arg5 harg5 arg6 harg6 arg7 harg7 arg8 harg8 h1 h2 x0 x1 x2 x3 x4 y0 y1).1.2 (ix2 r q) := by
  unfold runEnd; dsimp only
  generalize hW : arg8.view.writes (Elt Ideal) (harg8.unread y1) (runEnd.sl.H6_1 c i arg4 harg4 arg5 harg5 arg6 harg6 h2 x2 x3 x4) = W
  by_cases h1536 : 1536 ≤ q.val
  · refine (View.read_writes_cons_unit_of_mem _ _ _ _ _ _ (ix2 r ⟨q.val - 1536, by omega⟩) rfl (fun a => by match a with | ⟨0, _⟩ => exact (Nat.zero_add _).symm | ⟨1, _⟩ => show q.val = 1536 + (q.val - 1536); omega)).trans ?_
    sl_unfold_words
    simp only [View.readAt_eq_ld, Memref.IsWhole.read_unread]
    pointwise [k0_pay1, k0_pay2, k0_pay3, k0_pay6, k0_pay7, k0_pay8, k0_pay9, k0_pay12, k0_pay13, k0_pay14, k0_pay15]
    simp only [Memref.IsWhole.read_unread, show 1536 + (q.val - 1536) = q.val from by omega, Fin.eta]
    rw [← hW]
    sl_unfold_words
    simp only [View.readAt_eq_ld, Memref.IsWhole.read_unread]
  refine (View.read_writes_cons_unit_of_not_mem _ _ _ _ _ _ rfl 1 (Or.inl (by show q.val < 1536; omega))).trans ?_
  by_cases h1024 : 1024 ≤ q.val
  · refine (View.read_writes_cons_unit_of_mem _ _ _ _ _ _ (ix2 r ⟨q.val - 1024, by omega⟩) rfl (fun a => by match a with | ⟨0, _⟩ => exact (Nat.zero_add _).symm | ⟨1, _⟩ => show q.val = 1024 + (q.val - 1024); omega)).trans ?_
    sl_unfold_words
    simp only [View.readAt_eq_ld, Memref.IsWhole.read_unread]
    pointwise [k0_pay1, k0_pay2, k0_pay3, k0_pay6, k0_pay7, k0_pay8, k0_pay9, k0_pay12, k0_pay13, k0_pay14, k0_pay15]
    simp only [Memref.IsWhole.read_unread, show 1024 + (q.val - 1024) = q.val from by omega, Fin.eta]
    rw [← hW]
    sl_unfold_words
    simp only [View.readAt_eq_ld, Memref.IsWhole.read_unread]
  refine (View.read_writes_cons_unit_of_not_mem _ _ _ _ _ _ rfl 1 (Or.inl (by show q.val < 1024; omega))).trans ?_
  by_cases h512 : 512 ≤ q.val
  · refine (View.read_writes_cons_unit_of_mem _ _ _ _ _ _ (ix2 r ⟨q.val - 512, by omega⟩) rfl (fun a => by match a with | ⟨0, _⟩ => exact (Nat.zero_add _).symm | ⟨1, _⟩ => show q.val = 512 + (q.val - 512); omega)).trans ?_
    sl_unfold_words
    simp only [View.readAt_eq_ld, Memref.IsWhole.read_unread]
    pointwise [k0_pay1, k0_pay2, k0_pay3, k0_pay6, k0_pay7, k0_pay8, k0_pay9, k0_pay12, k0_pay13, k0_pay14, k0_pay15]
    simp only [Memref.IsWhole.read_unread, show 512 + (q.val - 512) = q.val from by omega, Fin.eta]
    rw [← hW]
    sl_unfold_words
    simp only [View.readAt_eq_ld, Memref.IsWhole.read_unread]
  refine (View.read_writes_cons_unit_of_not_mem _ _ _ _ _ _ rfl 1 (Or.inl (by show q.val < 512; omega))).trans ?_
  refine (View.read_writes_cons_unit_of_mem _ _ _ _ _ _ (ix2 r ⟨q.val - 0, by omega⟩) rfl (fun a => by match a with | ⟨0, _⟩ => exact (Nat.zero_add _).symm | ⟨1, _⟩ => show q.val = 0 + (q.val - 0); omega)).trans ?_
  sl_unfold_words
  simp only [View.readAt_eq_ld, Memref.IsWhole.read_unread]
  pointwise [k0_pay1, k0_pay2, k0_pay3, k0_pay6, k0_pay7, k0_pay8, k0_pay9, k0_pay12, k0_pay13, k0_pay14, k0_pay15]
  rw [← hW]
  sl_unfold_words
  simp only [View.readAt_eq_ld, Memref.IsWhole.read_unread]

end Cert.DwdIdeal.Hand
end
-- ==== Proof.DwdSound.lean ====
module

public import proofs.«01_k».proof.Proof.Gen.DwdIdeal.Skeleton
public import proofs.«01_k».proof.Proof.Gen.DwdIdeal.Frame
public import proofs.«01_k».proof.Proof.DwdVal
public import Idealize.ShloMosaic.Lib.Claim
public import Idealize.ShloMosaic.Lib.WordCmp

@[expose] public section

set_option maxRecDepth 16384

noncomputable section

namespace Cert.DwdIdeal.Hand

open Cert.DwdIdeal Cert.DwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The grid -/

theorem coord1 : ∀ t : Fin cfg0.N, (grid0.coords t 1).val = t.val % 12 :=
  (by decide +kernel : ∀ t : Fin grid0.N, (grid0.coords t 1).val = t.val % 12)
theorem cond1_iff : ∀ t : Fin cfg0.N, k0_cond1 (grid0.coords t) = 1#1 ↔ t.val % 12 ≠ 11 :=
  (by decide +kernel : ∀ t : Fin grid0.N, k0_cond1 (grid0.coords t) = 1#1 ↔ t.val % 12 ≠ 11)
theorem cond2_iff : ∀ t : Fin cfg0.N, k0_cond2 (grid0.coords t) = 1#1 ↔ t.val % 12 = 11 :=
  (by decide +kernel : ∀ t : Fin grid0.N, k0_cond2 (grid0.coords t) = 1#1 ↔ t.val % 12 = 11)
theorem first_eq : ∀ t : Fin cfg0.N, Scalar.cmpi .eq (BitVec.ofNat 32 (grid0.coords t 1).val) 0#32 = BitVec.ofBool (decide (t.val % 12 = 0)) :=
  (by decide +kernel : ∀ t : Fin grid0.N, Scalar.cmpi .eq (BitVec.ofNat 32 (grid0.coords t 1).val) 0#32 = BitVec.ofBool (decide (t.val % 12 = 0)))
theorem idle5 : ∀ i : grid0.Coords, cfg0.idle 5 i = false :=
  (by decide +kernel : ∀ i : grid0.Coords, cfg0.idle 5 i = false)
theorem idx0 : ∀ t : Fin cfg0.N, win0_0.index t = ![t.val % 12, t.val / 12] :=
  (by decide +kernel : ∀ t : Fin grid0.N, win0_0.index t = ![t.val % 12, t.val / 12])
theorem idx1 : ∀ t : Fin cfg0.N, win0_1.index t = ![t.val % 12, 0] :=
  (by decide +kernel : ∀ t : Fin grid0.N, win0_1.index t = ![t.val % 12, 0])
theorem idx2 : ∀ t : Fin cfg0.N, win0_2.index t = ![t.val / 12 * 4 + min (t.val % 12) 3, 0] :=
  (by decide +kernel : ∀ t : Fin grid0.N, win0_2.index t = ![t.val / 12 * 4 + min (t.val % 12) 3, 0])
theorem idx3 : ∀ t : Fin cfg0.N, win0_3.index t = ![t.val / 12 * 4 + min (t.val % 12) 3, 0] :=
  (by decide +kernel : ∀ t : Fin grid0.N, win0_3.index t = ![t.val / 12 * 4 + min (t.val % 12) 3, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 12, 0] :=
  (by decide +kernel : ∀ t : Fin grid0.N, win0_5.index t = ![t.val / 12, 0])

/-! ## The arrays and their blocks -/

/-- The arguments as arrays: the codes, the upstream gradient, the rounding variables, the floors, the scales. -/
def A0 (c : Dev nD) : Vec Ideal S9216x5632 .i8 := V m c main_arg0
def A1 (c : Dev nD) : Vec Ideal S9216x2048 .bf16 := V m c main_arg1
def A2 (c : Dev nD) : Vec Ideal S5632x2048 .f32 := V m c main_arg2
def A3 (c : Dev nD) : Vec Ideal S5632x2048 .i8 := V m c main_arg3
def A4 (c : Dev nD) : Vec Ideal S1x2048 .f32 := V m c main_arg4

theorem blk0 (c : Dev nD) (t : Fin cfg0.N) (k : Fin 768) (r : Fin 1408) (K : Fin 9216) (R : Fin 5632)
    (hK : K.val = t.val % 12 * 768 + k.val) (hR : R.val = t.val / 12 * 1408 + r.val) :
    iblk m c 0 t (ix2 k r) = A0 m c (ix2 K R) := by
  show V m c main_arg0 (((cfg0.win 0).blk t).view.emb (ix2 k r)) = V m c main_arg0 (ix2 K R)
  congr 1; funext a; apply Fin.ext
  match a with
  | ⟨0, _⟩ => show win0_0.index t (0 : Fin 2) * 768 + 1 * k.val = K.val; rw [idx0]; show t.val % 12 * 768 + 1 * k.val = K.val; omega
  | ⟨1, _⟩ => show win0_0.index t (1 : Fin 2) * 1408 + 1 * r.val = R.val; rw [idx0]; show t.val / 12 * 1408 + 1 * r.val = R.val; omega
theorem blk1 (c : Dev nD) (t : Fin cfg0.N) (k : Fin 768) (q : Fin 2048) (K : Fin 9216)
    (hK : K.val = t.val % 12 * 768 + k.val) :
    iblk m c 1 t (ix2 k q) = A1 m c (ix2 K q) := by
  show V m c main_arg1 (((cfg0.win 1).blk t).view.emb (ix2 k q)) = V m c main_arg1 (ix2 K q)
  congr 1; funext a; apply Fin.ext
  match a with
  | ⟨0, _⟩ => show win0_1.index t (0 : Fin 2) * 768 + 1 * k.val = K.val; rw [idx1]; show t.val % 12 * 768 + 1 * k.val = K.val; omega
  | ⟨1, _⟩ => show win0_1.index t (1 : Fin 2) * 2048 + 1 * q.val = q.val; rw [idx1]; show 0 * 2048 + 1 * q.val = q.val; omega
theorem blk2 (c : Dev nD) (t : Fin cfg0.N) (r : Fin 352) (q : Fin 2048) (R : Fin 5632)
    (hR : R.val = (t.val / 12 * 4 + min (t.val % 12) 3) * 352 + r.val) :
    iblk m c 2 t (ix2 r q) = A2 m c (ix2 R q) := by
  show V m c main_arg2 (((cfg0.win 2).blk t).view.emb (ix2 r q)) = V m c main_arg2 (ix2 R q)
  congr 1; funext a; apply Fin.ext
  match a with
  | ⟨0, _⟩ => show win0_2.index t (0 : Fin 2) * 352 + 1 * r.val = R.val; rw [idx2]; show (t.val / 12 * 4 + min (t.val % 12) 3) * 352 + 1 * r.val = R.val; omega
  | ⟨1, _⟩ => show win0_2.index t (1 : Fin 2) * 2048 + 1 * q.val = q.val; rw [idx2]; show 0 * 2048 + 1 * q.val = q.val; omega
theorem blk3 (c : Dev nD) (t : Fin cfg0.N) (r : Fin 352) (q : Fin 2048) (R : Fin 5632)
    (hR : R.val = (t.val / 12 * 4 + min (t.val % 12) 3) * 352 + r.val) :
    iblk m c 3 t (ix2 r q) = A3 m c (ix2 R q) := by
  show V m c main_arg3 (((cfg0.win 3).blk t).view.emb (ix2 r q)) = V m c main_arg3 (ix2 R q)
  congr 1; funext a; apply Fin.ext
  match a with
  | ⟨0, _⟩ => show win0_3.index t (0 : Fin 2) * 352 + 1 * r.val = R.val; rw [idx3]; show (t.val / 12 * 4 + min (t.val % 12) 3) * 352 + 1 * r.val = R.val; omega
  | ⟨1, _⟩ => show win0_3.index t (1 : Fin 2) * 2048 + 1 * q.val = q.val; rw [idx3]; show 0 * 2048 + 1 * q.val = q.val; omega
theorem blk4 (c : Dev nD) (t : Fin cfg0.N) (q : Fin 2048) :
    iblk m c 4 t (ix2 (0 : Fin 1) q) = A4 m c (ix2 (0 : Fin 1) q) := by
  show V m c main_arg4 (((cfg0.win 4).blk t).view.emb (ix2 (0 : Fin 1) q)) = V m c main_arg4 (ix2 (0 : Fin 1) q)
  congr 1; funext a; apply Fin.ext
  match a with
  | ⟨0, _⟩ => show win0_4.index t (0 : Fin 2) * 1 + 1 * 0 = 0; rw [idx4]; rfl
  | ⟨1, _⟩ => show win0_4.index t (1 : Fin 2) * 2048 + 1 * q.val = q.val; rw [idx4]; show 0 * 2048 + 1 * q.val = q.val; omega

/-! ## What the buffers hold point by point -/

/-- The sum over point `n`'s token tile. -/
def term (c : Dev nD) (n : ℕ) (r : Fin 1408) (q : Fin 2048) : EReal :=
  if h : n < cfg0.N then ∑ k : Fin 768, FloatOps.sitofp (F := Ideal) .bf16 (iblk m c 0 ⟨n, h⟩ (ix2 k r)) * iblk m c 1 ⟨n, h⟩ (ix2 k q) else 0

/-- The factor of row `R`, column `q`. -/
def facG (c : Dev nD) (R : Fin 5632) (q : Fin 2048) : EReal :=
  Scalars.fac (A3 m c (ix2 R q)) (A2 m c (ix2 R q)) (A4 m c (ix2 (0 : Fin 1) q))

/-- The product's sum after point `n`. -/
def acc (c : Dev nD) (n : ℕ) (r : Fin 1408) (q : Fin 2048) : EReal :=
  ∑ j ∈ Finset.range (n % 12 + 1), term m c (12 * (n / 12) + j) r q

/-- The row of the whole array that row `r` of point `t`'s block is. -/
def rowG (t : Fin cfg0.N) (r : Fin 1408) : Fin 5632 :=
  ⟨t.val / 12 * 1408 + r.val, by have ht : t.val < 48 := Nat.lt_of_lt_of_eq t.isLt N_0; omega⟩

/-- The output block after point `t`: the sum so far, scaled at the last token tile. -/
def outAt (c : Dev nD) (t : Fin cfg0.N) (r : Fin 1408) (q : Fin 2048) : EReal :=
  if t.val % 12 = 11 then acc m c t.val r q * facG m c (rowG t r) q else acc m c t.val r q

/-- Before point `n` the factor scratch holds the rows the block's earlier points wrote. -/
def Inv (c : Dev nD) (n : ℕ) (d : Vec Ideal S1408x2048 .f32) : Prop :=
  ∀ (r : Fin 1408) (q : Fin 2048) (R : Fin 5632), R.val = n / 12 * 1408 + r.val → r.val < 352 * min (n % 12) 4 →
    d (ix2 r q) = facG m c R q

theorem acc_first (c : Dev nD) (t : Fin cfg0.N) (h : t.val % 12 = 0) (r : Fin 1408) (q : Fin 2048) :
    acc m c t.val r q = term m c t.val r q := by
  unfold acc
  rw [h, Finset.sum_range_one, show 12 * (t.val / 12) + 0 = t.val from by omega]
theorem acc_next (c : Dev nD) (t : Fin cfg0.N) (h : t.val % 12 ≠ 0) (r : Fin 1408) (q : Fin 2048) :
    acc m c t.val r q = acc m c (t.val - 1) r q + term m c t.val r q := by
  unfold acc
  rw [show t.val % 12 + 1 = ((t.val - 1) % 12 + 1) + 1 from by omega, Finset.sum_range_succ,
    show (t.val - 1) / 12 = t.val / 12 from by omega, show 12 * (t.val / 12) + ((t.val - 1) % 12 + 1) = t.val from by omega]

/-! ## The pipeline's proof data -/

abbrev scM0_0 : Memref sig .tc .vmem S1408x2048 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body carries between points: the factor scratch at contents the invariant describes. -/
def carried (c : Dev nD) (n : ℕ) : sProp 𝕄 :=
  iprop(∃ d, ⌜Inv m c n d⌝ ∗ owns (c : Thread nD τ) scM0_0 fullShare d ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun y : S1408x2048.Idx => outAt m c t (y 0) (y 1)
  Φ n := carried m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) ((cfg0.win 0).stage (cfg0.slots t 0)) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) ((cfg0.win 1).stage (cfg0.slots t 1)) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) ((cfg0.win 2).stage (cfg0.slots t 2)) fullShare (iblk m c 2 t) := by
  unfold Dat.leavesExact; rw [show cfg0.idle 2 (grid0.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) ((cfg0.win 3).stage (cfg0.slots t 3)) fullShare (iblk m c 3 t) := by
  unfold Dat.leavesExact; rw [show cfg0.idle 3 (grid0.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) ((cfg0.win 4).stage (cfg0.slots t 4)) fullShare (iblk m c 4 t) := by
  unfold Dat.leavesExact; rw [show cfg0.idle 4 (grid0.coords t) = false from rfl, after0_4]
theorem after0_5 (c : Dev nD) (t : Fin cfg0.N) : (dats m 0 c).after 5 t = fun y : S1408x2048.Idx => outAt m c t (y 0) (y 1) := by dsimp only [dats]
theorem leaves0_5 (c : Dev nD) (t : Fin cfg0.N) : (dats m 0 c).leavesExact 5 t = owns (c : Thread nD τ) (st0_5 t) fullShare (fun y : S1408x2048.Idx => outAt m c t (y 0) (y 1)) := by
  unfold Dat.leavesExact; rw [idle5, after0_5]

theorem before0_5 (c : Dev nD) (t : Fin cfg0.N) (h : t.val % 12 ≠ 0) (d) (r : Fin 1408) (q : Fin 2048) :
    ((dats m 0 c).before 5 t d : Vec Ideal S1408x2048 .f32) (ix2 r q) = acc m c (t.val - 1) r q := by
  have ht : t.val < 48 := Nat.lt_of_lt_of_eq t.isLt N_0
  rw [(dats m 0 c).before_out_kept 5 rfl t (by omega) (by
      rw [Bool.eq_false_iff]; intro hf; have := (flush0_5 _).mp hf; change (t.val - 1) % 12 = 11 at this; omega) idle5 (fun _ _ => rfl), after0_5]
  show outAt m c _ r q = _
  unfold outAt
  rw [if_neg (by show ¬ (t.val - 1) % 12 = 11; omega)]

/-- The sum a point adds into what the buffer held. -/
theorem sum_step (c : Dev nD) (t : Fin cfg0.N) (y0 : Vec Ideal S1408x2048 .f32) (r : Fin 1408) (q : Fin 2048)
    (h0 : t.val % 12 ≠ 0 → y0 (ix2 r q) = acc m c (t.val - 1) r q) :
    Scalar.select (Scalar.cmpi .eq (BitVec.ofNat 32 (grid0.coords t 1).val) 0#32) 0 (y0 (ix2 r q))
        + ∑ k : Fin 768, FloatOps.sitofp (F := Ideal) .bf16 (iblk m c 0 t (ix2 k r)) * iblk m c 1 t (ix2 k q)
      = acc m c t.val r q := by
  rw [first_eq]
  have e : (∑ k : Fin 768, FloatOps.sitofp (F := Ideal) .bf16 (iblk m c 0 t (ix2 k r)) * iblk m c 1 t (ix2 k q)) = term m c t.val r q := by
    unfold term; rw [dif_pos t.isLt]
  rw [e]
  by_cases h : t.val % 12 = 0
  · rw [acc_first m c t h, decide_eq_true h]; exact zero_add _
  · rw [acc_next m c t h, decide_eq_false h, h0 h]; rfl

/-- The rows of the factor that a point writes. -/
theorem fac_step (c : Dev nD) (t : Fin cfg0.N) (r : Fin 1408) (q : Fin 2048) (R : Fin 5632) (hR : R.val = t.val / 12 * 1408 + r.val)
    (r' : Fin 352) (hr : r.val = 352 * min (t.val % 12) 3 + r'.val) :
    Scalars.fac (iblk m c 3 t (ix2 r' q)) (iblk m c 2 t (ix2 r' q)) (iblk m c 4 t (ix2 (0 : Fin 1) q)) = facG m c R q := by
  unfold facG
  rw [blk3 m c t r' q R (by omega), blk2 m c t r' q R (by omega), blk4]

/-- The invariant is kept, for any contents that hold the written rows and the old ones elsewhere. -/
theorem inv_step (c : Dev nD) (t : Fin cfg0.N) (d d' : Vec Ideal S1408x2048 .f32) (h : Inv m c t.val d)
    (hin : ∀ (r : Fin 1408) (q : Fin 2048) (r' : Fin 352), r.val = 352 * min (t.val % 12) 3 + r'.val →
      d' (ix2 r q) = Scalars.fac (iblk m c 3 t (ix2 r' q)) (iblk m c 2 t (ix2 r' q)) (iblk m c 4 t (ix2 (0 : Fin 1) q)))
    (hout : ∀ (r : Fin 1408) (q : Fin 2048), (r.val < 352 * min (t.val % 12) 3 ∨ 352 * min (t.val % 12) 3 + 352 ≤ r.val) → d' (ix2 r q) = d (ix2 r q)) :
    ∀ (r : Fin 1408) (q : Fin 2048) (R : Fin 5632), R.val = t.val / 12 * 1408 + r.val → r.val < 352 * min (t.val % 12 + 1) 4 →
      d' (ix2 r q) = facG m c R q := by
  intro r q R hR hr
  by_cases h1 : 352 * min (t.val % 12) 3 ≤ r.val ∧ r.val < 352 * min (t.val % 12) 3 + 352
  · rw [hin r q ⟨r.val - 352 * min (t.val % 12) 3, by omega⟩ (by show r.val = _ + (r.val - _); omega)]
    exact fac_step m c t r q R hR _ (by show r.val = _ + (r.val - _); omega)
  · rw [hout r q (by omega)]
    exact h r q R hR (by omega)

theorem inv_next (c : Dev nD) (t : Fin cfg0.N) (d' : Vec Ideal S1408x2048 .f32)
    (h : ∀ (r : Fin 1408) (q : Fin 2048) (R : Fin 5632), R.val = t.val / 12 * 1408 + r.val → r.val < 352 * min (t.val % 12 + 1) 4 →
      d' (ix2 r q) = facG m c R q) : Inv m c (t.val + 1) d' := by
  intro r q R hR hr
  by_cases h1 : t.val % 12 = 11
  · exfalso; have : (t.val + 1) % 12 = 0 := by omega
    rw [this] at hr; simp at hr
  · exact h r q R (by rw [hR, show (t.val + 1) / 12 = t.val / 12 from by omega]) (by rw [show (t.val + 1) % 12 = t.val % 12 + 1 from by omega] at hr; exact hr)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4, leaves0_5]
  rw [show (dats m 0 c).Φ t.castSucc = carried m c t.val from rfl, show (dats m 0 c).Φ t.succ = carried m c (t.val + 1) from rfl,
    show (dats m 0 c).owesAt () t.succ = (dats m 0 c).owesAt () t.castSucc from rfl]
  unfold carried
  have hN : t.val < 48 := lt_of_lt_of_eq t.isLt (show cfg0.N = 48 from N_0)
  have e1 := coord1 t
  by_cases h1 : t.val % 12 = 11
  · iintro ⟨⟨%ds, %hI, HS, Hg⟩, Ho, ⟨%d0, H0⟩, ⟨%d1, H1⟩, ⟨%d2, H2⟩, ⟨%d3, H3⟩, ⟨%d4, H4⟩, ⟨%d5, H5⟩⟩
    iapply ((runEnd (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (Memref.isWhole_whole _) (fun h => (cond1_iff t).mp h h1) ((cond2_iff t).mpr h1) (iblk m c 0 t) (iblk m c 1 t) (iblk m c 2 t) (iblk m c 3 t) (iblk m c 4 t) ((dats m 0 c).before 5 t d5) ds).2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · iexists _; isplitr; swap
      · isplitl [HS]; · iexact HS
        iexact Hg
      ipureintro
      exact inv_next m c t _ (inv_step m c t ds _ hI (fun r q r' hr => end_fac_in (hr := by rw [e1]; exact hr) ..) (fun r q hr => end_fac_out (hr := by rw [e1]; exact hr) ..))
    isplitl [Ho]; · iexact Ho
    isplitl [H0]; · iexact H0
    isplitl [H1]; · iexact H1
    isplitl [H2]; · iexact H2
    isplitl [H3]; · iexact H3
    isplitl [H4]; · iexact H4
    rw [show (fun y : S1408x2048.Idx => outAt m c t (y 0) (y 1)) = _ from ?_]
    · iexact H5
    funext y
    obtain ⟨r, q, rfl⟩ : ∃ r q, y = ix2 r q := ⟨_, _, eq_ix2 y⟩
    refine Eq.trans ?_ (end_out ..).symm
    refine Eq.trans ?_ (congrArg₂ (· * ·) (sum_step m c t _ r q fun h => before0_5 m c t h d5 r q) (inv_step m c t ds _ hI (fun r q r' hr => end_fac_in (hr := by rw [e1]; exact hr) ..) (fun r q hr => end_fac_out (hr := by rw [e1]; exact hr) ..) r q (rowG t r) rfl (by omega))).symm
    show outAt m c t r q = _
    unfold outAt; rw [if_pos h1]
  · iintro ⟨⟨%ds, %hI, HS, Hg⟩, Ho, ⟨%d0, H0⟩, ⟨%d1, H1⟩, ⟨%d2, H2⟩, ⟨%d3, H3⟩, ⟨%d4, H4⟩, ⟨%d5, H5⟩⟩
    iapply ((runAcc (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (Memref.isWhole_whole _) ((cond1_iff t).mpr h1) (fun h => h1 ((cond2_iff t).mp h)) (iblk m c 0 t) (iblk m c 1 t) (iblk m c 2 t) (iblk m c 3 t) (iblk m c 4 t) ((dats m 0 c).before 5 t d5) ds).2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · iexists _; isplitr; swap
      · isplitl [HS]; · iexact HS
        iexact Hg
      ipureintro
      exact inv_next m c t _ (inv_step m c t ds _ hI (fun r q r' hr => acc_fac_in (hr := by rw [e1]; exact hr) ..) (fun r q hr => acc_fac_out (hr := by rw [e1]; exact hr) ..))
    isplitl [Ho]; · iexact Ho
    isplitl [H0]; · iexact H0
    isplitl [H1]; · iexact H1
    isplitl [H2]; · iexact H2
    isplitl [H3]; · iexact H3
    isplitl [H4]; · iexact H4
    rw [show (fun y : S1408x2048.Idx => outAt m c t (y 0) (y 1)) = _ from ?_]
    · iexact H5
    funext y
    obtain ⟨r, q, rfl⟩ : ∃ r q, y = ix2 r q := ⟨_, _, eq_ix2 y⟩
    refine Eq.trans ?_ (acc_out ..).symm
    refine Eq.trans ?_ (sum_step m c t _ r q fun h => before0_5 m c t h d5 r q).symm
    show outAt m c t r q = _
    unfold outAt; rw [if_neg h1]

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem carried_in (c : Dev nD) : Pipeline.ΦA spec0 c ⊢ (dats m 0 c).Φ 0 := by
  rw [PhiA0_eq, show (dats m 0 c).Φ 0 = carried m c 0 from rfl]
  unfold carried
  iintro ⟨⟨%d, H⟩, Hg⟩
  iexists d; isplitr
  · ipureintro; intro r q R _ hr; exact absurd hr (by simp)
  isplitl [H]; · iexact H
  iexact Hg
theorem carried_out (c : Dev nD) : (dats m 0 c).Φ (Fin.last cfg0.N) ⊢ Pipeline.ΦA spec0 c := by
  rw [PhiA0_eq, show (dats m 0 c).Φ (Fin.last cfg0.N) = carried m c cfg0.N from rfl]
  unfold carried
  iintro ⟨%d, %hI, H, Hg⟩
  isplitl [H]; · iexists d; iexact H
  iexact Hg

set_option backward.isDefEq.respectTransparency.types false in
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

/-- The result array: entry by entry the gradient of the rounding variable. -/
def final (c : Dev nD) : Vec Ideal S5632x2048 .f32 := fun y =>
  Scalars.dv (A3 m c y) (A2 m c y) (A4 m c (ix2 (0 : Fin 1) (y 1)))
    (∑ k : Fin 9216, FloatOps.sitofp (F := Ideal) .bf16 (A0 m c (ix2 k (y 0))) * A1 m c (ix2 k (y 1)))

end Cert.DwdIdeal.Hand
end
-- ==== Proof.DwdValue.lean ====
module

public import proofs.«01_k».proof.Proof.Gen.DwdIdeal.Skeleton
public import proofs.«01_k».proof.Proof.Gen.DwdIdeal.Frame
public import proofs.«01_k».proof.Proof.DwdSound
public import proofs.«01_k».proof.Proof.Gen.DwdRefIdeal.Value

@[expose] public section

set_option maxRecDepth 16384

noncomputable section

namespace Cert.DwdIdeal.Hand

open Cert.DwdIdeal Cert.DwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- At the last token tile the sum is over every token. -/
theorem acc_last (c : Dev nD) (t : Fin cfg0.N) (h : t.val % 12 = 11) (r : Fin 1408) (q : Fin 2048) :
    acc m c t.val r q = ∑ k : Fin 9216, FloatOps.sitofp (F := Ideal) .bf16 (A0 m c (ix2 k (rowG t r))) * A1 m c (ix2 k q) := by
  have ht : t.val < 48 := Nat.lt_of_lt_of_eq t.isLt N_0
  unfold acc
  rw [h, Finset.sum_range, ← Fin.sum_mul_add_fin 12 768 (fun k : Fin 9216 =>
    FloatOps.sitofp (F := Ideal) .bf16 (A0 m c (ix2 k (rowG t r))) * A1 m c (ix2 k q)) rfl]
  refine Finset.sum_congr rfl fun j _ => ?_
  have hj : 12 * (t.val / 12) + j.val < cfg0.N := lt_of_lt_of_eq (by omega : 12 * (t.val / 12) + j.val < 48) N_0.symm
  unfold term
  rw [dif_pos hj]
  refine Finset.sum_congr rfl fun k _ => ?_
  rw [blk0 m c ⟨_, hj⟩ k r ⟨j.val * 768 + k.val, by omega⟩ (rowG t r) (by show j.val * 768 + k.val = (12 * (t.val / 12) + j.val) % 12 * 768 + k.val; omega)
      (by show t.val / 12 * 1408 + r.val = (12 * (t.val / 12) + j.val) / 12 * 1408 + r.val; omega),
    blk1 m c ⟨_, hj⟩ k q ⟨j.val * 768 + k.val, by omega⟩ (by show j.val * 768 + k.val = (12 * (t.val / 12) + j.val) % 12 * 768 + k.val; omega)]

/-- Where an index of point `t`'s output block lies in the array. -/
theorem emb5 (t : Fin cfg0.N) (r : Fin 1408) (q : Fin 2048) :
    ((cfg0.win 5).blk t).view.emb (ix2 r q) = ix2 (rowG t r) q := by
  funext a; apply Fin.ext
  match a with
  | ⟨0, _⟩ => show win0_5.index t (0 : Fin 2) * 1408 + 1 * r.val = t.val / 12 * 1408 + r.val; rw [idx5]; show t.val / 12 * 1408 + 1 * r.val = _; omega
  | ⟨1, _⟩ => show win0_5.index t (1 : Fin 2) * 2048 + 1 * q.val = q.val; rw [idx5]; show 0 * 2048 + 1 * q.val = q.val; omega

/-- The result array after the run. -/
theorem arr5 (c : Dev nD) : (dats m 0 c).arrAt 5 cfg0.N = final m c := by
  refine (dats m 0 c).arrAt_eq_of_covers 5 _ (by decide +kernel) fun t hf y => ?_
  have h : t.val % 12 = 11 := (flush0_5 t).mp hf
  blk_simp
  rw [after0_5]
  obtain ⟨r, q, rfl⟩ : ∃ r q, y = ix2 (n0 := 1408) (n1 := 2048) r q := ⟨_, _, eq_ix2 y⟩
  show outAt m c t r q = final m c (((cfg0.win 5).blk t).view.emb (ix2 r q))
  rw [emb5]
  unfold outAt final
  rw [if_pos h, acc_last m c t h]
  exact Scalars.mul_fac ..

/-- The run: the result array holds the gradient, the arguments are unchanged. -/
theorem run : θ_run defs (onTc (τ := τ) (main (F := Ideal))) ⟨m, fun _ => 0, ρ⟩ fun r => ∀ c : Dev nD,
      r.2.mem ((c : Thread nD τ).loc main_v0) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (arr5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-- The reference computes the same function of the arguments. -/
theorem final_eq (c : Dev nD) : final m c = Cert.DwdRefIdeal.Value.G5 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  funext y
  obtain ⟨r, q, rfl⟩ : ∃ r q, y = ix2 (n0 := 5632) (n1 := 2048) r q := ⟨_, _, eq_ix2 y⟩
  unfold final A0 A1 A2 A3 A4
  rw [V_main_arg0, V_main_arg1, V_main_arg2, V_main_arg3, V_main_arg4]
  unfold Cert.DwdRefIdeal.Value.G5
  pointwise [Cert.DwdRefIdeal.Gen.k0_pay1, Cert.DwdRefIdeal.Gen.k0_pay2, Cert.DwdRefIdeal.Gen.k0_pay3, Cert.DwdRefIdeal.Gen.k0_pay4, Cert.DwdRefIdeal.Gen.k0_pay5]
  rfl

end Cert.DwdIdeal.Hand
end
-- ==== Proof.BwdRunFirst.lean ====
module

public import proofs.«01_k».proof.Proof.Gen.BwdIdeal.Skeleton
public import proofs.«01_k».proof.Proof.Gen.BwdIdeal.Frame

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point. -/
def runFirst (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x2048 .i8) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .i8) (harg9 : arg9.IsWhole) (arg10 : Memref sig .tc .vmem S128x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2048x512 .f32) (harg17 : arg17.IsWhole) (arg18 : Memref sig .tc .vmem S2048x512 .f32) (harg18 : arg18.IsWhole) (h1 : k0_cond1 i = 1#1) (h2 : ¬ k0_cond2 i = 1#1) (h3 : ¬ k0_cond3 i = 1#1)
    (x0 : Vec F S512x2048 .bf16) (x1 : Vec F S512x2048 .bf16) (x2 : Vec F S512x512 .f32) (x3 : Vec F S512x512 .f32) (x4 : Vec F S512x128 .f32) (x5 : Vec F S512x2048 .i8) (x6 : Vec F S128x512 .f32) (x7 : Vec F S128x512 .f32) (x8 : Vec F S128x512 .i8) (x9 : Vec F S128x512 .i8) (x10 : Vec F S1x512 .f32) (x11 : Vec F S1x512 .f32)
    (y0 : Vec F S2048x512 .f32) (y1 : Vec F S2048x512 .f32) (y2 : Vec F S2x512x512 .bf16) (y3 : Vec F S2x512x512 .bf16) (y4 : Vec F S2048x512 .f32) (y5 : Vec F S2048x512 .f32) :
    { p : Vec F S2x512x512 .bf16 × Vec F S2x512x512 .bf16 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y0 ∗ owns (c : Thread nD τ) arg14 fullShare y1 ∗ owns (c : Thread nD τ) arg15 fullShare y2 ∗ owns (c : Thread nD τ) arg16 fullShare y3 ∗ owns (c : Thread nD τ) arg17 fullShare y4 ∗ owns (c : Thread nD τ) arg18 fullShare y5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y0 ∗ owns (c : Thread nD τ) arg14 fullShare y1 ∗ owns (c : Thread nD τ) arg15 fullShare p.1 ∗ owns (c : Thread nD τ) arg16 fullShare p.2 ∗ owns (c : Thread nD τ) arg17 fullShare y4 ∗ owns (c : Thread nD τ) arg18 fullShare y5) -∗ K ⟨⟩))
          ⊢ wp frame (wpE (defs₀ (F := F)) Variants.none c none) E (cc0_bwd_gate_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨(?_, ?_), ?_⟩; rotate_left 2
  · intro E K
    simp only [cc0_bwd_gate_up_eq_skeleton]; unfold cc0_bwd_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; swap; · iexact H14
      ipureintro; rfl
    isplitl [H15]
    · iexists _; isplitr; swap; · iexact H15
      ipureintro; rfl
    isplitl [H16]
    · iexists _; isplitr; · ipureintro; exact harg17.read_unread _
      iexact H16
    iexists _; isplitr; · ipureintro; exact harg18.read_unread _
    iexact H17

end Cert.BwdIdeal.Hand

end
-- ==== Proof.BwdRunMid.lean ====
module

public import proofs.«01_k».proof.Proof.Gen.BwdIdeal.Skeleton
public import proofs.«01_k».proof.Proof.Gen.BwdIdeal.Frame

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that folds one token tile into the products. -/
def runMid (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x2048 .i8) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .i8) (harg9 : arg9.IsWhole) (arg10 : Memref sig .tc .vmem S128x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2048x512 .f32) (harg17 : arg17.IsWhole) (arg18 : Memref sig .tc .vmem S2048x512 .f32) (harg18 : arg18.IsWhole) (h1 : ¬ k0_cond1 i = 1#1) (h2 : k0_cond2 i = 1#1) (h3 : ¬ k0_cond3 i = 1#1)
    (x0 : Vec F S512x2048 .bf16) (x1 : Vec F S512x2048 .bf16) (x2 : Vec F S512x512 .f32) (x3 : Vec F S512x512 .f32) (x4 : Vec F S512x128 .f32) (x5 : Vec F S512x2048 .i8) (x6 : Vec F S128x512 .f32) (x7 : Vec F S128x512 .f32) (x8 : Vec F S128x512 .i8) (x9 : Vec F S128x512 .i8) (x10 : Vec F S1x512 .f32) (x11 : Vec F S1x512 .f32)
    (y0 : Vec F S2048x512 .f32) (y1 : Vec F S2048x512 .f32) (y2 : Vec F S2x512x512 .bf16) (y3 : Vec F S2x512x512 .bf16) (y4 : Vec F S2048x512 .f32) (y5 : Vec F S2048x512 .f32) :
    { p : Vec F S2048x512 .f32 × Vec F S2048x512 .f32 × Vec F S2x512x512 .bf16 × Vec F S2x512x512 .bf16 × Vec F S2048x512 .f32 × Vec F S2048x512 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y0 ∗ owns (c : Thread nD τ) arg14 fullShare y1 ∗ owns (c : Thread nD τ) arg15 fullShare y2 ∗ owns (c : Thread nD τ) arg16 fullShare y3 ∗ owns (c : Thread nD τ) arg17 fullShare y4 ∗ owns (c : Thread nD τ) arg18 fullShare y5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare p.1 ∗ owns (c : Thread nD τ) arg14 fullShare p.2.1 ∗ owns (c : Thread nD τ) arg15 fullShare p.2.2.1 ∗ owns (c : Thread nD τ) arg16 fullShare p.2.2.2.1 ∗ owns (c : Thread nD τ) arg17 fullShare p.2.2.2.2.1 ∗ owns (c : Thread nD τ) arg18 fullShare p.2.2.2.2.2) -∗ K ⟨⟩))
          ⊢ wp frame (wpE (defs₀ (F := F)) Variants.none c none) E (cc0_bwd_gate_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨(?_, ?_, ?_, ?_, ?_, ?_), ?_⟩; rotate_left 6
  · intro E K
    simp only [cc0_bwd_gate_up_eq_skeleton]; unfold cc0_bwd_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    iexists _; isplitr; swap; · iexact H17
    ipureintro; rfl

end Cert.BwdIdeal.Hand

end
-- ==== Proof.BwdRunLast.lean ====
module

public import proofs.«01_k».proof.Proof.Gen.BwdIdeal.Skeleton
public import proofs.«01_k».proof.Proof.Gen.BwdIdeal.Frame

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row at which a step writes its factor tile, in closed form. -/
theorem off9_eq : ∀ i : grid0.Coords, k0_off9 i = ![128 * min (((i 0).val - 1) % 18) 15, 0] := by decide +kernel

instance closedOff9 (i : grid0.Coords) : ClosedOff (k0_off9 i) := ⟨![128 * min (((i 0).val - 1) % 18) 15, 0], off9_eq i⟩

set_option maxHeartbeats 4000000 in
/-- The body at a point that folds the last token tile and scales the products. -/
def runLast (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x2048 .i8) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .i8) (harg9 : arg9.IsWhole) (arg10 : Memref sig .tc .vmem S128x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2048x512 .f32) (harg17 : arg17.IsWhole) (arg18 : Memref sig .tc .vmem S2048x512 .f32) (harg18 : arg18.IsWhole) (h1 : ¬ k0_cond1 i = 1#1) (h2 : ¬ k0_cond2 i = 1#1) (h3 : k0_cond3 i = 1#1)
    (x0 : Vec F S512x2048 .bf16) (x1 : Vec F S512x2048 .bf16) (x2 : Vec F S512x512 .f32) (x3 : Vec F S512x512 .f32) (x4 : Vec F S512x128 .f32) (x5 : Vec F S512x2048 .i8) (x6 : Vec F S128x512 .f32) (x7 : Vec F S128x512 .f32) (x8 : Vec F S128x512 .i8) (x9 : Vec F S128x512 .i8) (x10 : Vec F S1x512 .f32) (x11 : Vec F S1x512 .f32)
    (y0 : Vec F S2048x512 .f32) (y1 : Vec F S2048x512 .f32) (y2 : Vec F S2x512x512 .bf16) (y3 : Vec F S2x512x512 .bf16) (y4 : Vec F S2048x512 .f32) (y5 : Vec F S2048x512 .f32) :
    { p : Vec F S2048x512 .f32 × Vec F S2048x512 .f32 × Vec F S2x512x512 .bf16 × Vec F S2x512x512 .bf16 × Vec F S2048x512 .f32 × Vec F S2048x512 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y0 ∗ owns (c : Thread nD τ) arg14 fullShare y1 ∗ owns (c : Thread nD τ) arg15 fullShare y2 ∗ owns (c : Thread nD τ) arg16 fullShare y3 ∗ owns (c : Thread nD τ) arg17 fullShare y4 ∗ owns (c : Thread nD τ) arg18 fullShare y5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare p.1 ∗ owns (c : Thread nD τ) arg14 fullShare p.2.1 ∗ owns (c : Thread nD τ) arg15 fullShare p.2.2.1 ∗ owns (c : Thread nD τ) arg16 fullShare p.2.2.2.1 ∗ owns (c : Thread nD τ) arg17 fullShare p.2.2.2.2.1 ∗ owns (c : Thread nD τ) arg18 fullShare p.2.2.2.2.2) -∗ K ⟨⟩))
          ⊢ wp frame (wpE (defs₀ (F := F)) Variants.none c none) E (cc0_bwd_gate_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨(?_, ?_, ?_, ?_, ?_, ?_), ?_⟩; rotate_left 6
  · intro E K
    simp only [cc0_bwd_gate_up_eq_skeleton]; unfold cc0_bwd_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    iexists _; isplitr; swap; · iexact H17
    ipureintro; rfl

end Cert.BwdIdeal.Hand

end
-- ==== Proof.BwdFree.lean ====
/- The frame: from any memory the call ends, leaves its arguments unchanged and its counters at zero. Nothing is said here of
   what the outputs hold. -/
module

public import proofs.«01_k».proof.Proof.Gen.BwdIdeal.Skeleton
public import proofs.«01_k».proof.Proof.Gen.BwdIdeal.Frame
public import proofs.«01_k».proof.Proof.BwdRunFirst
public import proofs.«01_k».proof.Proof.BwdRunMid
public import proofs.«01_k».proof.Proof.BwdRunLast
public import Idealize.ShloMosaic.Lib.Claim
public import Idealize.ShloMosaic.Lib.Pipeline.FrameBody

@[expose] public section

set_option maxRecDepth 16384

noncomputable section

namespace Cert.BwdIdeal.Free

open Cert.BwdIdeal Cert.BwdIdeal.Gen Cert.BwdIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S2x512x512 .bf16 := Memref.whole cc0_scratch0
abbrev scM0_1 : Memref sig .tc .vmem S2x512x512 .bf16 := Memref.whole cc0_scratch1
abbrev scM0_2 : Memref sig .tc .vmem S2048x512 .f32 := Memref.whole cc0_scratch2
abbrev scM0_3 : Memref sig .tc .vmem S2048x512 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val % 18 ≠ 0 :=
  (by decide +kernel : ∀ t : Fin grid0.N, k0_cond2 (grid0.coords t) = 1#1 ↔ t.val % 18 ≠ 0)
theorem cond3_iff : ∀ t : Fin cfg0.N, k0_cond3 (grid0.coords t) = 1#1 ↔ t.val ≠ 0 ∧ t.val % 18 = 0 :=
  (by decide +kernel : ∀ t : Fin grid0.N, k0_cond3 (grid0.coords t) = 1#1 ↔ t.val ≠ 0 ∧ t.val % 18 = 0)

/-- The output windows, of which nothing is named. -/
def forgets0 : Fin 14 → Bool := fun w => decide (12 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after0_6]
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after0_7]
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after0_8]
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after0_9]
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem leaves0_10 (c : Dev nD) (t : Fin cfg0.N) : (dats m 0 c).leavesExact 10 t = owns (c : Thread nD τ) (st0_10 t) fullShare (iblk m c 10 t) := by
  unfold Dat.leavesExact; rw [show cfg0.idle 10 (grid0.coords t) = false from rfl, after0_10]
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
theorem leaves0_11 (c : Dev nD) (t : Fin cfg0.N) : (dats m 0 c).leavesExact 11 t = owns (c : Thread nD τ) (st0_11 t) fullShare (iblk m c 11 t) := by
  unfold Dat.leavesExact; rw [show cfg0.idle 11 (grid0.coords t) = false from rfl, after0_11]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare d)
    ∗ (∃ d, owns (c : Thread nD τ) (st0_13 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (st0_12 t) fullShare d)
    ∗ (∃ d, owns (c : Thread nD τ) (st0_13 t) fullShare d))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  have hN : t.val < 199 := lt_of_lt_of_eq t.isLt N_0
  by_cases h1 : t.val % 18 = 0
  · by_cases h0 : t.val = 0
    · iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runFirst (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (Memref.isWhole_whole _) _ (Memref.isWhole_whole _) _ (Memref.isWhole_whole _) _ (Memref.isWhole_whole _) ((cond1_iff t).mpr h0) (fun h => (cond2_iff t).mp h h1) (fun h => ((cond3_iff t).mp h).1 h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d12 d13 s0 s1 s2 s3).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [S0]; · iexact S0
      isplitl [S1]; · iexact S1
      isplitl [S2]; · iexact S2
      isplitl [S3]; · iexact S3
      iintro ⟨H0, H1, H2, H3, H4, H5, H6, H7, H8, H9, H10, H11, H12, H13, S0, S1, S2, S3⟩
      isplitl [S0 S1 S2 S3 Hg]
      · isplitl [S0 S1 S2 S3]
        · isplitl [S0]; · iexists _; iexact S0
          isplitl [S1]; · iexists _; iexact S1
          isplitl [S2]; · iexists _; iexact S2
          iexists _; iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iexists _; iexact H13
    · iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runLast (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (Memref.isWhole_whole _) _ (Memref.isWhole_whole _) _ (Memref.isWhole_whole _) _ (Memref.isWhole_whole _) (fun h => h0 ((cond1_iff t).mp h)) (fun h => (cond2_iff t).mp h h1) ((cond3_iff t).mpr ⟨h0, h1⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d12 d13 s0 s1 s2 s3).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [S0]; · iexact S0
      isplitl [S1]; · iexact S1
      isplitl [S2]; · iexact S2
      isplitl [S3]; · iexact S3
      iintro ⟨H0, H1, H2, H3, H4, H5, H6, H7, H8, H9, H10, H11, H12, H13, S0, S1, S2, S3⟩
      isplitl [S0 S1 S2 S3 Hg]
      · isplitl [S0 S1 S2 S3]
        · isplitl [S0]; · iexists _; iexact S0
          isplitl [S1]; · iexists _; iexact S1
          isplitl [S2]; · iexists _; iexact S2
          iexists _; iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iexists _; iexact H13
  · iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runMid (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (Memref.isWhole_whole _) _ (Memref.isWhole_whole _) _ (Memref.isWhole_whole _) _ (Memref.isWhole_whole _) (fun h => h1 (by have := (cond1_iff t).mp h; omega)) ((cond2_iff t).mpr h1) (fun h => h1 ((cond3_iff t).mp h).2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d12 d13 s0 s1 s2 s3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    iintro ⟨H0, H1, H2, H3, H4, H5, H6, H7, H8, H9, H10, H11, H12, H13, S0, S1, S2, S3⟩
    isplitl [S0 S1 S2 S3 Hg]
    · isplitl [S0 S1 S2 S3]
      · isplitl [S0]; · iexists _; iexact S0
        isplitl [S1]; · iexists _; iexact S1
        isplitl [S2]; · iexists _; iexact S2
        iexists _; iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iexists _; iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call runs from any memory, leaves its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h' => ⟨fun c => have h := h'.1
    ⟨(Pipeline.RDat.FramePost.arr_in (cfg₁ := cfgs 0) h c 0 rfl).trans ((A_eq m c 0).trans (V_main_arg0 m c)),
      (Pipeline.RDat.FramePost.arr_in (cfg₁ := cfgs 0) h c 1 rfl).trans ((A_eq m c 1).trans (V_main_arg1 m c)),
      (Pipeline.RDat.FramePost.arr_in (cfg₁ := cfgs 0) h c 2 rfl).trans ((A_eq m c 2).trans (V_main_arg2 m c)),
      (Pipeline.RDat.FramePost.arr_in (cfg₁ := cfgs 0) h c 3 rfl).trans ((A_eq m c 3).trans (V_main_arg3 m c)),
      ((h c).2 main_arg4 (Pipeline.mem_restRefs_of main_arg4 (by decide) (by decide))).trans (V_main_arg4 m c),
      (Pipeline.RDat.FramePost.arr_in (cfg₁ := cfgs 0) h c 5 rfl).trans ((A_eq m c 5).trans (V_main_arg5 m c)),
      (Pipeline.RDat.FramePost.arr_in (cfg₁ := cfgs 0) h c 6 rfl).trans ((A_eq m c 6).trans (V_main_arg6 m c)),
      (Pipeline.RDat.FramePost.arr_in (cfg₁ := cfgs 0) h c 7 rfl).trans ((A_eq m c 7).trans (V_main_arg7 m c)),
      (Pipeline.RDat.FramePost.arr_in (cfg₁ := cfgs 0) h c 8 rfl).trans ((A_eq m c 8).trans (V_main_arg8 m c)),
      (Pipeline.RDat.FramePost.arr_in (cfg₁ := cfgs 0) h c 9 rfl).trans ((A_eq m c 9).trans (V_main_arg9 m c)),
      (Pipeline.RDat.FramePost.arr_in (cfg₁ := cfgs 0) h c 10 rfl).trans ((A_eq m c 10).trans (V_main_arg10 m c)),
      (Pipeline.RDat.FramePost.arr_in (cfg₁ := cfgs 0) h c 11 rfl).trans ((A_eq m c 11).trans (V_main_arg11 m c))⟩, h'.2⟩) (run_main_quiescent m ρ)

end Cert.BwdIdeal.Free
end
-- ==== Proof.BwdFrame.lean ====
/- The frame of the program as printed: its body is the idealised one, so the frame carries over. -/
module

public import proofs.«01_k».proof.Proof.Gen.Bwd.Frame
public import proofs.«01_k».proof.Proof.BwdFree

@[expose] public section

set_option maxRecDepth 16384

noncomputable section

namespace Cert.Bwd.Hand

open Idealize.SL Idealize.SL.Sem Idealize.ShloMosaic Idealize.ShloMosaic.TcCoe
open Cert.Bwd

variable {F : FTy → Type} [FloatOps F]
variable [h1 : Cert.Bwd.Facts] [h2 : Cert.BwdIdeal.Facts]

/-- The two bodies are the same term. -/
theorem body_eq : @Cert.Bwd.cc0_bwd_gate_up F _ _ = @Cert.BwdIdeal.cc0_bwd_gate_up F _ _ := by with_unfolding_all rfl

set_option maxHeartbeats 8000000 in
theorem defs₀_eq : Cert.Bwd.defs₀ (F := F) = Cert.BwdIdeal.defs₀ (F := F) := by
  unfold Cert.Bwd.defs₀ Cert.BwdIdeal.defs₀
  congr 1
  funext l a
  obtain ⟨l, hl⟩ := l
  obtain rfl : l = 0 := by have : l < 1 := hl; omega
  obtain ⟨t, s⟩ := a
  exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq (Cert.BwdIdeal.grid0.coords t)) _) _) _) _) _) _) _) _) _) _) _) _) _) _) _) _) _) _) _) _) _) _) _) _) _) _) _) _) _) _) _) _) _) _) _) _

theorem defs_eq : Cert.Bwd.defs (F := F) = Cert.BwdIdeal.defs (F := F) :=
  congrArg (Pipeline.defs Cert.BwdIdeal.pcfgs) defs₀_eq

/-- The program runs, leaves its arguments unchanged and its counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11))
      ∧ r.2.sem = fun _ => 0) := by
  rw [defs_eq]
  exact Cert.BwdIdeal.Free.frame m ρ

end Cert.Bwd.Hand
end
-- ==== Proof.BwdRefValue.lean ====
module

public import proofs.«01_k».proof.Proof.Gen.BwdRefIdeal.Frame
public import Idealize.ShloMosaic.Lib.Pipeline.Value

@[expose] public section

noncomputable section

namespace Cert.BwdRefIdeal.Hand

open Cert.BwdRefIdeal Cert.BwdRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What the run leaves in the result arrays and in the arguments. -/
theorem post12 (r : PUnit × MemSt nD τ sig (Elt F)) (h : Pipeline.FramePost cfgs (dats m) 0 (V m) r) (c : Dev nD) :
    r.2.mem ((c : Thread nD τ).loc main_v0_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_1) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S9216x2048.Idx) : ((cfg0.win 0).blk t).view.emb j = j := by
  obtain ⟨e0, e1⟩ := idx_zero0 t
  funext a; apply Fin.ext
  match a with
  | ⟨0, _⟩ => show win0_0.index t (0 : Fin 2) * 9216 + 1 * (j 0).val = (j 0).val; omega
  | ⟨1, _⟩ => show win0_0.index t (1 : Fin 2) * 2048 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S5632x2048.Idx) : ((cfg0.win 1).blk t).view.emb j = j := by
  obtain ⟨e0, e1⟩ := idx_zero1 t
  funext a; apply Fin.ext
  match a with
  | ⟨0, _⟩ => show win0_1.index t (0 : Fin 2) * 5632 + 1 * (j 0).val = (j 0).val; omega
  | ⟨1, _⟩ => show win0_1.index t (1 : Fin 2) * 2048 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S9216x5632.Idx) : ((cfg0.win 2).blk t).view.emb j = j := by
  obtain ⟨e0, e1⟩ := idx_zero2 t
  funext a; apply Fin.ext
  match a with
  | ⟨0, _⟩ => show win0_2.index t (0 : Fin 2) * 9216 + 1 * (j 0).val = (j 0).val; omega
  | ⟨1, _⟩ => show win0_2.index t (1 : Fin 2) * 5632 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S9216x5632.Idx) : ((cfg0.win 3).blk t).view.emb j = j := by
  obtain ⟨e0, e1⟩ := idx_zero3 t
  funext a; apply Fin.ext
  match a with
  | ⟨0, _⟩ => show win0_3.index t (0 : Fin 2) * 9216 + 1 * (j 0).val = (j 0).val; omega
  | ⟨1, _⟩ => show win0_3.index t (1 : Fin 2) * 5632 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S9216x1.Idx) : ((cfg0.win 4).blk t).view.emb j = j := by
  obtain ⟨e0, e1⟩ := idx_zero4 t
  funext a; apply Fin.ext
  match a with
  | ⟨0, _⟩ => show win0_4.index t (0 : Fin 2) * 9216 + 1 * (j 0).val = (j 0).val; omega
  | ⟨1, _⟩ => show win0_4.index t (1 : Fin 2) * 1 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S9216x2048.Idx) : ((cfg0.win 5).blk t).view.emb j = j := by
  obtain ⟨e0, e1⟩ := idx_zero5 t
  funext a; apply Fin.ext
  match a with
  | ⟨0, _⟩ => show win0_5.index t (0 : Fin 2) * 9216 + 1 * (j 0).val = (j 0).val; omega
  | ⟨1, _⟩ => show win0_5.index t (1 : Fin 2) * 2048 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S2048x5632.Idx) : ((cfg0.win 6).blk t).view.emb j = j := by
  obtain ⟨e0, e1⟩ := idx_zero6 t
  funext a; apply Fin.ext
  match a with
  | ⟨0, _⟩ => show win0_6.index t (0 : Fin 2) * 2048 + 1 * (j 0).val = (j 0).val; omega
  | ⟨1, _⟩ => show win0_6.index t (1 : Fin 2) * 5632 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S2048x5632.Idx) : ((cfg0.win 7).blk t).view.emb j = j := by
  obtain ⟨e0, e1⟩ := idx_zero7 t
  funext a; apply Fin.ext
  match a with
  | ⟨0, _⟩ => show win0_7.index t (0 : Fin 2) * 2048 + 1 * (j 0).val = (j 0).val; omega
  | ⟨1, _⟩ => show win0_7.index t (1 : Fin 2) * 5632 + 1 * (j 1).val = (j 1).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S2048x5632.Idx) : ((cfg0.win 8).blk t).view.emb j = j := by
  obtain ⟨e0, e1⟩ := idx_zero8 t
  funext a; apply Fin.ext
  match a with
  | ⟨0, _⟩ => show win0_8.index t (0 : Fin 2) * 2048 + 1 * (j 0).val = (j 0).val; omega
  | ⟨1, _⟩ => show win0_8.index t (1 : Fin 2) * 5632 + 1 * (j 1).val = (j 1).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S2048x5632.Idx) : ((cfg0.win 9).blk t).view.emb j = j := by
  obtain ⟨e0, e1⟩ := idx_zero9 t
  funext a; apply Fin.ext
  match a with
  | ⟨0, _⟩ => show win0_9.index t (0 : Fin 2) * 2048 + 1 * (j 0).val = (j 0).val; omega
  | ⟨1, _⟩ => show win0_9.index t (1 : Fin 2) * 5632 + 1 * (j 1).val = (j 1).val; omega

/-- Input window 9's block at the point is its array as the region finds it. -/
theorem iblk9_eq (c : Dev nD) (t : Fin cfg0.N) : iblk m c 9 t = V m c main_arg9 := by
  funext j; show V m c main_arg9 (((cfg0.win 9).blk t).view.emb j) = V m c main_arg9 j; rw [emb9]

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S1x5632.Idx) : ((cfg0.win 10).blk t).view.emb j = j := by
  obtain ⟨e0, e1⟩ := idx_zero10 t
  funext a; apply Fin.ext
  match a with
  | ⟨0, _⟩ => show win0_10.index t (0 : Fin 2) * 1 + 1 * (j 0).val = (j 0).val; omega
  | ⟨1, _⟩ => show win0_10.index t (1 : Fin 2) * 5632 + 1 * (j 1).val = (j 1).val; omega

/-- Input window 10's block at the point is its array as the region finds it. -/
theorem iblk10_eq (c : Dev nD) (t : Fin cfg0.N) : iblk m c 10 t = V m c main_arg10 := by
  funext j; show V m c main_arg10 (((cfg0.win 10).blk t).view.emb j) = V m c main_arg10 j; rw [emb10]

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S1x5632.Idx) : ((cfg0.win 11).blk t).view.emb j = j := by
  obtain ⟨e0, e1⟩ := idx_zero11 t
  funext a; apply Fin.ext
  match a with
  | ⟨0, _⟩ => show win0_11.index t (0 : Fin 2) * 1 + 1 * (j 0).val = (j 0).val; omega
  | ⟨1, _⟩ => show win0_11.index t (1 : Fin 2) * 5632 + 1 * (j 1).val = (j 1).val; omega

/-- Input window 11's block at the point is its array as the region finds it. -/
theorem iblk11_eq (c : Dev nD) (t : Fin cfg0.N) : iblk m c 11 t = V m c main_arg11 := by
  funext j; show V m c main_arg11 (((cfg0.win 11).blk t).view.emb j) = V m c main_arg11 j; rw [emb11]

theorem hz12 : (![0, 0] : Fin 2 → Nat) = fun _ => 0 := funext fun a => by fin_cases a <;> rfl

/-- Window 12's block index at the one point is zero on every axis. -/
theorem idx_zero12 : ∀ t : Fin cfg0.N, win0_12.index t (0 : Fin 2) = 0 ∧ win0_12.index t (1 : Fin 2) = 0 :=
  (by decide +kernel : ∀ t : Fin grid0.N, _)

/-- An index of window 12's block is the same index of its array. -/
theorem emb12 (t : Fin cfg0.N) (j : S2048x5632.Idx) : ((cfg0.win 12).blk t).view.emb j = j := by
  obtain ⟨e0, e1⟩ := idx_zero12 t
  funext a; apply Fin.ext
  match a with
  | ⟨0, _⟩ => show win0_12.index t (0 : Fin 2) * 2048 + 1 * (j 0).val = (j 0).val; omega
  | ⟨1, _⟩ => show win0_12.index t (1 : Fin 2) * 5632 + 1 * (j 1).val = (j 1).val; omega

theorem hz13 : (![0, 0] : Fin 2 → Nat) = fun _ => 0 := funext fun a => by fin_cases a <;> rfl

/-- Window 13's block index at the one point is zero on every axis. -/
theorem idx_zero13 : ∀ t : Fin cfg0.N, win0_13.index t (0 : Fin 2) = 0 ∧ win0_13.index t (1 : Fin 2) = 0 :=
  (by decide +kernel : ∀ t : Fin grid0.N, _)

/-- An index of window 13's block is the same index of its array. -/
theorem emb13 (t : Fin cfg0.N) (j : S2048x5632.Idx) : ((cfg0.win 13).blk t).view.emb j = j := by
  obtain ⟨e0, e1⟩ := idx_zero13 t
  funext a; apply Fin.ext
  match a with
  | ⟨0, _⟩ => show win0_13.index t (0 : Fin 2) * 2048 + 1 * (j 0).val = (j 0).val; omega
  | ⟨1, _⟩ => show win0_13.index t (1 : Fin 2) * 5632 + 1 * (j 1).val = (j 1).val; omega

/-! ### Output window 12: the array after the run -/

/-- What the window's array ends holding: `out0_12` applied to the argument arrays in place of the input blocks (a value that the
    frame states apart, `kK_payN a…`, keeps its loads inside its own definition). -/
abbrev G12 (a0 : Vec F S9216x2048 .bf16) (a1 : Vec F S5632x2048 .bf16) (a2 : Vec F S9216x5632 .f32) (a3 : Vec F S9216x5632 .f32) (a4 : Vec F S9216x1 .f32) (a5 : Vec F S9216x2048 .i8) (a6 : Vec F S2048x5632 .f32) (a7 : Vec F S2048x5632 .f32) (a8 : Vec F S2048x5632 .i8) (a9 : Vec F S2048x5632 .i8) (a10 : Vec F S1x5632 .f32) (a11 : Vec F S1x5632 .f32) : Vec F S2048x5632 .f32 :=
  k0_pay9 a6 a8 (k0_pay6 a0 a1 a2 a3 a4 a5 a10)

/-- A load of the whole of a block reads the block, and the one store through the whole rectangle leaves its payload. -/
theorem out12_eq (a0 : Vec F S9216x2048 .bf16) (a1 : Vec F S5632x2048 .bf16) (a2 : Vec F S9216x5632 .f32) (a3 : Vec F S9216x5632 .f32) (a4 : Vec F S9216x1 .f32) (a5 : Vec F S9216x2048 .i8) (a6 : Vec F S2048x5632 .f32) (a7 : Vec F S2048x5632 .f32) (a8 : Vec F S2048x5632 .i8) (a9 : Vec F S2048x5632 .i8) (a10 : Vec F S1x5632 .f32) (a11 : Vec F S1x5632 .f32) : out0_12 (F := F) a0 a1 a2 a3 a4 a5 a6 a7 a8 a9 a10 a11 = G12 a0 a1 a2 a3 a4 a5 a6 a7 a8 a9 a10 a11 := by
  unfold out0_12
  rw [View.canon_unit_zero hz12, View.ld_unit_zero (S := S2048x5632) hz6 _ a6, View.ld_unit_zero (S := S2048x5632) hz8 _ a8, View.ld_unit_zero (S := S9216x2048) hz0 _ a0, View.ld_unit_zero (S := S5632x2048) hz1 _ a1, View.ld_unit_zero (S := S9216x5632) hz2 _ a2, View.ld_unit_zero (S := S9216x5632) hz3 _ a3, View.ld_unit_zero (S := S9216x1) hz4 _ a4, View.ld_unit_zero (S := S9216x2048) hz5 _ a5, View.ld_unit_zero (S := S1x5632) hz10 _ a10]

/-- Cutting the point's block out of `X` and reading `X` through the block's view give the same. -/
theorem cut12_eq (t : Fin cfg0.N) (X : Vec F S2048x5632 .f32) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq, iblk9_eq, iblk10_eq, iblk11_eq]
  exact cut12_eq t _

/-- Every index of the array is in the point's block. -/
theorem covered12 (i : S2048x5632.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 12 (G12 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed12_eq m c t) covered12).trans (by rw [V_main_arg0, V_main_arg1, V_main_arg2, V_main_arg3, V_main_arg4, V_main_arg5, V_main_arg6, V_main_arg7, V_main_arg8, V_main_arg9, V_main_arg10, V_main_arg11])

/-! ### Output window 13: the array after the run -/

/-- What the window's array ends holding: `out0_13` applied to the argument arrays in place of the input blocks (a value that the
    frame states apart, `kK_payN a…`, keeps its loads inside its own definition). -/
abbrev G13 (a0 : Vec F S9216x2048 .bf16) (a1 : Vec F S5632x2048 .bf16) (a2 : Vec F S9216x5632 .f32) (a3 : Vec F S9216x5632 .f32) (a4 : Vec F S9216x1 .f32) (a5 : Vec F S9216x2048 .i8) (a6 : Vec F S2048x5632 .f32) (a7 : Vec F S2048x5632 .f32) (a8 : Vec F S2048x5632 .i8) (a9 : Vec F S2048x5632 .i8) (a10 : Vec F S1x5632 .f32) (a11 : Vec F S1x5632 .f32) : Vec F S2048x5632 .f32 :=
  k0_pay1 (k0_pay8 a11 (k0_pay2 a5) (k0_pay5 a0 a1 a2) (k0_pay7 a4)) (k0_pay10 a7) (k0_pay11 a7) (k0_pay12 a9) (k0_pay13 a7) (k0_pay14 (F := F))

/-- A load of the whole of a block reads the block, and the one store through the whole rectangle leaves its payload. -/
theorem out13_eq (a0 : Vec F S9216x2048 .bf16) (a1 : Vec F S5632x2048 .bf16) (a2 : Vec F S9216x5632 .f32) (a3 : Vec F S9216x5632 .f32) (a4 : Vec F S9216x1 .f32) (a5 : Vec F S9216x2048 .i8) (a6 : Vec F S2048x5632 .f32) (a7 : Vec F S2048x5632 .f32) (a8 : Vec F S2048x5632 .i8) (a9 : Vec F S2048x5632 .i8) (a10 : Vec F S1x5632 .f32) (a11 : Vec F S1x5632 .f32) : out0_13 (F := F) a0 a1 a2 a3 a4 a5 a6 a7 a8 a9 a10 a11 = G13 a0 a1 a2 a3 a4 a5 a6 a7 a8 a9 a10 a11 := by
  unfold out0_13
  rw [View.canon_unit_zero hz13, View.ld_unit_zero (S := S1x5632) hz11 _ a11, View.ld_unit_zero (S := S9216x2048) hz5 _ a5, View.ld_unit_zero (S := S9216x2048) hz0 _ a0, View.ld_unit_zero (S := S5632x2048) hz1 _ a1, View.ld_unit_zero (S := S9216x5632) hz2 _ a2, View.ld_unit_zero (S := S9216x1) hz4 _ a4, View.ld_unit_zero (S := S2048x5632) hz7 _ a7, View.ld_unit_zero (S := S2048x5632) hz9 _ a9]

/-- Cutting the point's block out of `X` and reading `X` through the block's view give the same. -/
theorem cut13_eq (t : Fin cfg0.N) (X : Vec F S2048x5632 .f32) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq, iblk8_eq, iblk9_eq, iblk10_eq, iblk11_eq]
  exact cut13_eq t _

/-- Every index of the array is in the point's block. -/
theorem covered13 (i : S2048x5632.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 13 (G13 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed13_eq m c t) covered13).trans (by rw [V_main_arg0, V_main_arg1, V_main_arg2, V_main_arg3, V_main_arg4, V_main_arg5, V_main_arg6, V_main_arg7, V_main_arg8, V_main_arg9, V_main_arg10, V_main_arg11])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_1) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(post12 m r h c).trans (final12 m c),
      (post13 m r h c).trans (final13 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.BwdRefIdeal.Hand

end
-- ==== Proof.BwdTile.lean ====
module

public import proofs.«01_k».proof.Proof.Gen.BwdIdeal.Skeleton
public import proofs.«01_k».proof.Proof.Gen.BwdIdeal.Frame
public import proofs.«01_k».proof.Proof.Scalars
public import Idealize.ShloMosaic.Lib.Pipeline.ValueKit
public import Idealize.ShloMosaic.Lib.Pointwise
public import Idealize.ShloMosaic.Lib.VecWindow

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.Sem
open Idealize.ShloMosaic.Rounds
open Idealize.ShloMosaic.Pipeline (Dat Cfg Window BodyObligation cellOf)

/-- Repeating a column block of equal entries along a row gives that entry everywhere. -/
theorem scale_at (v22 : Vec Ideal S256x128 .f32) (r : Fin 256) (q : Fin 512) (s : EReal) (hs : ∀ k, v22 (ix2 r k) = s) :
    k0_pay1 v22 (ix2 r q) = s := by
  unfold k0_pay1
  pointwise []
  split
  · exact hs _
  split
  · exact hs _
  split
  · exact hs _
  · exact hs _

/-- The gate gradient of a tile's row. First half. -/
theorem dgFirst_lo (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay12 v17 v18 v20 v21 v22 (ix3 0 r q) = Scalars.dGate (∑ l : Fin 2048, v17 (ix2 r l) * v18 (ix2 q l)) (v20 (ix2 r q)) (v21 (ix2 r q)) s := by
  have hc := scale_at v22 r q s hs
  pointwise [k0_pay12, k0_pay9, k0_pay11]
  exact congrArg (fun z => _ * z) (show k0_pay10 v22 (ix2 r q) = s from hc)

/-- The up gradient of a tile's row. First half. -/
theorem duFirst_lo (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay13 v17 v18 v20 v22 (ix3 0 r q) = Scalars.dUp (∑ l : Fin 2048, v17 (ix2 r l) * v18 (ix2 q l)) (v20 (ix2 r q)) s := by
  have hc := scale_at v22 r q s hs
  pointwise [k0_pay13, k0_pay9, k0_pay11]
  exact congrArg (fun z => _ * z) (show k0_pay10 v22 (ix2 r q) = s from hc)

/-- The gate gradient of a tile's row. Second half. -/
theorem dgFirst_hi (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay3 (k0_pay14 v17 v18) v20 v21 v22 (ix3 0 r q) = Scalars.dGate (∑ l : Fin 2048, v17 (ix2 r l) * v18 (ix2 q l)) (v20 (ix2 r q)) (v21 (ix2 r q)) s := by
  have hc := scale_at v22 r q s hs
  pointwise [k0_pay3, k0_pay14, k0_pay2]
  exact congrArg (fun z => _ * z) (show k0_pay1 v22 (ix2 r q) = s from hc)

/-- The up gradient of a tile's row. Second half. -/
theorem duFirst_hi (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay4 (k0_pay14 v17 v18) v20 v22 (ix3 0 r q) = Scalars.dUp (∑ l : Fin 2048, v17 (ix2 r l) * v18 (ix2 q l)) (v20 (ix2 r q)) s := by
  have hc := scale_at v22 r q s hs
  pointwise [k0_pay4, k0_pay14, k0_pay2]
  exact congrArg (fun z => _ * z) (show k0_pay1 v22 (ix2 r q) = s from hc)

/-- The gate gradient of a tile's row. First half. -/
theorem dgMid_lo (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay18 v17 v18 v20 v21 v22 (ix3 0 r q) = Scalars.dGate (∑ l : Fin 2048, v17 (ix2 r l) * v18 (ix2 q l)) (v20 (ix2 r q)) (v21 (ix2 r q)) s := by
  have hc := scale_at v22 r q s hs
  pointwise [k0_pay18, k0_pay15, k0_pay17]
  exact congrArg (fun z => _ * z) (show k0_pay16 v22 (ix2 r q) = s from hc)

/-- The up gradient of a tile's row. First half. -/
theorem duMid_lo (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay19 v17 v18 v20 v22 (ix3 0 r q) = Scalars.dUp (∑ l : Fin 2048, v17 (ix2 r l) * v18 (ix2 q l)) (v20 (ix2 r q)) s := by
  have hc := scale_at v22 r q s hs
  pointwise [k0_pay19, k0_pay15, k0_pay17]
  exact congrArg (fun z => _ * z) (show k0_pay16 v22 (ix2 r q) = s from hc)

/-- The gate gradient of a tile's row. Second half. -/
theorem dgMid_hi (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay23 (k0_pay20 v17 v18) v20 v21 v22 (ix3 0 r q) = Scalars.dGate (∑ l : Fin 2048, v17 (ix2 r l) * v18 (ix2 q l)) (v20 (ix2 r q)) (v21 (ix2 r q)) s := by
  have hc := scale_at v22 r q s hs
  pointwise [k0_pay23, k0_pay20, k0_pay22]
  exact congrArg (fun z => _ * z) (show k0_pay21 v22 (ix2 r q) = s from hc)

/-- The up gradient of a tile's row. Second half. -/
theorem duMid_hi (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay24 (k0_pay20 v17 v18) v20 v22 (ix3 0 r q) = Scalars.dUp (∑ l : Fin 2048, v17 (ix2 r l) * v18 (ix2 q l)) (v20 (ix2 r q)) s := by
  have hc := scale_at v22 r q s hs
  pointwise [k0_pay24, k0_pay20, k0_pay22]
  exact congrArg (fun z => _ * z) (show k0_pay21 v22 (ix2 r q) = s from hc)

/-- The gate gradient of a tile's row. First half. -/
theorem dgLast_lo (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay40 v17 v18 v20 v21 v22 (ix3 0 r q) = Scalars.dGate (∑ l : Fin 2048, v17 (ix2 r l) * v18 (ix2 q l)) (v20 (ix2 r q)) (v21 (ix2 r q)) s := by
  have hc := scale_at v22 r q s hs
  pointwise [k0_pay40, k0_pay37, k0_pay39]
  exact congrArg (fun z => _ * z) (show k0_pay38 v22 (ix2 r q) = s from hc)

/-- The up gradient of a tile's row. First half. -/
theorem duLast_lo (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay41 v17 v18 v20 v22 (ix3 0 r q) = Scalars.dUp (∑ l : Fin 2048, v17 (ix2 r l) * v18 (ix2 q l)) (v20 (ix2 r q)) s := by
  have hc := scale_at v22 r q s hs
  pointwise [k0_pay41, k0_pay37, k0_pay39]
  exact congrArg (fun z => _ * z) (show k0_pay38 v22 (ix2 r q) = s from hc)

/-- The gate gradient of a tile's row. Second half. -/
theorem dgLast_hi (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay45 (k0_pay42 v17 v18) v20 v21 v22 (ix3 0 r q) = Scalars.dGate (∑ l : Fin 2048, v17 (ix2 r l) * v18 (ix2 q l)) (v20 (ix2 r q)) (v21 (ix2 r q)) s := by
  have hc := scale_at v22 r q s hs
  pointwise [k0_pay45, k0_pay42, k0_pay44]
  exact congrArg (fun z => _ * z) (show k0_pay43 v22 (ix2 r q) = s from hc)

/-- The up gradient of a tile's row. Second half. -/
theorem duLast_hi (v17 : Vec Ideal S256x2048 .bf16) (v18 : Vec Ideal S512x2048 .bf16) (v20 v21 : Vec Ideal S256x512 .f32) (v22 : Vec Ideal S256x128 .f32) (r : Fin 256) (q : Fin 512) (s : EReal) (hs : ∀ k, v22 (ix2 r k) = s) :
    k0_pay46 (k0_pay42 v17 v18) v20 v22 (ix3 0 r q) = Scalars.dUp (∑ l : Fin 2048, v17 (ix2 r l) * v18 (ix2 q l)) (v20 (ix2 r q)) s := by
  have hc := scale_at v22 r q s hs
  pointwise [k0_pay46, k0_pay42, k0_pay44]
  exact congrArg (fun z => _ * z) (show k0_pay43 v22 (ix2 r q) = s from hc)

/-- The slot a step writes its gradients to, and the first row of each half. -/
theorem off1_eq : ∀ i : grid0.Coords, k0_off1 i = ![(i 0).val % 2, 0, 0] := by decide +kernel
theorem off2_eq : ∀ i : grid0.Coords, k0_off2 i = ![(i 0).val % 2, 256, 0] := by decide +kernel
theorem off3_eq : ∀ i : grid0.Coords, k0_off3 i = ![(i 0).val % 2, 0, 0] := by decide +kernel
theorem off4_eq : ∀ i : grid0.Coords, k0_off4 i = ![(i 0).val % 2, 256, 0] := by decide +kernel
theorem off7_eq : ∀ i : grid0.Coords, k0_off7 i = ![(i 0).val % 2, 0, 0] := by decide +kernel
theorem off8_eq : ∀ i : grid0.Coords, k0_off8 i = ![(i 0).val % 2, 256, 0] := by decide +kernel
/-- The row a step writes its part of the factors to. -/
theorem off5_eq' : ∀ i : grid0.Coords, k0_off5 i = ![128 * min (((i 0).val - 1) % 18) 15, 0] := by decide +kernel
theorem off9_eq' : ∀ i : grid0.Coords, k0_off9 i = ![128 * min (((i 0).val - 1) % 18) 15, 0] := by decide +kernel
/-- The slot a step multiplies: the one it does not write. -/
theorem off6_eq : ∀ i : grid0.Coords, k0_off6 i = ![1 - (i 0).val % 2, 0, 0] := by decide +kernel
theorem off10_eq : ∀ i : grid0.Coords, k0_off10 i = ![1 - (i 0).val % 2, 0, 0] := by decide +kernel

end Cert.BwdIdeal.Hand
end
-- ==== Proof.BwdVal.lean ====
module

public import proofs.«01_k».proof.Proof.Gen.BwdIdeal.Skeleton
public import proofs.«01_k».proof.Proof.Gen.BwdIdeal.Frame
public import proofs.«01_k».proof.Proof.BwdRunFirst
public import proofs.«01_k».proof.Proof.BwdRunMid
public import proofs.«01_k».proof.Proof.BwdRunLast
public import proofs.«01_k».proof.Proof.BwdTile

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.Sem
open Idealize.ShloMosaic.Rounds
open Idealize.ShloMosaic.Pipeline (Dat Cfg Window BodyObligation cellOf)

/-- Reading a block of rows of an array from row `o` on. -/
theorem ld_rows {n m n' : ℕ} {e : EltTy} (x : Vec Ideal ⟨2, ![n, m]⟩ e) (o : ℕ)
    (h : ∀ a, (![o, 0] : Fin 2 → ℕ) a + (⟨2, ![n', m]⟩ : Shape).size a ≤ (⟨2, ![n, m]⟩ : Shape).size a) (r : Fin n') (R : Fin n) (hR : R.val = o + r.val) (k : Fin m) :
    View.ld (Val := Elt Ideal) x (Rect.unit (s := ⟨2, ![n, m]⟩) ![o, 0] (⟨2, ![n', m]⟩ : Shape).size h) (ix2 r k) = x (ix2 R k) := by
  refine congrArg x (funext fun a => Fin.ext ?_)
  match a with
  | ⟨0, _⟩ => exact (show o + 1 * r.val = R.val by omega)
  | ⟨1, _⟩ => exact (show 0 + 1 * k.val = k.val by omega)

variable (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x2048 .i8) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .i8) (harg9 : arg9.IsWhole) (arg10 : Memref sig .tc .vmem S128x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2048x512 .f32) (harg17 : arg17.IsWhole) (arg18 : Memref sig .tc .vmem S2048x512 .f32) (harg18 : arg18.IsWhole)
    (x0 : Vec Ideal S512x2048 .bf16) (x1 : Vec Ideal S512x2048 .bf16) (x2 : Vec Ideal S512x512 .f32) (x3 : Vec Ideal S512x512 .f32) (x4 : Vec Ideal S512x128 .f32) (x5 : Vec Ideal S512x2048 .i8) (x6 : Vec Ideal S128x512 .f32) (x7 : Vec Ideal S128x512 .f32) (x8 : Vec Ideal S128x512 .i8) (x9 : Vec Ideal S128x512 .i8) (x10 : Vec Ideal S1x512 .f32) (x11 : Vec Ideal S1x512 .f32)
    (y0 : Vec Ideal S2048x512 .f32) (y1 : Vec Ideal S2048x512 .f32) (y2 : Vec Ideal S2x512x512 .bf16) (y3 : Vec Ideal S2x512x512 .bf16) (y4 : Vec Ideal S2048x512 .f32) (y5 : Vec Ideal S2048x512 .f32)

set_option maxHeartbeats 1000000 in
/-- The slot a step writes holds its tile's gate gradient. -/
theorem first_dg (h1 : k0_cond1 i = 1#1) (h2 : ¬ k0_cond2 i = 1#1) (h3 : ¬ k0_cond3 i = 1#1) (sl : Fin 2) (hsl : sl.val = (i 0).val % 2) (r : Fin 512) (q : Fin 512) (s : EReal) (hs : ∀ k, x4 (ix2 r k) = s) :
    (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.1 (ix3 sl r q) = Scalars.dGate (∑ l : Fin 2048, x0 (ix2 r l) * x1 (ix2 q l)) (x2 (ix2 r q)) (x3 (ix2 r q)) s := by
  unfold runFirst; dsimp only
  skip
  by_cases hr : 256 ≤ r.val
  · refine (View.read_writes_cons_unit_of_mem _ _ _ _ _ _ (ix3 0 (⟨r.val - 256, by omega⟩ : Fin 256) q) (off2_eq i) (fun a => by match a with | ⟨0, _⟩ => exact hsl | ⟨1, _⟩ => (first | exact (Nat.zero_add _).symm | (show r.val = 256 + (r.val - 256); omega)) | ⟨2, _⟩ => exact (Nat.zero_add _).symm)).trans ?_
    try sl_unfold_words
    simp only [View.readAt_eq_ld, Memref.IsWhole.read_unread]
    refine (dgFirst_hi _ _ _ _ _ (⟨r.val - 256, by omega⟩ : Fin 256) q s (fun k => (ld_rows x4 256 _ _ r (by show r.val = 256 + (r.val - 256); omega) k).trans (hs k))).trans ?_
    simp only [ld_rows x0 256 _ (⟨r.val - 256, by omega⟩ : Fin 256) r (by show r.val = 256 + (r.val - 256); omega), ld_rows x1 0 _ q q (Nat.zero_add _).symm, ld_rows x2 256 _ (⟨r.val - 256, by omega⟩ : Fin 256) r (by show r.val = 256 + (r.val - 256); omega), ld_rows x3 256 _ (⟨r.val - 256, by omega⟩ : Fin 256) r (by show r.val = 256 + (r.val - 256); omega)]
  refine (View.read_writes_cons_unit_of_not_mem _ _ _ _ _ _ (off2_eq i) 1 (Or.inl (by show r.val < 256; omega))).trans ?_
  refine (View.read_writes_cons_unit_of_mem _ _ _ _ _ _ (ix3 0 (⟨r.val, by omega⟩ : Fin 256) q) (off1_eq i) (fun a => by match a with | ⟨0, _⟩ => exact hsl | ⟨1, _⟩ => (first | exact (Nat.zero_add _).symm | (show r.val = 256 + (r.val - 256); omega)) | ⟨2, _⟩ => exact (Nat.zero_add _).symm)).trans ?_
  try sl_unfold_words
  simp only [View.readAt_eq_ld, Memref.IsWhole.read_unread]
  refine (dgFirst_lo _ _ _ _ _ (⟨r.val, by omega⟩ : Fin 256) q s (fun k => (ld_rows x4 0 _ _ r (by show r.val = 0 + r.val; omega) k).trans (hs k))).trans ?_
  simp only [ld_rows x0 0 _ (⟨r.val, by omega⟩ : Fin 256) r (by show r.val = 0 + r.val; omega), ld_rows x1 0 _ q q (Nat.zero_add _).symm, ld_rows x2 0 _ (⟨r.val, by omega⟩ : Fin 256) r (by show r.val = 0 + r.val; omega), ld_rows x3 0 _ (⟨r.val, by omega⟩ : Fin 256) r (by show r.val = 0 + r.val; omega)]

set_option maxHeartbeats 1000000 in
/-- The slot a step writes holds its tile's up gradient. -/
theorem first_du (h1 : k0_cond1 i = 1#1) (h2 : ¬ k0_cond2 i = 1#1) (h3 : ¬ k0_cond3 i = 1#1) (sl : Fin 2) (hsl : sl.val = (i 0).val % 2) (r : Fin 512) (q : Fin 512) (s : EReal) (hs : ∀ k, x4 (ix2 r k) = s) :
    (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2 (ix3 sl r q) = Scalars.dUp (∑ l : Fin 2048, x0 (ix2 r l) * x1 (ix2 q l)) (x2 (ix2 r q)) s := by
  unfold runFirst; dsimp only
  skip
  by_cases hr : 256 ≤ r.val
  · refine (View.read_writes_cons_unit_of_mem _ _ _ _ _ _ (ix3 0 (⟨r.val - 256, by omega⟩ : Fin 256) q) (off2_eq i) (fun a => by match a with | ⟨0, _⟩ => exact hsl | ⟨1, _⟩ => (first | exact (Nat.zero_add _).symm | (show r.val = 256 + (r.val - 256); omega)) | ⟨2, _⟩ => exact (Nat.zero_add _).symm)).trans ?_
    try sl_unfold_words
    simp only [View.readAt_eq_ld, Memref.IsWhole.read_unread]
    refine (duFirst_hi _ _ _ (fun _ => 0) _ (⟨r.val - 256, by omega⟩ : Fin 256) q s (fun k => (ld_rows x4 256 _ _ r (by show r.val = 256 + (r.val - 256); omega) k).trans (hs k))).trans ?_
    simp only [ld_rows x0 256 _ (⟨r.val - 256, by omega⟩ : Fin 256) r (by show r.val = 256 + (r.val - 256); omega), ld_rows x1 0 _ q q (Nat.zero_add _).symm, ld_rows x2 256 _ (⟨r.val - 256, by omega⟩ : Fin 256) r (by show r.val = 256 + (r.val - 256); omega)]
  refine (View.read_writes_cons_unit_of_not_mem _ _ _ _ _ _ (off2_eq i) 1 (Or.inl (by show r.val < 256; omega))).trans ?_
  refine (View.read_writes_cons_unit_of_mem _ _ _ _ _ _ (ix3 0 (⟨r.val, by omega⟩ : Fin 256) q) (off1_eq i) (fun a => by match a with | ⟨0, _⟩ => exact hsl | ⟨1, _⟩ => (first | exact (Nat.zero_add _).symm | (show r.val = 256 + (r.val - 256); omega)) | ⟨2, _⟩ => exact (Nat.zero_add _).symm)).trans ?_
  try sl_unfold_words
  simp only [View.readAt_eq_ld, Memref.IsWhole.read_unread]
  refine (duFirst_lo _ _ _ (fun _ => 0) _ (⟨r.val, by omega⟩ : Fin 256) q s (fun k => (ld_rows x4 0 _ _ r (by show r.val = 0 + r.val; omega) k).trans (hs k))).trans ?_
  simp only [ld_rows x0 0 _ (⟨r.val, by omega⟩ : Fin 256) r (by show r.val = 0 + r.val; omega), ld_rows x1 0 _ q q (Nat.zero_add _).symm, ld_rows x2 0 _ (⟨r.val, by omega⟩ : Fin 256) r (by show r.val = 0 + r.val; omega)]

set_option maxHeartbeats 1000000 in
/-- The slot a step writes holds its tile's gate gradient. -/
theorem mid_dg (h1 : ¬ k0_cond1 i = 1#1) (h2 : k0_cond2 i = 1#1) (h3 : ¬ k0_cond3 i = 1#1) (sl : Fin 2) (hsl : sl.val = (i 0).val % 2) (r : Fin 512) (q : Fin 512) (s : EReal) (hs : ∀ k, x4 (ix2 r k) = s) :
    (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.1 (ix3 sl r q) = Scalars.dGate (∑ l : Fin 2048, x0 (ix2 r l) * x1 (ix2 q l)) (x2 (ix2 r q)) (x3 (ix2 r q)) s := by
  unfold runMid; dsimp only
  unfold runMid.sl.H14_2
  by_cases hr : 256 ≤ r.val
  · refine (View.read_writes_cons_unit_of_mem _ _ _ _ _ _ (ix3 0 (⟨r.val - 256, by omega⟩ : Fin 256) q) (off4_eq i) (fun a => by match a with | ⟨0, _⟩ => exact hsl | ⟨1, _⟩ => (first | exact (Nat.zero_add _).symm | (show r.val = 256 + (r.val - 256); omega)) | ⟨2, _⟩ => exact (Nat.zero_add _).symm)).trans ?_
    try sl_unfold_words
    simp only [View.readAt_eq_ld, Memref.IsWhole.read_unread]
    refine (dgMid_hi _ _ _ _ _ (⟨r.val - 256, by omega⟩ : Fin 256) q s (fun k => (ld_rows x4 256 _ _ r (by show r.val = 256 + (r.val - 256); omega) k).trans (hs k))).trans ?_
    simp only [ld_rows x0 256 _ (⟨r.val - 256, by omega⟩ : Fin 256) r (by show r.val = 256 + (r.val - 256); omega), ld_rows x1 0 _ q q (Nat.zero_add _).symm, ld_rows x2 256 _ (⟨r.val - 256, by omega⟩ : Fin 256) r (by show r.val = 256 + (r.val - 256); omega), ld_rows x3 256 _ (⟨r.val - 256, by omega⟩ : Fin 256) r (by show r.val = 256 + (r.val - 256); omega)]
  refine (View.read_writes_cons_unit_of_not_mem _ _ _ _ _ _ (off4_eq i) 1 (Or.inl (by show r.val < 256; omega))).trans ?_
  refine (View.read_writes_cons_unit_of_mem _ _ _ _ _ _ (ix3 0 (⟨r.val, by omega⟩ : Fin 256) q) (off3_eq i) (fun a => by match a with | ⟨0, _⟩ => exact hsl | ⟨1, _⟩ => (first | exact (Nat.zero_add _).symm | (show r.val = 256 + (r.val - 256); omega)) | ⟨2, _⟩ => exact (Nat.zero_add _).symm)).trans ?_
  try sl_unfold_words
  simp only [View.readAt_eq_ld, Memref.IsWhole.read_unread]
  refine (dgMid_lo _ _ _ _ _ (⟨r.val, by omega⟩ : Fin 256) q s (fun k => (ld_rows x4 0 _ _ r (by show r.val = 0 + r.val; omega) k).trans (hs k))).trans ?_
  simp only [ld_rows x0 0 _ (⟨r.val, by omega⟩ : Fin 256) r (by show r.val = 0 + r.val; omega), ld_rows x1 0 _ q q (Nat.zero_add _).symm, ld_rows x2 0 _ (⟨r.val, by omega⟩ : Fin 256) r (by show r.val = 0 + r.val; omega), ld_rows x3 0 _ (⟨r.val, by omega⟩ : Fin 256) r (by show r.val = 0 + r.val; omega)]

set_option maxHeartbeats 1000000 in
/-- The slot a step writes holds its tile's up gradient. -/
theorem mid_du (h1 : ¬ k0_cond1 i = 1#1) (h2 : k0_cond2 i = 1#1) (h3 : ¬ k0_cond3 i = 1#1) (sl : Fin 2) (hsl : sl.val = (i 0).val % 2) (r : Fin 512) (q : Fin 512) (s : EReal) (hs : ∀ k, x4 (ix2 r k) = s) :
    (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.1 (ix3 sl r q) = Scalars.dUp (∑ l : Fin 2048, x0 (ix2 r l) * x1 (ix2 q l)) (x2 (ix2 r q)) s := by
  unfold runMid; dsimp only
  unfold runMid.sl.H15_2
  by_cases hr : 256 ≤ r.val
  · refine (View.read_writes_cons_unit_of_mem _ _ _ _ _ _ (ix3 0 (⟨r.val - 256, by omega⟩ : Fin 256) q) (off4_eq i) (fun a => by match a with | ⟨0, _⟩ => exact hsl | ⟨1, _⟩ => (first | exact (Nat.zero_add _).symm | (show r.val = 256 + (r.val - 256); omega)) | ⟨2, _⟩ => exact (Nat.zero_add _).symm)).trans ?_
    try sl_unfold_words
    simp only [View.readAt_eq_ld, Memref.IsWhole.read_unread]
    refine (duMid_hi _ _ _ (fun _ => 0) _ (⟨r.val - 256, by omega⟩ : Fin 256) q s (fun k => (ld_rows x4 256 _ _ r (by show r.val = 256 + (r.val - 256); omega) k).trans (hs k))).trans ?_
    simp only [ld_rows x0 256 _ (⟨r.val - 256, by omega⟩ : Fin 256) r (by show r.val = 256 + (r.val - 256); omega), ld_rows x1 0 _ q q (Nat.zero_add _).symm, ld_rows x2 256 _ (⟨r.val - 256, by omega⟩ : Fin 256) r (by show r.val = 256 + (r.val - 256); omega)]
  refine (View.read_writes_cons_unit_of_not_mem _ _ _ _ _ _ (off4_eq i) 1 (Or.inl (by show r.val < 256; omega))).trans ?_
  refine (View.read_writes_cons_unit_of_mem _ _ _ _ _ _ (ix3 0 (⟨r.val, by omega⟩ : Fin 256) q) (off3_eq i) (fun a => by match a with | ⟨0, _⟩ => exact hsl | ⟨1, _⟩ => (first | exact (Nat.zero_add _).symm | (show r.val = 256 + (r.val - 256); omega)) | ⟨2, _⟩ => exact (Nat.zero_add _).symm)).trans ?_
  try sl_unfold_words
  simp only [View.readAt_eq_ld, Memref.IsWhole.read_unread]
  refine (duMid_lo _ _ _ (fun _ => 0) _ (⟨r.val, by omega⟩ : Fin 256) q s (fun k => (ld_rows x4 0 _ _ r (by show r.val = 0 + r.val; omega) k).trans (hs k))).trans ?_
  simp only [ld_rows x0 0 _ (⟨r.val, by omega⟩ : Fin 256) r (by show r.val = 0 + r.val; omega), ld_rows x1 0 _ q q (Nat.zero_add _).symm, ld_rows x2 0 _ (⟨r.val, by omega⟩ : Fin 256) r (by show r.val = 0 + r.val; omega)]

set_option maxHeartbeats 1000000 in
/-- The slot a step writes holds its tile's gate gradient. -/
theorem last_dg (h1 : ¬ k0_cond1 i = 1#1) (h2 : ¬ k0_cond2 i = 1#1) (h3 : k0_cond3 i = 1#1) (sl : Fin 2) (hsl : sl.val = (i 0).val % 2) (r : Fin 512) (q : Fin 512) (s : EReal) (hs : ∀ k, x4 (ix2 r k) = s) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.1 (ix3 sl r q) = Scalars.dGate (∑ l : Fin 2048, x0 (ix2 r l) * x1 (ix2 q l)) (x2 (ix2 r q)) (x3 (ix2 r q)) s := by
  unfold runLast; dsimp only
  unfold runLast.sl.H14_2
  by_cases hr : 256 ≤ r.val
  · refine (View.read_writes_cons_unit_of_mem _ _ _ _ _ _ (ix3 0 (⟨r.val - 256, by omega⟩ : Fin 256) q) (off8_eq i) (fun a => by match a with | ⟨0, _⟩ => exact hsl | ⟨1, _⟩ => (first | exact (Nat.zero_add _).symm | (show r.val = 256 + (r.val - 256); omega)) | ⟨2, _⟩ => exact (Nat.zero_add _).symm)).trans ?_
    try sl_unfold_words
    simp only [View.readAt_eq_ld, Memref.IsWhole.read_unread]
    refine (dgLast_hi _ _ _ _ _ (⟨r.val - 256, by omega⟩ : Fin 256) q s (fun k => (ld_rows x4 256 _ _ r (by show r.val = 256 + (r.val - 256); omega) k).trans (hs k))).trans ?_
    simp only [ld_rows x0 256 _ (⟨r.val - 256, by omega⟩ : Fin 256) r (by show r.val = 256 + (r.val - 256); omega), ld_rows x1 0 _ q q (Nat.zero_add _).symm, ld_rows x2 256 _ (⟨r.val - 256, by omega⟩ : Fin 256) r (by show r.val = 256 + (r.val - 256); omega), ld_rows x3 256 _ (⟨r.val - 256, by omega⟩ : Fin 256) r (by show r.val = 256 + (r.val - 256); omega)]
  refine (View.read_writes_cons_unit_of_not_mem _ _ _ _ _ _ (off8_eq i) 1 (Or.inl (by show r.val < 256; omega))).trans ?_
  refine (View.read_writes_cons_unit_of_mem _ _ _ _ _ _ (ix3 0 (⟨r.val, by omega⟩ : Fin 256) q) (off7_eq i) (fun a => by match a with | ⟨0, _⟩ => exact hsl | ⟨1, _⟩ => (first | exact (Nat.zero_add _).symm | (show r.val = 256 + (r.val - 256); omega)) | ⟨2, _⟩ => exact (Nat.zero_add _).symm)).trans ?_
  try sl_unfold_words
  simp only [View.readAt_eq_ld, Memref.IsWhole.read_unread]
  refine (dgLast_lo _ _ _ _ _ (⟨r.val, by omega⟩ : Fin 256) q s (fun k => (ld_rows x4 0 _ _ r (by show r.val = 0 + r.val; omega) k).trans (hs k))).trans ?_
  simp only [ld_rows x0 0 _ (⟨r.val, by omega⟩ : Fin 256) r (by show r.val = 0 + r.val; omega), ld_rows x1 0 _ q q (Nat.zero_add _).symm, ld_rows x2 0 _ (⟨r.val, by omega⟩ : Fin 256) r (by show r.val = 0 + r.val; omega), ld_rows x3 0 _ (⟨r.val, by omega⟩ : Fin 256) r (by show r.val = 0 + r.val; omega)]

set_option maxHeartbeats 1000000 in
/-- The slot a step writes holds its tile's up gradient. -/
theorem last_du (h1 : ¬ k0_cond1 i = 1#1) (h2 : ¬ k0_cond2 i = 1#1) (h3 : k0_cond3 i = 1#1) (sl : Fin 2) (hsl : sl.val = (i 0).val % 2) (r : Fin 512) (q : Fin 512) (s : EReal) (hs : ∀ k, x4 (ix2 r k) = s) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.1 (ix3 sl r q) = Scalars.dUp (∑ l : Fin 2048, x0 (ix2 r l) * x1 (ix2 q l)) (x2 (ix2 r q)) s := by
  unfold runLast; dsimp only
  unfold runLast.sl.H15_2
  by_cases hr : 256 ≤ r.val
  · refine (View.read_writes_cons_unit_of_mem _ _ _ _ _ _ (ix3 0 (⟨r.val - 256, by omega⟩ : Fin 256) q) (off8_eq i) (fun a => by match a with | ⟨0, _⟩ => exact hsl | ⟨1, _⟩ => (first | exact (Nat.zero_add _).symm | (show r.val = 256 + (r.val - 256); omega)) | ⟨2, _⟩ => exact (Nat.zero_add _).symm)).trans ?_
    try sl_unfold_words
    simp only [View.readAt_eq_ld, Memref.IsWhole.read_unread]
    refine (duLast_hi _ _ _ (fun _ => 0) _ (⟨r.val - 256, by omega⟩ : Fin 256) q s (fun k => (ld_rows x4 256 _ _ r (by show r.val = 256 + (r.val - 256); omega) k).trans (hs k))).trans ?_
    simp only [ld_rows x0 256 _ (⟨r.val - 256, by omega⟩ : Fin 256) r (by show r.val = 256 + (r.val - 256); omega), ld_rows x1 0 _ q q (Nat.zero_add _).symm, ld_rows x2 256 _ (⟨r.val - 256, by omega⟩ : Fin 256) r (by show r.val = 256 + (r.val - 256); omega)]
  refine (View.read_writes_cons_unit_of_not_mem _ _ _ _ _ _ (off8_eq i) 1 (Or.inl (by show r.val < 256; omega))).trans ?_
  refine (View.read_writes_cons_unit_of_mem _ _ _ _ _ _ (ix3 0 (⟨r.val, by omega⟩ : Fin 256) q) (off7_eq i) (fun a => by match a with | ⟨0, _⟩ => exact hsl | ⟨1, _⟩ => (first | exact (Nat.zero_add _).symm | (show r.val = 256 + (r.val - 256); omega)) | ⟨2, _⟩ => exact (Nat.zero_add _).symm)).trans ?_
  try sl_unfold_words
  simp only [View.readAt_eq_ld, Memref.IsWhole.read_unread]
  refine (duLast_lo _ _ _ (fun _ => 0) _ (⟨r.val, by omega⟩ : Fin 256) q s (fun k => (ld_rows x4 0 _ _ r (by show r.val = 0 + r.val; omega) k).trans (hs k))).trans ?_
  simp only [ld_rows x0 0 _ (⟨r.val, by omega⟩ : Fin 256) r (by show r.val = 0 + r.val; omega), ld_rows x1 0 _ q q (Nat.zero_add _).symm, ld_rows x2 0 _ (⟨r.val, by omega⟩ : Fin 256) r (by show r.val = 0 + r.val; omega)]

/-- Whether a step starts a new product, in closed form. -/
theorem start_eq : ∀ i : grid0.Coords, Scalar.cmpi .eq (Scalar.remsi (Scalar.maxsi (Scalar.subi (BitVec.ofNat 32 (i 0).val) 1#32) 0#32) 18#32) 0#32
    = Scalar.cmpi .eq (BitVec.ofNat 32 (((i 0).val - 1) % 18)) 0#32 := by decide +kernel

set_option maxHeartbeats 1000000 in
/-- A tile folded into the gate product. -/
theorem mid_out0 (h1 : ¬ k0_cond1 i = 1#1) (h2 : k0_cond2 i = 1#1) (h3 : ¬ k0_cond3 i = 1#1) (sl : Fin 2) (hsl : sl.val = 1 - (i 0).val % 2) (r : Fin 2048) (q : Fin 512) :
    (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.1 (ix2 r q) = Scalar.select (Scalar.cmpi .eq (BitVec.ofNat 32 (((i 0).val - 1) % 18)) 0#32) 0 (y0 (ix2 r q))
        + ∑ k : Fin 512, FloatOps.sitofp (F := Ideal) .bf16 (x5 (ix2 k r)) * y2 (ix3 sl k q) := by
  unfold runMid; dsimp only
  refine (View.read_writes_cons_unit_of_mem _ _ _ _ _ _ (ix2 r q) rfl (fun a => by match a with | ⟨0, _⟩ => exact (Nat.zero_add _).symm | ⟨1, _⟩ => exact (Nat.zero_add _).symm)).trans ?_
  sl_unfold_words
  simp only [View.readAt_eq_ld, Memref.IsWhole.read_unread]
  pointwise [k0_pay5, k0_pay33, k0_pay34, k0_pay35, k0_pay36]

  refine congrArg₂ (· + ·) (by rw [start_eq]) (Finset.sum_congr rfl fun k _ => congrArg (_ * ·) ?_)
  refine (congrArg _ (congrArg (fun z : Fin 2 => ix3 z k q) (Fin.ext ((congrFun (off6_eq i) 0).trans hsl.symm)))).trans ?_
  refine (View.read_writes_cons_unit_of_not_mem _ _ _ _ _ _ (off4_eq i) 0 (by show sl.val < (i 0).val % 2 ∨ (i 0).val % 2 + 1 ≤ sl.val; omega)).trans ?_
  refine (View.read_writes_cons_unit_of_not_mem _ _ _ _ _ _ (off3_eq i) 0 (by show sl.val < (i 0).val % 2 ∨ (i 0).val % 2 + 1 ≤ sl.val; omega)).trans ?_
  rw [View.writes_nil, Memref.IsWhole.read_unread]

set_option maxHeartbeats 1000000 in
/-- A tile folded into the up product. -/
theorem mid_out1 (h1 : ¬ k0_cond1 i = 1#1) (h2 : k0_cond2 i = 1#1) (h3 : ¬ k0_cond3 i = 1#1) (sl : Fin 2) (hsl : sl.val = 1 - (i 0).val % 2) (r : Fin 2048) (q : Fin 512) :
    (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.1 (ix2 r q) = Scalar.select (Scalar.cmpi .eq (BitVec.ofNat 32 (((i 0).val - 1) % 18)) 0#32) 0 (y1 (ix2 r q))
        + ∑ k : Fin 512, FloatOps.sitofp (F := Ideal) .bf16 (x5 (ix2 k r)) * y3 (ix3 sl k q) := by
  unfold runMid; dsimp only
  refine (View.read_writes_cons_unit_of_mem _ _ _ _ _ _ (ix2 r q) rfl (fun a => by match a with | ⟨0, _⟩ => exact (Nat.zero_add _).symm | ⟨1, _⟩ => exact (Nat.zero_add _).symm)).trans ?_
  sl_unfold_words
  simp only [View.readAt_eq_ld, Memref.IsWhole.read_unread]
  pointwise [k0_pay6, k0_pay33]

  refine congrArg₂ (· + ·) (by rw [start_eq]) (Finset.sum_congr rfl fun k _ => congrArg (_ * ·) ?_)
  refine (congrArg _ (congrArg (fun z : Fin 2 => ix3 z k q) (Fin.ext ((congrFun (off6_eq i) 0).trans hsl.symm)))).trans ?_
  refine (View.read_writes_cons_unit_of_not_mem _ _ _ _ _ _ (off4_eq i) 0 (by show sl.val < (i 0).val % 2 ∨ (i 0).val % 2 + 1 ≤ sl.val; omega)).trans ?_
  refine (View.read_writes_cons_unit_of_not_mem _ _ _ _ _ _ (off3_eq i) 0 (by show sl.val < (i 0).val % 2 ∨ (i 0).val % 2 + 1 ≤ sl.val; omega)).trans ?_
  rw [View.writes_nil, Memref.IsWhole.read_unread]

set_option maxHeartbeats 1000000 in
/-- A tile folded into the gate product, the last of the block: the sum times the factor. -/
theorem last_out0 (h1 : ¬ k0_cond1 i = 1#1) (h2 : ¬ k0_cond2 i = 1#1) (h3 : k0_cond3 i = 1#1) (sl : Fin 2) (hsl : sl.val = 1 - (i 0).val % 2) (r : Fin 2048) (q : Fin 512) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.1 (ix2 r q) = (Scalar.select (Scalar.cmpi .eq (BitVec.ofNat 32 (((i 0).val - 1) % 18)) 0#32) 0 (y0 (ix2 r q))
        + ∑ k : Fin 512, FloatOps.sitofp (F := Ideal) .bf16 (x5 (ix2 k r)) * y2 (ix3 sl k q))
      * (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.2.1 (ix2 r q) := by
  unfold runLast; dsimp only
  refine (View.read_writes_cons_unit_of_mem _ _ _ _ _ _ (ix2 r q) rfl (fun a => by match a with | ⟨0, _⟩ => exact (Nat.zero_add _).symm | ⟨1, _⟩ => exact (Nat.zero_add _).symm)).trans ?_
  sl_unfold_words
  simp only [View.readAt_eq_ld, Memref.IsWhole.read_unread]
  pointwise [k0_pay7, k0_pay55, k0_pay56, k0_pay57, k0_pay58]
  refine congrArg₂ (· * ·) ?_ rfl
  refine congrArg₂ (· + ·) (by rw [start_eq]) (Finset.sum_congr rfl fun k _ => congrArg (_ * ·) ?_)
  refine (congrArg _ (congrArg (fun z : Fin 2 => ix3 z k q) (Fin.ext ((congrFun (off10_eq i) 0).trans hsl.symm)))).trans ?_
  refine (View.read_writes_cons_unit_of_not_mem _ _ _ _ _ _ (off8_eq i) 0 (by show sl.val < (i 0).val % 2 ∨ (i 0).val % 2 + 1 ≤ sl.val; omega)).trans ?_
  refine (View.read_writes_cons_unit_of_not_mem _ _ _ _ _ _ (off7_eq i) 0 (by show sl.val < (i 0).val % 2 ∨ (i 0).val % 2 + 1 ≤ sl.val; omega)).trans ?_
  rw [View.writes_nil, Memref.IsWhole.read_unread]

set_option maxHeartbeats 1000000 in
/-- A tile folded into the up product, the last of the block: the sum times the factor. -/
theorem last_out1 (h1 : ¬ k0_cond1 i = 1#1) (h2 : ¬ k0_cond2 i = 1#1) (h3 : k0_cond3 i = 1#1) (sl : Fin 2) (hsl : sl.val = 1 - (i 0).val % 2) (r : Fin 2048) (q : Fin 512) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.1 (ix2 r q) = (Scalar.select (Scalar.cmpi .eq (BitVec.ofNat 32 (((i 0).val - 1) % 18)) 0#32) 0 (y1 (ix2 r q))
        + ∑ k : Fin 512, FloatOps.sitofp (F := Ideal) .bf16 (x5 (ix2 k r)) * y3 (ix3 sl k q))
      * (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.2.2 (ix2 r q) := by
  unfold runLast; dsimp only
  refine (View.read_writes_cons_unit_of_mem _ _ _ _ _ _ (ix2 r q) rfl (fun a => by match a with | ⟨0, _⟩ => exact (Nat.zero_add _).symm | ⟨1, _⟩ => exact (Nat.zero_add _).symm)).trans ?_
  sl_unfold_words
  simp only [View.readAt_eq_ld, Memref.IsWhole.read_unread]
  pointwise [k0_pay8, k0_pay55]
  refine congrArg₂ (· * ·) ?_ rfl
  refine congrArg₂ (· + ·) (by rw [start_eq]) (Finset.sum_congr rfl fun k _ => congrArg (_ * ·) ?_)
  refine (congrArg _ (congrArg (fun z : Fin 2 => ix3 z k q) (Fin.ext ((congrFun (off10_eq i) 0).trans hsl.symm)))).trans ?_
  refine (View.read_writes_cons_unit_of_not_mem _ _ _ _ _ _ (off8_eq i) 0 (by show sl.val < (i 0).val % 2 ∨ (i 0).val % 2 + 1 ≤ sl.val; omega)).trans ?_
  refine (View.read_writes_cons_unit_of_not_mem _ _ _ _ _ _ (off7_eq i) 0 (by show sl.val < (i 0).val % 2 ∨ (i 0).val % 2 + 1 ≤ sl.val; omega)).trans ?_
  rw [View.writes_nil, Memref.IsWhole.read_unread]

/-- A step writes its rows of the gate factor. -/
theorem mid_fac0_in (h1 : ¬ k0_cond1 i = 1#1) (h2 : k0_cond2 i = 1#1) (h3 : ¬ k0_cond3 i = 1#1) (r : Fin 2048) (q : Fin 512) (r' : Fin 128) (hr : r.val = 128 * min (((i 0).val - 1) % 18) 15 + r'.val) :
    (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.2.1 (ix2 r q) = Scalars.fac (x8 (ix2 r' q)) (x6 (ix2 r' q)) (x10 (ix2 0 q)) := by
  unfold runMid; dsimp only

  refine (View.read_writes_cons_unit_of_mem _ _ _ _ _ _ (ix2 r' q) (off5_eq' i) (fun a => by match a with | ⟨0, _⟩ => exact hr | ⟨1, _⟩ => exact (Nat.zero_add _).symm)).trans ?_
  sl_unfold_words
  simp only [View.readAt_eq_ld, Memref.IsWhole.read_unread]
  pointwise [k0_pay25, k0_pay26, k0_pay27, k0_pay28]
  rfl

/-- It leaves the other rows. -/
theorem mid_fac0_out (h1 : ¬ k0_cond1 i = 1#1) (h2 : k0_cond2 i = 1#1) (h3 : ¬ k0_cond3 i = 1#1) (r : Fin 2048) (q : Fin 512) (hr : r.val < 128 * min (((i 0).val - 1) % 18) 15 ∨ 128 * min (((i 0).val - 1) % 18) 15 + 128 ≤ r.val) :
    (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.2.1 (ix2 r q) = y4 (ix2 r q) := by
  unfold runMid; dsimp only

  refine (View.read_writes_cons_unit_of_not_mem _ _ _ _ _ _ (off5_eq' i) 0 hr).trans ?_
  rw [View.writes_nil, Memref.IsWhole.read_unread]

/-- A step writes its rows of the up factor. -/
theorem mid_fac1_in (h1 : ¬ k0_cond1 i = 1#1) (h2 : k0_cond2 i = 1#1) (h3 : ¬ k0_cond3 i = 1#1) (r : Fin 2048) (q : Fin 512) (r' : Fin 128) (hr : r.val = 128 * min (((i 0).val - 1) % 18) 15 + r'.val) :
    (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.2.2 (ix2 r q) = Scalars.fac (x9 (ix2 r' q)) (x7 (ix2 r' q)) (x11 (ix2 0 q)) := by
  unfold runMid; dsimp only

  refine (View.read_writes_cons_unit_of_mem _ _ _ _ _ _ (ix2 r' q) (off5_eq' i) (fun a => by match a with | ⟨0, _⟩ => exact hr | ⟨1, _⟩ => exact (Nat.zero_add _).symm)).trans ?_
  sl_unfold_words
  simp only [View.readAt_eq_ld, Memref.IsWhole.read_unread]
  pointwise [k0_pay29, k0_pay30, k0_pay31, k0_pay32]
  rfl

/-- It leaves the other rows. -/
theorem mid_fac1_out (h1 : ¬ k0_cond1 i = 1#1) (h2 : k0_cond2 i = 1#1) (h3 : ¬ k0_cond3 i = 1#1) (r : Fin 2048) (q : Fin 512) (hr : r.val < 128 * min (((i 0).val - 1) % 18) 15 ∨ 128 * min (((i 0).val - 1) % 18) 15 + 128 ≤ r.val) :
    (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.2.2 (ix2 r q) = y5 (ix2 r q) := by
  unfold runMid; dsimp only

  refine (View.read_writes_cons_unit_of_not_mem _ _ _ _ _ _ (off5_eq' i) 0 hr).trans ?_
  rw [View.writes_nil, Memref.IsWhole.read_unread]

/-- A step writes its rows of the gate factor. -/
theorem last_fac0_in (h1 : ¬ k0_cond1 i = 1#1) (h2 : ¬ k0_cond2 i = 1#1) (h3 : k0_cond3 i = 1#1) (r : Fin 2048) (q : Fin 512) (r' : Fin 128) (hr : r.val = 128 * min (((i 0).val - 1) % 18) 15 + r'.val) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.2.1 (ix2 r q) = Scalars.fac (x8 (ix2 r' q)) (x6 (ix2 r' q)) (x10 (ix2 0 q)) := by
  unfold runLast; dsimp only
  unfold runLast.sl.H16_1
  refine (View.read_writes_cons_unit_of_mem _ _ _ _ _ _ (ix2 r' q) (off9_eq' i) (fun a => by match a with | ⟨0, _⟩ => exact hr | ⟨1, _⟩ => exact (Nat.zero_add _).symm)).trans ?_
  sl_unfold_words
  simp only [View.readAt_eq_ld, Memref.IsWhole.read_unread]
  pointwise [k0_pay47, k0_pay48, k0_pay49, k0_pay50]
  rfl

/-- It leaves the other rows. -/
theorem last_fac0_out (h1 : ¬ k0_cond1 i = 1#1) (h2 : ¬ k0_cond2 i = 1#1) (h3 : k0_cond3 i = 1#1) (r : Fin 2048) (q : Fin 512) (hr : r.val < 128 * min (((i 0).val - 1) % 18) 15 ∨ 128 * min (((i 0).val - 1) % 18) 15 + 128 ≤ r.val) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.2.1 (ix2 r q) = y4 (ix2 r q) := by
  unfold runLast; dsimp only
  unfold runLast.sl.H16_1
  refine (View.read_writes_cons_unit_of_not_mem _ _ _ _ _ _ (off9_eq' i) 0 hr).trans ?_
  rw [View.writes_nil, Memref.IsWhole.read_unread]

/-- A step writes its rows of the up factor. -/
theorem last_fac1_in (h1 : ¬ k0_cond1 i = 1#1) (h2 : ¬ k0_cond2 i = 1#1) (h3 : k0_cond3 i = 1#1) (r : Fin 2048) (q : Fin 512) (r' : Fin 128) (hr : r.val = 128 * min (((i 0).val - 1) % 18) 15 + r'.val) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.2.2 (ix2 r q) = Scalars.fac (x9 (ix2 r' q)) (x7 (ix2 r' q)) (x11 (ix2 0 q)) := by
  unfold runLast; dsimp only
  unfold runLast.sl.H17_1
  refine (View.read_writes_cons_unit_of_mem _ _ _ _ _ _ (ix2 r' q) (off9_eq' i) (fun a => by match a with | ⟨0, _⟩ => exact hr | ⟨1, _⟩ => exact (Nat.zero_add _).symm)).trans ?_
  sl_unfold_words
  simp only [View.readAt_eq_ld, Memref.IsWhole.read_unread]
  pointwise [k0_pay51, k0_pay52, k0_pay53, k0_pay54]
  rfl

/-- It leaves the other rows. -/
theorem last_fac1_out (h1 : ¬ k0_cond1 i = 1#1) (h2 : ¬ k0_cond2 i = 1#1) (h3 : k0_cond3 i = 1#1) (r : Fin 2048) (q : Fin 512) (hr : r.val < 128 * min (((i 0).val - 1) % 18) 15 ∨ 128 * min (((i 0).val - 1) % 18) 15 + 128 ≤ r.val) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x0 x1 x2 x3 x4 x5 x6 x7 x8 x9 x10 x11 y0 y1 y2 y3 y4 y5).1.2.2.2.2.2 (ix2 r q) = y5 (ix2 r q) := by
  unfold runLast; dsimp only
  unfold runLast.sl.H17_1
  refine (View.read_writes_cons_unit_of_not_mem _ _ _ _ _ _ (off9_eq' i) 0 hr).trans ?_
  rw [View.writes_nil, Memref.IsWhole.read_unread]

end Cert.BwdIdeal.Hand
end
-- ==== Proof.BwdInv.lean ====
module

public import proofs.«01_k».proof.Proof.Gen.BwdIdeal.Skeleton
public import proofs.«01_k».proof.Proof.Gen.BwdIdeal.Frame
public import proofs.«01_k».proof.Proof.BwdVal
public import Idealize.ShloMosaic.Lib.Claim
public import Idealize.ShloMosaic.Lib.Pipeline.FrameBody

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The grid -/

theorem coord0 : ∀ t : Fin cfg0.N, (grid0.coords t 0).val = t.val :=
  (by decide +kernel : ∀ t : Fin grid0.N, (grid0.coords t 0).val = t.val)
theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val % 18 ≠ 0 :=
  (by decide +kernel : ∀ t : Fin grid0.N, k0_cond2 (grid0.coords t) = 1#1 ↔ t.val % 18 ≠ 0)
theorem cond3_iff : ∀ t : Fin cfg0.N, k0_cond3 (grid0.coords t) = 1#1 ↔ t.val ≠ 0 ∧ t.val % 18 = 0 :=
  (by decide +kernel : ∀ t : Fin grid0.N, k0_cond3 (grid0.coords t) = 1#1 ↔ t.val ≠ 0 ∧ t.val % 18 = 0)
theorem start_at : ∀ t : Fin cfg0.N, Scalar.cmpi .eq (BitVec.ofNat 32 (((grid0.coords t 0).val - 1) % 18)) 0#32 = BitVec.ofBool (decide ((t.val - 1) % 18 = 0)) :=
  (by decide +kernel : ∀ t : Fin grid0.N, Scalar.cmpi .eq (BitVec.ofNat 32 (((grid0.coords t 0).val - 1) % 18)) 0#32 = BitVec.ofBool (decide ((t.val - 1) % 18 = 0)))
theorem idle12 : ∀ t : Fin cfg0.N, cfg0.idle 12 (grid0.coords t) = decide (t.val = 0) :=
  (by decide +kernel : ∀ t : Fin grid0.N, cfg0.idle 12 (grid0.coords t) = decide (t.val = 0))
theorem flush12 : ∀ t : Fin cfg0.N, (cfg0.win 12).flush t = decide (t.val ≠ 0 ∧ t.val % 18 = 0) :=
  (by decide +kernel : ∀ t : Fin grid0.N, (cfg0.win 12).flush t = decide (t.val ≠ 0 ∧ t.val % 18 = 0))
theorem idle13 : ∀ t : Fin cfg0.N, cfg0.idle 13 (grid0.coords t) = decide (t.val = 0) :=
  (by decide +kernel : ∀ t : Fin grid0.N, cfg0.idle 13 (grid0.coords t) = decide (t.val = 0))
theorem flush13 : ∀ t : Fin cfg0.N, (cfg0.win 13).flush t = decide (t.val ≠ 0 ∧ t.val % 18 = 0) :=
  (by decide +kernel : ∀ t : Fin grid0.N, (cfg0.win 13).flush t = decide (t.val ≠ 0 ∧ t.val % 18 = 0))
theorem idx0 : ∀ t : Fin cfg0.N, win0_0.index t = ![min t.val 197 % 18, 0] :=
  (by decide +kernel : ∀ t : Fin grid0.N, win0_0.index t = ![min t.val 197 % 18, 0])
theorem idx1 : ∀ t : Fin cfg0.N, win0_1.index t = ![min t.val 197 / 18, 0] :=
  (by decide +kernel : ∀ t : Fin grid0.N, win0_1.index t = ![min t.val 197 / 18, 0])
theorem idx2 : ∀ t : Fin cfg0.N, win0_2.index t = ![min t.val 197 % 18, min t.val 197 / 18] :=
  (by decide +kernel : ∀ t : Fin grid0.N, win0_2.index t = ![min t.val 197 % 18, min t.val 197 / 18])
theorem idx3 : ∀ t : Fin cfg0.N, win0_3.index t = ![min t.val 197 % 18, min t.val 197 / 18] :=
  (by decide +kernel : ∀ t : Fin grid0.N, win0_3.index t = ![min t.val 197 % 18, min t.val 197 / 18])
theorem idx4 : ∀ t : Fin cfg0.N, win0_4.index t = ![min t.val 197 % 18, 0] :=
  (by decide +kernel : ∀ t : Fin grid0.N, win0_4.index t = ![min t.val 197 % 18, 0])
theorem idx5 : ∀ t : Fin cfg0.N, win0_5.index t = ![(t.val - 1) % 18, 0] :=
  (by decide +kernel : ∀ t : Fin grid0.N, win0_5.index t = ![(t.val - 1) % 18, 0])
theorem idx6 : ∀ t : Fin cfg0.N, win0_6.index t = ![min ((t.val - 1) % 18) 15, (t.val - 1) / 18] :=
  (by decide +kernel : ∀ t : Fin grid0.N, win0_6.index t = ![min ((t.val - 1) % 18) 15, (t.val - 1) / 18])
theorem idx7 : ∀ t : Fin cfg0.N, win0_7.index t = ![min ((t.val - 1) % 18) 15, (t.val - 1) / 18] :=
  (by decide +kernel : ∀ t : Fin grid0.N, win0_7.index t = ![min ((t.val - 1) % 18) 15, (t.val - 1) / 18])
theorem idx8 : ∀ t : Fin cfg0.N, win0_8.index t = ![min ((t.val - 1) % 18) 15, (t.val - 1) / 18] :=
  (by decide +kernel : ∀ t : Fin grid0.N, win0_8.index t = ![min ((t.val - 1) % 18) 15, (t.val - 1) / 18])
theorem idx9 : ∀ t : Fin cfg0.N, win0_9.index t = ![min ((t.val - 1) % 18) 15, (t.val - 1) / 18] :=
  (by decide +kernel : ∀ t : Fin grid0.N, win0_9.index t = ![min ((t.val - 1) % 18) 15, (t.val - 1) / 18])
theorem idx10 : ∀ t : Fin cfg0.N, win0_10.index t = ![0, (t.val - 1) / 18] :=
  (by decide +kernel : ∀ t : Fin grid0.N, win0_10.index t = ![0, (t.val - 1) / 18])
theorem idx11 : ∀ t : Fin cfg0.N, win0_11.index t = ![0, (t.val - 1) / 18] :=
  (by decide +kernel : ∀ t : Fin grid0.N, win0_11.index t = ![0, (t.val - 1) / 18])
theorem idx12 : ∀ t : Fin cfg0.N, win0_12.index t = ![0, (t.val - 1) / 18] :=
  (by decide +kernel : ∀ t : Fin grid0.N, win0_12.index t = ![0, (t.val - 1) / 18])
theorem idx13 : ∀ t : Fin cfg0.N, win0_13.index t = ![0, (t.val - 1) / 18] :=
  (by decide +kernel : ∀ t : Fin grid0.N, win0_13.index t = ![0, (t.val - 1) / 18])

/-! ## The arrays and their blocks -/

/-- The arguments as arrays: the upstream gradient and the down projection, the gate and the up projection, the tokens' scales,
    the codes, the rounding variables, the floors and the channels' scales. -/
def A0 (c : Dev nD) : Vec Ideal S9216x2048 .bf16 := V m c main_arg0
def A1 (c : Dev nD) : Vec Ideal S5632x2048 .bf16 := V m c main_arg1
def A2 (c : Dev nD) : Vec Ideal S9216x5632 .f32 := V m c main_arg2
def A3 (c : Dev nD) : Vec Ideal S9216x5632 .f32 := V m c main_arg3
def A4 (c : Dev nD) : Vec Ideal S9216x1 .f32 := V m c main_arg4
def A5 (c : Dev nD) : Vec Ideal S9216x2048 .i8 := V m c main_arg5
def A6 (c : Dev nD) : Vec Ideal S2048x5632 .f32 := V m c main_arg6
def A7 (c : Dev nD) : Vec Ideal S2048x5632 .f32 := V m c main_arg7
def A8 (c : Dev nD) : Vec Ideal S2048x5632 .i8 := V m c main_arg8
def A9 (c : Dev nD) : Vec Ideal S2048x5632 .i8 := V m c main_arg9
def A10 (c : Dev nD) : Vec Ideal S1x5632 .f32 := V m c main_arg10
def A11 (c : Dev nD) : Vec Ideal S1x5632 .f32 := V m c main_arg11

/-- The token that row `k` of tile `n` is. -/
def rowT (n : ℕ) (k : Fin 512) : Fin 9216 := ⟨n % 18 * 512 + k.val, by omega⟩

/-- The channel that column `q` of tile `n` is. -/
def colF (n : ℕ) (q : Fin 512) : Fin 5632 := ⟨n / 18 % 11 * 512 + q.val, by omega⟩

/-- The host's replication of the scales. -/
theorem V_scales (c : Dev nD) (K : Fin 9216) (k : Fin 128) :
    (V m c main_v0 : Vec Ideal S9216x128 .f32) (ix2 K k) = A4 m c (ix2 K (0 : Fin 1)) := by
  unfold A4
  rw [V_main_arg4]
  have e : V m c main_v0 = broadcastInDim S9216x128 ![0, 1] bcast_S9216x1_S9216x128_0_1 (m ((c : Thread nD τ).loc main_arg4) : Vec Ideal S9216x1 .f32) := by
    unfold V; rw [StableHlo.after_cons, StableHlo.after_nil]; rfl
  rw [e]
  pointwise []

theorem blk0 (c : Dev nD) (t : Fin cfg0.N) (h : t.val < 198) (r : Fin 512) (l : Fin 2048) :
    iblk m c 0 t (ix2 r l) = A0 m c (ix2 (rowT t.val r) l) := by
  have ht : t.val < 199 := lt_of_lt_of_eq t.isLt (show cfg0.N = 199 from N_0)
  show V m c main_arg0 (((cfg0.win 0).blk t).view.emb (ix2 r l)) = V m c main_arg0 (ix2 (rowT t.val r) l)
  congr 1; funext a; apply Fin.ext
  match a with
  | ⟨0, _⟩ => show win0_0.index t (0 : Fin 2) * 512 + 1 * r.val = t.val % 18 * 512 + r.val; rw [idx0]; show (min t.val 197 % 18) * 512 + 1 * r.val = t.val % 18 * 512 + r.val; first | omega | (simp only [rowT, colF]; omega)
  | ⟨1, _⟩ => show win0_0.index t (1 : Fin 2) * 2048 + 1 * l.val = l.val; rw [idx0]; show (0) * 2048 + 1 * l.val = l.val; first | omega | (simp only [rowT, colF]; omega)
theorem blk1 (c : Dev nD) (t : Fin cfg0.N) (h : t.val < 198) (q : Fin 512) (l : Fin 2048) :
    iblk m c 1 t (ix2 q l) = A1 m c (ix2 (colF t.val q) l) := by
  have ht : t.val < 199 := lt_of_lt_of_eq t.isLt (show cfg0.N = 199 from N_0)
  show V m c main_arg1 (((cfg0.win 1).blk t).view.emb (ix2 q l)) = V m c main_arg1 (ix2 (colF t.val q) l)
  congr 1; funext a; apply Fin.ext
  match a with
  | ⟨0, _⟩ => show win0_1.index t (0 : Fin 2) * 512 + 1 * q.val = t.val / 18 % 11 * 512 + q.val; rw [idx1]; show (min t.val 197 / 18) * 512 + 1 * q.val = t.val / 18 % 11 * 512 + q.val; first | omega | (simp only [rowT, colF]; omega)
  | ⟨1, _⟩ => show win0_1.index t (1 : Fin 2) * 2048 + 1 * l.val = l.val; rw [idx1]; show (0) * 2048 + 1 * l.val = l.val; first | omega | (simp only [rowT, colF]; omega)
theorem blk2 (c : Dev nD) (t : Fin cfg0.N) (h : t.val < 198) (r q : Fin 512) :
    iblk m c 2 t (ix2 r q) = A2 m c (ix2 (rowT t.val r) (colF t.val q)) := by
  have ht : t.val < 199 := lt_of_lt_of_eq t.isLt (show cfg0.N = 199 from N_0)
  show V m c main_arg2 (((cfg0.win 2).blk t).view.emb (ix2 r q)) = V m c main_arg2 (ix2 (rowT t.val r) (colF t.val q))
  congr 1; funext a; apply Fin.ext
  match a with
  | ⟨0, _⟩ => show win0_2.index t (0 : Fin 2) * 512 + 1 * r.val = t.val % 18 * 512 + r.val; rw [idx2]; show (min t.val 197 % 18) * 512 + 1 * r.val = t.val % 18 * 512 + r.val; first | omega | (simp only [rowT, colF]; omega)
  | ⟨1, _⟩ => show win0_2.index t (1 : Fin 2) * 512 + 1 * q.val = t.val / 18 % 11 * 512 + q.val; rw [idx2]; show (min t.val 197 / 18) * 512 + 1 * q.val = t.val / 18 % 11 * 512 + q.val; first | omega | (simp only [rowT, colF]; omega)
theorem blk3 (c : Dev nD) (t : Fin cfg0.N) (h : t.val < 198) (r q : Fin 512) :
    iblk m c 3 t (ix2 r q) = A3 m c (ix2 (rowT t.val r) (colF t.val q)) := by
  have ht : t.val < 199 := lt_of_lt_of_eq t.isLt (show cfg0.N = 199 from N_0)
  show V m c main_arg3 (((cfg0.win 3).blk t).view.emb (ix2 r q)) = V m c main_arg3 (ix2 (rowT t.val r) (colF t.val q))
  congr 1; funext a; apply Fin.ext
  match a with
  | ⟨0, _⟩ => show win0_3.index t (0 : Fin 2) * 512 + 1 * r.val = t.val % 18 * 512 + r.val; rw [idx3]; show (min t.val 197 % 18) * 512 + 1 * r.val = t.val % 18 * 512 + r.val; first | omega | (simp only [rowT, colF]; omega)
  | ⟨1, _⟩ => show win0_3.index t (1 : Fin 2) * 512 + 1 * q.val = t.val / 18 % 11 * 512 + q.val; rw [idx3]; show (min t.val 197 / 18) * 512 + 1 * q.val = t.val / 18 % 11 * 512 + q.val; first | omega | (simp only [rowT, colF]; omega)
theorem blk4 (c : Dev nD) (t : Fin cfg0.N) (h : t.val < 198) (r : Fin 512) (k : Fin 128) :
    iblk m c 4 t (ix2 r k) = A4 m c (ix2 (rowT t.val r) (0 : Fin 1)) := by
  have ht : t.val < 199 := lt_of_lt_of_eq t.isLt (show cfg0.N = 199 from N_0)
  rw [← V_scales m c _ k]
  show V m c main_v0 (((cfg0.win 4).blk t).view.emb (ix2 r k)) = V m c main_v0 (ix2 (rowT t.val r) k)
  congr 1; funext a; apply Fin.ext
  match a with
  | ⟨0, _⟩ => show win0_4.index t (0 : Fin 2) * 512 + 1 * r.val = t.val % 18 * 512 + r.val; rw [idx4]; show (min t.val 197 % 18) * 512 + 1 * r.val = t.val % 18 * 512 + r.val; first | omega | (simp only [rowT, colF]; omega)
  | ⟨1, _⟩ => show win0_4.index t (1 : Fin 2) * 128 + 1 * k.val = k.val; rw [idx4]; show (0) * 128 + 1 * k.val = k.val; first | omega | (simp only [rowT, colF]; omega)
theorem blk5 (c : Dev nD) (t : Fin cfg0.N) (k : Fin 512) (r : Fin 2048) :
    iblk m c 5 t (ix2 k r) = A5 m c (ix2 (rowT (t.val - 1) k) r) := by
  have ht : t.val < 199 := lt_of_lt_of_eq t.isLt (show cfg0.N = 199 from N_0)
  show V m c main_arg5 (((cfg0.win 5).blk t).view.emb (ix2 k r)) = V m c main_arg5 (ix2 (rowT (t.val - 1) k) r)
  congr 1; funext a; apply Fin.ext
  match a with
  | ⟨0, _⟩ => show win0_5.index t (0 : Fin 2) * 512 + 1 * k.val = (t.val - 1) % 18 * 512 + k.val; rw [idx5]; show ((t.val - 1) % 18) * 512 + 1 * k.val = (t.val - 1) % 18 * 512 + k.val; first | omega | (simp only [rowT, colF]; omega)
  | ⟨1, _⟩ => show win0_5.index t (1 : Fin 2) * 2048 + 1 * r.val = r.val; rw [idx5]; show (0) * 2048 + 1 * r.val = r.val; first | omega | (simp only [rowT, colF]; omega)
theorem blk6 (c : Dev nD) (t : Fin cfg0.N) (r' : Fin 128) (q : Fin 512) (R : Fin 2048) (hR : R.val = 128 * min ((t.val - 1) % 18) 15 + r'.val) :
    iblk m c 6 t (ix2 r' q) = A6 m c (ix2 R (colF (t.val - 1) q)) := by
  have ht : t.val < 199 := lt_of_lt_of_eq t.isLt (show cfg0.N = 199 from N_0)
  show V m c main_arg6 (((cfg0.win 6).blk t).view.emb (ix2 r' q)) = V m c main_arg6 (ix2 R (colF (t.val - 1) q))
  congr 1; funext a; apply Fin.ext
  match a with
  | ⟨0, _⟩ => show win0_6.index t (0 : Fin 2) * 128 + 1 * r'.val = R.val; rw [idx6]; show (min ((t.val - 1) % 18) 15) * 128 + 1 * r'.val = R.val; first | omega | (simp only [rowT, colF]; omega)
  | ⟨1, _⟩ => show win0_6.index t (1 : Fin 2) * 512 + 1 * q.val = (t.val - 1) / 18 % 11 * 512 + q.val; rw [idx6]; show ((t.val - 1) / 18) * 512 + 1 * q.val = (t.val - 1) / 18 % 11 * 512 + q.val; first | omega | (simp only [rowT, colF]; omega)
theorem blk7 (c : Dev nD) (t : Fin cfg0.N) (r' : Fin 128) (q : Fin 512) (R : Fin 2048) (hR : R.val = 128 * min ((t.val - 1) % 18) 15 + r'.val) :
    iblk m c 7 t (ix2 r' q) = A7 m c (ix2 R (colF (t.val - 1) q)) := by
  have ht : t.val < 199 := lt_of_lt_of_eq t.isLt (show cfg0.N = 199 from N_0)
  show V m c main_arg7 (((cfg0.win 7).blk t).view.emb (ix2 r' q)) = V m c main_arg7 (ix2 R (colF (t.val - 1) q))
  congr 1; funext a; apply Fin.ext
  match a with
  | ⟨0, _⟩ => show win0_7.index t (0 : Fin 2) * 128 + 1 * r'.val = R.val; rw [idx7]; show (min ((t.val - 1) % 18) 15) * 128 + 1 * r'.val = R.val; first | omega | (simp only [rowT, colF]; omega)
  | ⟨1, _⟩ => show win0_7.index t (1 : Fin 2) * 512 + 1 * q.val = (t.val - 1) / 18 % 11 * 512 + q.val; rw [idx7]; show ((t.val - 1) / 18) * 512 + 1 * q.val = (t.val - 1) / 18 % 11 * 512 + q.val; first | omega | (simp only [rowT, colF]; omega)
theorem blk8 (c : Dev nD) (t : Fin cfg0.N) (r' : Fin 128) (q : Fin 512) (R : Fin 2048) (hR : R.val = 128 * min ((t.val - 1) % 18) 15 + r'.val) :
    iblk m c 8 t (ix2 r' q) = A8 m c (ix2 R (colF (t.val - 1) q)) := by
  have ht : t.val < 199 := lt_of_lt_of_eq t.isLt (show cfg0.N = 199 from N_0)
  show V m c main_arg8 (((cfg0.win 8).blk t).view.emb (ix2 r' q)) = V m c main_arg8 (ix2 R (colF (t.val - 1) q))
  congr 1; funext a; apply Fin.ext
  match a with
  | ⟨0, _⟩ => show win0_8.index t (0 : Fin 2) * 128 + 1 * r'.val = R.val; rw [idx8]; show (min ((t.val - 1) % 18) 15) * 128 + 1 * r'.val = R.val; first | omega | (simp only [rowT, colF]; omega)
  | ⟨1, _⟩ => show win0_8.index t (1 : Fin 2) * 512 + 1 * q.val = (t.val - 1) / 18 % 11 * 512 + q.val; rw [idx8]; show ((t.val - 1) / 18) * 512 + 1 * q.val = (t.val - 1) / 18 % 11 * 512 + q.val; first | omega | (simp only [rowT, colF]; omega)
theorem blk9 (c : Dev nD) (t : Fin cfg0.N) (r' : Fin 128) (q : Fin 512) (R : Fin 2048) (hR : R.val = 128 * min ((t.val - 1) % 18) 15 + r'.val) :
    iblk m c 9 t (ix2 r' q) = A9 m c (ix2 R (colF (t.val - 1) q)) := by
  have ht : t.val < 199 := lt_of_lt_of_eq t.isLt (show cfg0.N = 199 from N_0)
  show V m c main_arg9 (((cfg0.win 9).blk t).view.emb (ix2 r' q)) = V m c main_arg9 (ix2 R (colF (t.val - 1) q))
  congr 1; funext a; apply Fin.ext
  match a with
  | ⟨0, _⟩ => show win0_9.index t (0 : Fin 2) * 128 + 1 * r'.val = R.val; rw [idx9]; show (min ((t.val - 1) % 18) 15) * 128 + 1 * r'.val = R.val; first | omega | (simp only [rowT, colF]; omega)
  | ⟨1, _⟩ => show win0_9.index t (1 : Fin 2) * 512 + 1 * q.val = (t.val - 1) / 18 % 11 * 512 + q.val; rw [idx9]; show ((t.val - 1) / 18) * 512 + 1 * q.val = (t.val - 1) / 18 % 11 * 512 + q.val; first | omega | (simp only [rowT, colF]; omega)
theorem blk10 (c : Dev nD) (t : Fin cfg0.N) (q : Fin 512) :
    iblk m c 10 t (ix2 (0 : Fin 1) q) = A10 m c (ix2 (0 : Fin 1) (colF (t.val - 1) q)) := by
  have ht : t.val < 199 := lt_of_lt_of_eq t.isLt (show cfg0.N = 199 from N_0)
  show V m c main_arg10 (((cfg0.win 10).blk t).view.emb (ix2 (0 : Fin 1) q)) = V m c main_arg10 (ix2 (0 : Fin 1) (colF (t.val - 1) q))
  congr 1; funext a; apply Fin.ext
  match a with
  | ⟨0, _⟩ => show win0_10.index t (0 : Fin 2) * 1 + 1 * 0 = 0; rw [idx10]; show (0) * 1 + 1 * 0 = 0; first | omega | (simp only [rowT, colF]; omega)
  | ⟨1, _⟩ => show win0_10.index t (1 : Fin 2) * 512 + 1 * q.val = (t.val - 1) / 18 % 11 * 512 + q.val; rw [idx10]; show ((t.val - 1) / 18) * 512 + 1 * q.val = (t.val - 1) / 18 % 11 * 512 + q.val; first | omega | (simp only [rowT, colF]; omega)
theorem blk11 (c : Dev nD) (t : Fin cfg0.N) (q : Fin 512) :
    iblk m c 11 t (ix2 (0 : Fin 1) q) = A11 m c (ix2 (0 : Fin 1) (colF (t.val - 1) q)) := by
  have ht : t.val < 199 := lt_of_lt_of_eq t.isLt (show cfg0.N = 199 from N_0)
  show V m c main_arg11 (((cfg0.win 11).blk t).view.emb (ix2 (0 : Fin 1) q)) = V m c main_arg11 (ix2 (0 : Fin 1) (colF (t.val - 1) q))
  congr 1; funext a; apply Fin.ext
  match a with
  | ⟨0, _⟩ => show win0_11.index t (0 : Fin 2) * 1 + 1 * 0 = 0; rw [idx11]; show (0) * 1 + 1 * 0 = 0; first | omega | (simp only [rowT, colF]; omega)
  | ⟨1, _⟩ => show win0_11.index t (1 : Fin 2) * 512 + 1 * q.val = (t.val - 1) / 18 % 11 * 512 + q.val; rw [idx11]; show ((t.val - 1) / 18) * 512 + 1 * q.val = (t.val - 1) / 18 % 11 * 512 + q.val; first | omega | (simp only [rowT, colF]; omega)

/-! ## What the buffers hold point by point -/

/-- The scaled gradient of the gate projection at token `K`, channel `Q`. -/
def gradG (c : Dev nD) (K : Fin 9216) (Q : Fin 5632) : EReal :=
  Scalars.dGate (∑ l : Fin 2048, A0 m c (ix2 K l) * A1 m c (ix2 Q l)) (A2 m c (ix2 K Q)) (A3 m c (ix2 K Q)) (A4 m c (ix2 K (0 : Fin 1)))
/-- The scaled gradient of the up projection. -/
def gradU (c : Dev nD) (K : Fin 9216) (Q : Fin 5632) : EReal :=
  Scalars.dUp (∑ l : Fin 2048, A0 m c (ix2 K l) * A1 m c (ix2 Q l)) (A2 m c (ix2 K Q)) (A4 m c (ix2 K (0 : Fin 1)))
/-- The factor of the gate weight's row `R`, channel `Q`. -/
def facG (c : Dev nD) (R : Fin 2048) (Q : Fin 5632) : EReal :=
  Scalars.fac (A8 m c (ix2 R Q)) (A6 m c (ix2 R Q)) (A10 m c (ix2 (0 : Fin 1) Q))
/-- The factor of the up weight's row `R`, channel `Q`. -/
def facU (c : Dev nD) (R : Fin 2048) (Q : Fin 5632) : EReal :=
  Scalars.fac (A9 m c (ix2 R Q)) (A7 m c (ix2 R Q)) (A11 m c (ix2 (0 : Fin 1) Q))

/-- The sum over tile `n`'s tokens of codes times a gradient `D`. -/
def term (c : Dev nD) (D : Fin 9216 → Fin 5632 → EReal) (n : ℕ) (r : Fin 2048) (q : Fin 512) : EReal :=
  ∑ k : Fin 512, FloatOps.sitofp (F := Ideal) .bf16 (A5 m c (ix2 (rowT n k) r)) * D (rowT n k) (colF n q)

/-- The product's sum after tile `n`. -/
def acc (c : Dev nD) (D : Fin 9216 → Fin 5632 → EReal) (n : ℕ) (r : Fin 2048) (q : Fin 512) : EReal :=
  ∑ j ∈ Finset.range (n % 18 + 1), term m c D (18 * (n / 18) + j) r q

/-- An output block after the point that adds tile `n`: the sum so far, scaled at the last token tile. -/
def outAt (c : Dev nD) (D : Fin 9216 → Fin 5632 → EReal) (W : Fin 2048 → Fin 5632 → EReal) (n : ℕ) (r : Fin 2048) (q : Fin 512) : EReal :=
  if n % 18 = 17 then acc m c D n r q * W r (colF n q) else acc m c D n r q

/-- Before point `n` the slot the point multiplies holds the gradient of the tile before. -/
def SlotInv (D : Fin 9216 → Fin 5632 → EReal) (n : ℕ) (d : Vec Ideal S2x512x512 .bf16) : Prop :=
  n ≠ 0 → n < 199 → ∀ (sl : Fin 2) (r q : Fin 512), sl.val = (n - 1) % 2 → d (ix3 sl r q) = D (rowT (n - 1) r) (colF (n - 1) q)

/-- Before point `n` a factor scratch holds the rows the block's earlier points wrote. -/
def FacInv (W : Fin 2048 → Fin 5632 → EReal) (n : ℕ) (d : Vec Ideal S2048x512 .f32) : Prop :=
  ∀ (r : Fin 2048) (q : Fin 512), r.val < 128 * min ((n - 1) % 18) 16 → d (ix2 r q) = W r (colF (n - 1) q)

theorem acc_first (c : Dev nD) (D : Fin 9216 → Fin 5632 → EReal) (n : ℕ) (h : n % 18 = 0) (r : Fin 2048) (q : Fin 512) :
    acc m c D n r q = term m c D n r q := by
  unfold acc
  rw [h, Finset.sum_range_one, show 18 * (n / 18) + 0 = n from by omega]
theorem acc_next (c : Dev nD) (D : Fin 9216 → Fin 5632 → EReal) (n : ℕ) (h : n % 18 ≠ 0) (r : Fin 2048) (q : Fin 512) :
    acc m c D n r q = acc m c D (n - 1) r q + term m c D n r q := by
  unfold acc
  rw [show n % 18 + 1 = ((n - 1) % 18 + 1) + 1 from by omega, Finset.sum_range_succ,
    show (n - 1) / 18 = n / 18 from by omega, show 18 * (n / 18) + ((n - 1) % 18 + 1) = n from by omega]

/-- The sum a point adds into what the buffer held. -/
theorem sum_step (c : Dev nD) (D : Fin 9216 → Fin 5632 → EReal) (t : Fin cfg0.N) (ht : t.val ≠ 0) (y : Vec Ideal S2048x512 .f32)
    (d : Vec Ideal S2x512x512 .bf16) (hd : SlotInv D t.val d) (sl : Fin 2) (hsl : sl.val = 1 - t.val % 2) (r : Fin 2048) (q : Fin 512)
    (h0 : (t.val - 1) % 18 ≠ 0 → y (ix2 r q) = acc m c D (t.val - 1 - 1) r q) :
    Scalar.select (Scalar.cmpi .eq (BitVec.ofNat 32 (((grid0.coords t 0).val - 1) % 18)) 0#32) 0 (y (ix2 r q))
        + ∑ k : Fin 512, FloatOps.sitofp (F := Ideal) .bf16 (iblk m c 5 t (ix2 k r)) * d (ix3 sl k q)
      = acc m c D (t.val - 1) r q := by
  have hN : t.val < 199 := lt_of_lt_of_eq t.isLt (show cfg0.N = 199 from N_0)
  rw [start_at]
  have e : (∑ k : Fin 512, FloatOps.sitofp (F := Ideal) .bf16 (iblk m c 5 t (ix2 k r)) * d (ix3 sl k q)) = term m c D (t.val - 1) r q := by
    unfold term
    refine Finset.sum_congr rfl fun k _ => ?_
    rw [blk5, hd ht hN sl k q (by omega)]
  rw [e]
  by_cases h : (t.val - 1) % 18 = 0
  · rw [acc_first m c D _ h, decide_eq_true h]; exact zero_add _
  · rw [acc_next m c D _ h, decide_eq_false h, h0 h]; rfl

/-- The tile of gate gradients a point writes. -/
theorem slotG_step (c : Dev nD) (t : Fin cfg0.N) (d : Vec Ideal S2x512x512 .bf16) (x0 : Vec Ideal S512x2048 .bf16) (x1 : Vec Ideal S512x2048 .bf16)
    (h0 : x0 = iblk m c 0 t) (h1 : x1 = iblk m c 1 t)
    (h : ∀ (sl : Fin 2) (_ : sl.val = (grid0.coords t 0).val % 2) (r q : Fin 512) (s : EReal) (_ : ∀ k : Fin 128, iblk m c 4 t (ix2 r k) = s),
      d (ix3 sl r q) = Scalars.dGate (∑ l : Fin 2048, x0 (ix2 r l) * x1 (ix2 q l)) (iblk m c 2 t (ix2 r q)) (iblk m c 3 t (ix2 r q)) s) :
    SlotInv (gradG m c) (t.val + 1) d := by
  intro _ hn sl r q hsl
  have h198 : t.val < 198 := by omega
  rw [h sl (by rw [coord0]; exact hsl) r q _ (fun k => blk4 m c t h198 r k)]
  show _ = Scalars.dGate (∑ l : Fin 2048, A0 m c (ix2 (rowT t.val r) l) * A1 m c (ix2 (colF t.val q) l)) (A2 m c (ix2 (rowT t.val r) (colF t.val q))) (A3 m c (ix2 (rowT t.val r) (colF t.val q))) (A4 m c (ix2 (rowT t.val r) (0 : Fin 1)))
  rw [blk2 m c t h198, blk3 m c t h198]
  congr 1
  exact Finset.sum_congr rfl fun l _ => by rw [h0, h1, blk0 m c t h198, blk1 m c t h198]

/-- The tile of up gradients a point writes. -/
theorem slotU_step (c : Dev nD) (t : Fin cfg0.N) (d : Vec Ideal S2x512x512 .bf16) (x0 : Vec Ideal S512x2048 .bf16) (x1 : Vec Ideal S512x2048 .bf16)
    (h0 : x0 = iblk m c 0 t) (h1 : x1 = iblk m c 1 t)
    (h : ∀ (sl : Fin 2) (_ : sl.val = (grid0.coords t 0).val % 2) (r q : Fin 512) (s : EReal) (_ : ∀ k : Fin 128, iblk m c 4 t (ix2 r k) = s),
      d (ix3 sl r q) = Scalars.dUp (∑ l : Fin 2048, x0 (ix2 r l) * x1 (ix2 q l)) (iblk m c 2 t (ix2 r q)) s) :
    SlotInv (gradU m c) (t.val + 1) d := by
  intro _ hn sl r q hsl
  have h198 : t.val < 198 := by omega
  rw [h sl (by rw [coord0]; exact hsl) r q _ (fun k => blk4 m c t h198 r k)]
  show _ = Scalars.dUp (∑ l : Fin 2048, A0 m c (ix2 (rowT t.val r) l) * A1 m c (ix2 (colF t.val q) l)) (A2 m c (ix2 (rowT t.val r) (colF t.val q))) (A4 m c (ix2 (rowT t.val r) (0 : Fin 1)))
  rw [blk2 m c t h198]
  congr 1
  exact Finset.sum_congr rfl fun l _ => by rw [h0, h1, blk0 m c t h198, blk1 m c t h198]

/-- The rows of the factors that a point writes. -/
theorem facG_step (c : Dev nD) (t : Fin cfg0.N) (r : Fin 2048) (q : Fin 512) (r' : Fin 128) (hr : r.val = 128 * min ((t.val - 1) % 18) 15 + r'.val) :
    Scalars.fac (iblk m c 8 t (ix2 r' q)) (iblk m c 6 t (ix2 r' q)) (iblk m c 10 t (ix2 (0 : Fin 1) q)) = facG m c r (colF (t.val - 1) q) := by
  unfold facG
  rw [blk8 m c t r' q r hr, blk6 m c t r' q r hr, blk10]
theorem facU_step (c : Dev nD) (t : Fin cfg0.N) (r : Fin 2048) (q : Fin 512) (r' : Fin 128) (hr : r.val = 128 * min ((t.val - 1) % 18) 15 + r'.val) :
    Scalars.fac (iblk m c 9 t (ix2 r' q)) (iblk m c 7 t (ix2 r' q)) (iblk m c 11 t (ix2 (0 : Fin 1) q)) = facU m c r (colF (t.val - 1) q) := by
  unfold facU
  rw [blk9 m c t r' q r hr, blk7 m c t r' q r hr, blk11]

/-- The rows a factor scratch holds after a point, for contents that hold the written rows and the old ones elsewhere. -/
theorem fac_rows (W : Fin 2048 → Fin 5632 → EReal) (n : ℕ) (d d' : Vec Ideal S2048x512 .f32) (h : FacInv W n d)
    (hin : ∀ (r : Fin 2048) (q : Fin 512) (r' : Fin 128), r.val = 128 * min ((n - 1) % 18) 15 + r'.val → d' (ix2 r q) = W r (colF (n - 1) q))
    (hout : ∀ (r : Fin 2048) (q : Fin 512), (r.val < 128 * min ((n - 1) % 18) 15 ∨ 128 * min ((n - 1) % 18) 15 + 128 ≤ r.val) → d' (ix2 r q) = d (ix2 r q))
    (r : Fin 2048) (q : Fin 512) (hr : r.val < 128 * min ((n - 1) % 18 + 1) 16) : d' (ix2 r q) = W r (colF (n - 1) q) := by
  by_cases h1 : 128 * min ((n - 1) % 18) 15 ≤ r.val ∧ r.val < 128 * min ((n - 1) % 18) 15 + 128
  · exact hin r q ⟨r.val - 128 * min ((n - 1) % 18) 15, by omega⟩ (by show r.val = _ + (r.val - _); omega)
  · rw [hout r q (by omega)]
    exact h r q (by omega)

theorem fac_next (W : Fin 2048 → Fin 5632 → EReal) (n : ℕ) (hn : n ≠ 0) (d' : Vec Ideal S2048x512 .f32)
    (h : ∀ (r : Fin 2048) (q : Fin 512), r.val < 128 * min ((n - 1) % 18 + 1) 16 → d' (ix2 r q) = W r (colF (n - 1) q)) : FacInv W (n + 1) d' := by
  intro r q hr
  rw [show n + 1 - 1 = n from rfl] at hr ⊢
  by_cases h1 : n % 18 = 0
  · rw [h1] at hr; simp at hr
  · rw [h r q (by omega)]
    simp only [colF, show (n - 1) / 18 = n / 18 from by omega]

/-! ## The pipeline's proof data -/

abbrev scM0_0 : Memref sig .tc .vmem S2x512x512 .bf16 := Memref.whole cc0_scratch0
abbrev scM0_1 : Memref sig .tc .vmem S2x512x512 .bf16 := Memref.whole cc0_scratch1
abbrev scM0_2 : Memref sig .tc .vmem S2048x512 .f32 := Memref.whole cc0_scratch2
abbrev scM0_3 : Memref sig .tc .vmem S2048x512 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What the body carries between points: the scratches at contents the invariants describe. -/
def carried (c : Dev nD) (n : ℕ) : sProp 𝕄 :=
  iprop(∃ d0 d1 d2 d3, ⌜SlotInv (gradG m c) n d0 ∧ SlotInv (gradU m c) n d1 ∧ FacInv (facG m c) n d2 ∧ FacInv (facU m c) n d3⌝
    ∗ owns (c : Thread nD τ) scM0_0 fullShare d0 ∗ owns (c : Thread nD τ) scM0_1 fullShare d1
    ∗ owns (c : Thread nD τ) scM0_2 fullShare d2 ∗ owns (c : Thread nD τ) scM0_3 fullShare d3 ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => fun y : S2048x512.Idx => outAt m c (gradG m c) (facG m c) (t.val - 1) (y 0) (y 1)
    | ⟨13, _⟩ => fun y : S2048x512.Idx => outAt m c (gradU m c) (facU m c) (t.val - 1) (y 0) (y 1)
  Φ n := carried m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) ((cfg0.win 0).stage (cfg0.slots t 0)) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) ((cfg0.win 1).stage (cfg0.slots t 1)) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) ((cfg0.win 2).stage (cfg0.slots t 2)) fullShare (iblk m c 2 t) := by
  unfold Dat.leavesExact; rw [show cfg0.idle 2 (grid0.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) ((cfg0.win 3).stage (cfg0.slots t 3)) fullShare (iblk m c 3 t) := by
  unfold Dat.leavesExact; rw [show cfg0.idle 3 (grid0.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) ((cfg0.win 4).stage (cfg0.slots t 4)) fullShare (iblk m c 4 t) := by
  unfold Dat.leavesExact; rw [show cfg0.idle 4 (grid0.coords t) = false from rfl, after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) ((cfg0.win 5).stage (cfg0.slots t 5)) fullShare (iblk m c 5 t) := by
  unfold Dat.leavesExact; rw [show cfg0.idle 5 (grid0.coords t) = false from rfl, after0_5]
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) : (dats m 0 c).leavesExact 6 t = owns (c : Thread nD τ) ((cfg0.win 6).stage (cfg0.slots t 6)) fullShare (iblk m c 6 t) := by
  unfold Dat.leavesExact; rw [show cfg0.idle 6 (grid0.coords t) = false from rfl, after0_6]
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) : (dats m 0 c).leavesExact 7 t = owns (c : Thread nD τ) ((cfg0.win 7).stage (cfg0.slots t 7)) fullShare (iblk m c 7 t) := by
  unfold Dat.leavesExact; rw [show cfg0.idle 7 (grid0.coords t) = false from rfl, after0_7]
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) : (dats m 0 c).leavesExact 8 t = owns (c : Thread nD τ) ((cfg0.win 8).stage (cfg0.slots t 8)) fullShare (iblk m c 8 t) := by
  unfold Dat.leavesExact; rw [show cfg0.idle 8 (grid0.coords t) = false from rfl, after0_8]
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) : (dats m 0 c).leavesExact 9 t = owns (c : Thread nD τ) ((cfg0.win 9).stage (cfg0.slots t 9)) fullShare (iblk m c 9 t) := by
  unfold Dat.leavesExact; rw [show cfg0.idle 9 (grid0.coords t) = false from rfl, after0_9]
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem leaves0_10 (c : Dev nD) (t : Fin cfg0.N) : (dats m 0 c).leavesExact 10 t = owns (c : Thread nD τ) ((cfg0.win 10).stage (cfg0.slots t 10)) fullShare (iblk m c 10 t) := by
  unfold Dat.leavesExact; rw [show cfg0.idle 10 (grid0.coords t) = false from rfl, after0_10]
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
theorem leaves0_11 (c : Dev nD) (t : Fin cfg0.N) : (dats m 0 c).leavesExact 11 t = owns (c : Thread nD τ) ((cfg0.win 11).stage (cfg0.slots t 11)) fullShare (iblk m c 11 t) := by
  unfold Dat.leavesExact; rw [show cfg0.idle 11 (grid0.coords t) = false from rfl, after0_11]
theorem after0_12 (c : Dev nD) (t : Fin cfg0.N) : (dats m 0 c).after 12 t = fun y : S2048x512.Idx => outAt m c (gradG m c) (facG m c) (t.val - 1) (y 0) (y 1) := by dsimp only [dats]
theorem leaves0_12 (c : Dev nD) (t : Fin cfg0.N) (h : t.val ≠ 0) : (dats m 0 c).leavesExact 12 t = owns (c : Thread nD τ) (st0_12 t) fullShare (fun y : S2048x512.Idx => outAt m c (gradG m c) (facG m c) (t.val - 1) (y 0) (y 1)) := by
  unfold Dat.leavesExact; rw [idle12, decide_eq_false h, after0_12]
theorem leaves0_12_zero (c : Dev nD) (t : Fin cfg0.N) (h : t.val = 0) : (dats m 0 c).leavesExact 12 t = iprop(∃ d, owns (c : Thread nD τ) (st0_12 t) fullShare ((dats m 0 c).before 12 t d)) :=
  (dats m 0 c).leavesExact_idle 12 t (by rw [idle12, decide_eq_true h]) (by rw [flush12]; exact decide_eq_false (fun hh => hh.1 h))

/-- What the output buffer holds where a point adds to it: the sum the point before left. -/
theorem before0_12 (c : Dev nD) (t : Fin cfg0.N) (h : (t.val - 1) % 18 ≠ 0) (d) (r : Fin 2048) (q : Fin 512) :
    ((dats m 0 c).before 12 t d : Vec Ideal S2048x512 .f32) (ix2 r q) = acc m c (gradG m c) (t.val - 1 - 1) r q := by
  have ht : t.val < 199 := lt_of_lt_of_eq t.isLt (show cfg0.N = 199 from N_0)
  rw [(dats m 0 c).before_of_pos 12 t (by omega) ((cfg0.win 12).fetch_out rfl t), flush12,
    decide_eq_false (fun hh : t.val - 1 ≠ 0 ∧ (t.val - 1) % 18 = 0 => h hh.2), if_neg Bool.false_ne_true]
  unfold Dat.left
  rw [idle12, decide_eq_false (fun hh : t.val - 1 = 0 => h (by rw [hh]))]
  show (dats m 0 c).kept 12 _ d (ix2 r q) = _
  unfold Dat.kept
  rw [Pipeline.fill_of_clip_none 12 _ (fun _ => rfl) d ((dats m 0 c).after 12 _), Window.fill_cut, after0_12]
  show outAt m c _ _ (t.val - 1 - 1) r q = _
  unfold outAt
  rw [if_neg (by omega)]

theorem after0_13 (c : Dev nD) (t : Fin cfg0.N) : (dats m 0 c).after 13 t = fun y : S2048x512.Idx => outAt m c (gradU m c) (facU m c) (t.val - 1) (y 0) (y 1) := by dsimp only [dats]
theorem leaves0_13 (c : Dev nD) (t : Fin cfg0.N) (h : t.val ≠ 0) : (dats m 0 c).leavesExact 13 t = owns (c : Thread nD τ) (st0_13 t) fullShare (fun y : S2048x512.Idx => outAt m c (gradU m c) (facU m c) (t.val - 1) (y 0) (y 1)) := by
  unfold Dat.leavesExact; rw [idle13, decide_eq_false h, after0_13]
theorem leaves0_13_zero (c : Dev nD) (t : Fin cfg0.N) (h : t.val = 0) : (dats m 0 c).leavesExact 13 t = iprop(∃ d, owns (c : Thread nD τ) (st0_13 t) fullShare ((dats m 0 c).before 13 t d)) :=
  (dats m 0 c).leavesExact_idle 13 t (by rw [idle13, decide_eq_true h]) (by rw [flush13]; exact decide_eq_false (fun hh => hh.1 h))

/-- What the output buffer holds where a point adds to it: the sum the point before left. -/
theorem before0_13 (c : Dev nD) (t : Fin cfg0.N) (h : (t.val - 1) % 18 ≠ 0) (d) (r : Fin 2048) (q : Fin 512) :
    ((dats m 0 c).before 13 t d : Vec Ideal S2048x512 .f32) (ix2 r q) = acc m c (gradU m c) (t.val - 1 - 1) r q := by
  have ht : t.val < 199 := lt_of_lt_of_eq t.isLt (show cfg0.N = 199 from N_0)
  rw [(dats m 0 c).before_of_pos 13 t (by omega) ((cfg0.win 13).fetch_out rfl t), flush13,
    decide_eq_false (fun hh : t.val - 1 ≠ 0 ∧ (t.val - 1) % 18 = 0 => h hh.2), if_neg Bool.false_ne_true]
  unfold Dat.left
  rw [idle13, decide_eq_false (fun hh : t.val - 1 = 0 => h (by rw [hh]))]
  show (dats m 0 c).kept 13 _ d (ix2 r q) = _
  unfold Dat.kept
  rw [Pipeline.fill_of_clip_none 13 _ (fun _ => rfl) d ((dats m 0 c).after 13 _), Window.fill_cut, after0_13]
  show outAt m c _ _ (t.val - 1 - 1) r q = _
  unfold outAt
  rw [if_neg (by omega)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

end Cert.BwdIdeal.Hand
end
-- ==== Proof.BwdStep.lean ====
module

public import proofs.«01_k».proof.Proof.Gen.BwdIdeal.Skeleton
public import proofs.«01_k».proof.Proof.Gen.BwdIdeal.Frame
public import proofs.«01_k».proof.Proof.BwdInv
public import Idealize.ShloMosaic.Lib.Claim
public import Idealize.ShloMosaic.Lib.Pipeline.FrameBody

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The branches a point does not take. -/
theorem cond1_off (t : Fin cfg0.N) (h : t.val % 18 ≠ 0) : ¬ k0_cond1 (grid0.coords t) = 1#1 :=
  fun hc => h (by rw [(cond1_iff t).mp hc])
theorem cond2_off (t : Fin cfg0.N) (h : t.val = 0) : ¬ k0_cond2 (grid0.coords t) = 1#1 :=
  fun hc => (cond2_iff t).mp hc (by rw [h])

theorem first_slotG (c : Dev nD) (t : Fin cfg0.N) (h0 : t.val = 0) (s0 s1 : Vec Ideal S2x512x512 .bf16) (s2 s3 : Vec Ideal S2048x512 .f32) (y0 y1 : Vec Ideal S2048x512 .f32) :
    SlotInv (gradG m c) (t.val + 1) (runFirst (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) ((cond1_iff t).mpr h0) (cond2_off t h0) (fun h => ((cond3_iff t).mp h).1 h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.1 :=
  slotG_step m c t _ (iblk m c 0 t) (iblk m c 1 t) rfl rfl (fun sl hsl r q s hs => first_dg c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 ((cond1_iff t).mpr h0) (cond2_off t h0) (fun h => ((cond3_iff t).mp h).1 h0) sl hsl r q s hs)
theorem first_slotU (c : Dev nD) (t : Fin cfg0.N) (h0 : t.val = 0) (s0 s1 : Vec Ideal S2x512x512 .bf16) (s2 s3 : Vec Ideal S2048x512 .f32) (y0 y1 : Vec Ideal S2048x512 .f32) :
    SlotInv (gradU m c) (t.val + 1) (runFirst (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) ((cond1_iff t).mpr h0) (cond2_off t h0) (fun h => ((cond3_iff t).mp h).1 h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2 :=
  slotU_step m c t _ (iblk m c 0 t) (iblk m c 1 t) rfl rfl (fun sl hsl r q s hs => first_du c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 ((cond1_iff t).mpr h0) (cond2_off t h0) (fun h => ((cond3_iff t).mp h).1 h0) sl hsl r q s hs)
theorem mid_slotG (c : Dev nD) (t : Fin cfg0.N) (h1 : t.val % 18 ≠ 0) (s0 s1 : Vec Ideal S2x512x512 .bf16) (s2 s3 : Vec Ideal S2048x512 .f32) (y0 y1 : Vec Ideal S2048x512 .f32) :
    SlotInv (gradG m c) (t.val + 1) (runMid (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (cond1_off t h1) ((cond2_iff t).mpr h1) (fun h => h1 ((cond3_iff t).mp h).2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.1 :=
  slotG_step m c t _ (iblk m c 0 t) (iblk m c 1 t) rfl rfl (fun sl hsl r q s hs => mid_dg c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (cond1_off t h1) ((cond2_iff t).mpr h1) (fun h => h1 ((cond3_iff t).mp h).2) sl hsl r q s hs)
theorem mid_rowsG (c : Dev nD) (t : Fin cfg0.N) (h1 : t.val % 18 ≠ 0) (s0 s1 : Vec Ideal S2x512x512 .bf16) (s2 s3 : Vec Ideal S2048x512 .f32) (y0 y1 : Vec Ideal S2048x512 .f32) (h : FacInv (facG m c) t.val s2) (r : Fin 2048) (q : Fin 512) (hr : r.val < 128 * min ((t.val - 1) % 18 + 1) 16) :
    ((runMid (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (cond1_off t h1) ((cond2_iff t).mpr h1) (fun h => h1 ((cond3_iff t).mp h).2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.2.2.1 : Vec Ideal S2048x512 .f32) (ix2 r q) = facG m c r (colF (t.val - 1) q) :=
  fac_rows (facG m c) t.val s2 _ h (fun r q r' hr => (mid_fac0_in c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (cond1_off t h1) ((cond2_iff t).mpr h1) (fun h => h1 ((cond3_iff t).mp h).2) r q r' (by rw [coord0 t]; exact hr)).trans (facG_step m c t r q r' hr)) (fun r q hr => mid_fac0_out c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (cond1_off t h1) ((cond2_iff t).mpr h1) (fun h => h1 ((cond3_iff t).mp h).2) r q (by rw [coord0 t]; exact hr)) r q hr
theorem mid_facsG (c : Dev nD) (t : Fin cfg0.N) (h1 : t.val % 18 ≠ 0) (s0 s1 : Vec Ideal S2x512x512 .bf16) (s2 s3 : Vec Ideal S2048x512 .f32) (y0 y1 : Vec Ideal S2048x512 .f32) (h : FacInv (facG m c) t.val s2) :
    FacInv (facG m c) (t.val + 1) (runMid (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (cond1_off t h1) ((cond2_iff t).mpr h1) (fun h => h1 ((cond3_iff t).mp h).2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.2.2.1 :=
  fac_next _ t.val (fun h => h1 (by rw [h])) _ (mid_rowsG m c t h1 s0 s1 s2 s3 y0 y1 h)
theorem mid_sumG (c : Dev nD) (t : Fin cfg0.N) (h1 : t.val % 18 ≠ 0) (s0 s1 : Vec Ideal S2x512x512 .bf16) (s2 s3 : Vec Ideal S2048x512 .f32) (y0 y1 : Vec Ideal S2048x512 .f32) (h : SlotInv (gradG m c) t.val s0)
    (hy : (t.val - 1) % 18 ≠ 0 → ∀ r q, y0 (ix2 r q) = acc m c (gradG m c) (t.val - 1 - 1) r q) :
    (fun y : S2048x512.Idx => outAt m c (gradG m c) (facG m c) (t.val - 1) (y 0) (y 1)) = (runMid (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (cond1_off t h1) ((cond2_iff t).mpr h1) (fun h => h1 ((cond3_iff t).mp h).2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.1 := by
  have h0 : t.val ≠ 0 := fun h => h1 (by rw [h])
  have hN : t.val < 199 := lt_of_lt_of_eq t.isLt (show cfg0.N = 199 from N_0)
  funext y
  obtain ⟨r, q, rfl⟩ : ∃ r q, y = ix2 r q := ⟨_, _, eq_ix2 y⟩
  refine Eq.trans ?_ (mid_out0 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (cond1_off t h1) ((cond2_iff t).mpr h1) (fun h => h1 ((cond3_iff t).mp h).2) ⟨1 - t.val % 2, by omega⟩ (by rw [coord0 t]) r q).symm
  refine Eq.trans ?_ (sum_step m c (gradG m c) t h0 y0 s0 h ⟨1 - t.val % 2, by omega⟩ rfl r q (fun h => hy h r q)).symm
  show outAt m c _ _ _ r q = _
  unfold outAt; rw [if_neg (by omega)]
theorem mid_slotU (c : Dev nD) (t : Fin cfg0.N) (h1 : t.val % 18 ≠ 0) (s0 s1 : Vec Ideal S2x512x512 .bf16) (s2 s3 : Vec Ideal S2048x512 .f32) (y0 y1 : Vec Ideal S2048x512 .f32) :
    SlotInv (gradU m c) (t.val + 1) (runMid (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (cond1_off t h1) ((cond2_iff t).mpr h1) (fun h => h1 ((cond3_iff t).mp h).2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.2.1 :=
  slotU_step m c t _ (iblk m c 0 t) (iblk m c 1 t) rfl rfl (fun sl hsl r q s hs => mid_du c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (cond1_off t h1) ((cond2_iff t).mpr h1) (fun h => h1 ((cond3_iff t).mp h).2) sl hsl r q s hs)
theorem mid_rowsU (c : Dev nD) (t : Fin cfg0.N) (h1 : t.val % 18 ≠ 0) (s0 s1 : Vec Ideal S2x512x512 .bf16) (s2 s3 : Vec Ideal S2048x512 .f32) (y0 y1 : Vec Ideal S2048x512 .f32) (h : FacInv (facU m c) t.val s3) (r : Fin 2048) (q : Fin 512) (hr : r.val < 128 * min ((t.val - 1) % 18 + 1) 16) :
    ((runMid (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (cond1_off t h1) ((cond2_iff t).mpr h1) (fun h => h1 ((cond3_iff t).mp h).2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.2.2.2 : Vec Ideal S2048x512 .f32) (ix2 r q) = facU m c r (colF (t.val - 1) q) :=
  fac_rows (facU m c) t.val s3 _ h (fun r q r' hr => (mid_fac1_in c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (cond1_off t h1) ((cond2_iff t).mpr h1) (fun h => h1 ((cond3_iff t).mp h).2) r q r' (by rw [coord0 t]; exact hr)).trans (facU_step m c t r q r' hr)) (fun r q hr => mid_fac1_out c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (cond1_off t h1) ((cond2_iff t).mpr h1) (fun h => h1 ((cond3_iff t).mp h).2) r q (by rw [coord0 t]; exact hr)) r q hr
theorem mid_facsU (c : Dev nD) (t : Fin cfg0.N) (h1 : t.val % 18 ≠ 0) (s0 s1 : Vec Ideal S2x512x512 .bf16) (s2 s3 : Vec Ideal S2048x512 .f32) (y0 y1 : Vec Ideal S2048x512 .f32) (h : FacInv (facU m c) t.val s3) :
    FacInv (facU m c) (t.val + 1) (runMid (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (cond1_off t h1) ((cond2_iff t).mpr h1) (fun h => h1 ((cond3_iff t).mp h).2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.2.2.2 :=
  fac_next _ t.val (fun h => h1 (by rw [h])) _ (mid_rowsU m c t h1 s0 s1 s2 s3 y0 y1 h)
theorem mid_sumU (c : Dev nD) (t : Fin cfg0.N) (h1 : t.val % 18 ≠ 0) (s0 s1 : Vec Ideal S2x512x512 .bf16) (s2 s3 : Vec Ideal S2048x512 .f32) (y0 y1 : Vec Ideal S2048x512 .f32) (h : SlotInv (gradU m c) t.val s1)
    (hy : (t.val - 1) % 18 ≠ 0 → ∀ r q, y1 (ix2 r q) = acc m c (gradU m c) (t.val - 1 - 1) r q) :
    (fun y : S2048x512.Idx => outAt m c (gradU m c) (facU m c) (t.val - 1) (y 0) (y 1)) = (runMid (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (cond1_off t h1) ((cond2_iff t).mpr h1) (fun h => h1 ((cond3_iff t).mp h).2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.1 := by
  have h0 : t.val ≠ 0 := fun h => h1 (by rw [h])
  have hN : t.val < 199 := lt_of_lt_of_eq t.isLt (show cfg0.N = 199 from N_0)
  funext y
  obtain ⟨r, q, rfl⟩ : ∃ r q, y = ix2 r q := ⟨_, _, eq_ix2 y⟩
  refine Eq.trans ?_ (mid_out1 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (cond1_off t h1) ((cond2_iff t).mpr h1) (fun h => h1 ((cond3_iff t).mp h).2) ⟨1 - t.val % 2, by omega⟩ (by rw [coord0 t]) r q).symm
  refine Eq.trans ?_ (sum_step m c (gradU m c) t h0 y1 s1 h ⟨1 - t.val % 2, by omega⟩ rfl r q (fun h => hy h r q)).symm
  show outAt m c _ _ _ r q = _
  unfold outAt; rw [if_neg (by omega)]
theorem last_slotG (c : Dev nD) (t : Fin cfg0.N) (h0 : t.val ≠ 0) (h1 : t.val % 18 = 0) (s0 s1 : Vec Ideal S2x512x512 .bf16) (s2 s3 : Vec Ideal S2048x512 .f32) (y0 y1 : Vec Ideal S2048x512 .f32) :
    SlotInv (gradG m c) (t.val + 1) (runLast (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => h0 ((cond1_iff t).mp h)) (fun h => (cond2_iff t).mp h h1) ((cond3_iff t).mpr ⟨h0, h1⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.1 :=
  slotG_step m c t _ (iblk m c 0 t) (iblk m c 1 t) rfl rfl (fun sl hsl r q s hs => last_dg c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (fun h => h0 ((cond1_iff t).mp h)) (fun h => (cond2_iff t).mp h h1) ((cond3_iff t).mpr ⟨h0, h1⟩) sl hsl r q s hs)
theorem last_rowsG (c : Dev nD) (t : Fin cfg0.N) (h0 : t.val ≠ 0) (h1 : t.val % 18 = 0) (s0 s1 : Vec Ideal S2x512x512 .bf16) (s2 s3 : Vec Ideal S2048x512 .f32) (y0 y1 : Vec Ideal S2048x512 .f32) (h : FacInv (facG m c) t.val s2) (r : Fin 2048) (q : Fin 512) (hr : r.val < 128 * min ((t.val - 1) % 18 + 1) 16) :
    ((runLast (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => h0 ((cond1_iff t).mp h)) (fun h => (cond2_iff t).mp h h1) ((cond3_iff t).mpr ⟨h0, h1⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.2.2.1 : Vec Ideal S2048x512 .f32) (ix2 r q) = facG m c r (colF (t.val - 1) q) :=
  fac_rows (facG m c) t.val s2 _ h (fun r q r' hr => (last_fac0_in c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (fun h => h0 ((cond1_iff t).mp h)) (fun h => (cond2_iff t).mp h h1) ((cond3_iff t).mpr ⟨h0, h1⟩) r q r' (by rw [coord0 t]; exact hr)).trans (facG_step m c t r q r' hr)) (fun r q hr => last_fac0_out c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (fun h => h0 ((cond1_iff t).mp h)) (fun h => (cond2_iff t).mp h h1) ((cond3_iff t).mpr ⟨h0, h1⟩) r q (by rw [coord0 t]; exact hr)) r q hr
theorem last_facsG (c : Dev nD) (t : Fin cfg0.N) (h0 : t.val ≠ 0) (h1 : t.val % 18 = 0) (s0 s1 : Vec Ideal S2x512x512 .bf16) (s2 s3 : Vec Ideal S2048x512 .f32) (y0 y1 : Vec Ideal S2048x512 .f32) (h : FacInv (facG m c) t.val s2) :
    FacInv (facG m c) (t.val + 1) (runLast (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => h0 ((cond1_iff t).mp h)) (fun h => (cond2_iff t).mp h h1) ((cond3_iff t).mpr ⟨h0, h1⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.2.2.1 :=
  fac_next _ t.val h0 _ (last_rowsG m c t h0 h1 s0 s1 s2 s3 y0 y1 h)
theorem last_sumG (c : Dev nD) (t : Fin cfg0.N) (h0 : t.val ≠ 0) (h1 : t.val % 18 = 0) (s0 s1 : Vec Ideal S2x512x512 .bf16) (s2 s3 : Vec Ideal S2048x512 .f32) (y0 y1 : Vec Ideal S2048x512 .f32) (h : SlotInv (gradG m c) t.val s0) (hf : FacInv (facG m c) t.val s2)
    (hy : (t.val - 1) % 18 ≠ 0 → ∀ r q, y0 (ix2 r q) = acc m c (gradG m c) (t.val - 1 - 1) r q) :
    (fun y : S2048x512.Idx => outAt m c (gradG m c) (facG m c) (t.val - 1) (y 0) (y 1)) = (runLast (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => h0 ((cond1_iff t).mp h)) (fun h => (cond2_iff t).mp h h1) ((cond3_iff t).mpr ⟨h0, h1⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.1 := by
  have hN : t.val < 199 := lt_of_lt_of_eq t.isLt (show cfg0.N = 199 from N_0)
  funext y
  obtain ⟨r, q, rfl⟩ : ∃ r q, y = ix2 r q := ⟨_, _, eq_ix2 y⟩
  refine Eq.trans ?_ (last_out0 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (fun h => h0 ((cond1_iff t).mp h)) (fun h => (cond2_iff t).mp h h1) ((cond3_iff t).mpr ⟨h0, h1⟩) ⟨1 - t.val % 2, by omega⟩ (by rw [coord0 t]) r q).symm
  refine Eq.trans ?_ (congrArg₂ (· * ·) (sum_step m c (gradG m c) t h0 y0 s0 h ⟨1 - t.val % 2, by omega⟩ rfl r q (fun h => hy h r q)) (last_rowsG m c t h0 h1 s0 s1 s2 s3 y0 y1 hf r q (by omega))).symm
  show outAt m c _ _ _ r q = _
  unfold outAt; rw [if_pos (by omega)]
theorem last_slotU (c : Dev nD) (t : Fin cfg0.N) (h0 : t.val ≠ 0) (h1 : t.val % 18 = 0) (s0 s1 : Vec Ideal S2x512x512 .bf16) (s2 s3 : Vec Ideal S2048x512 .f32) (y0 y1 : Vec Ideal S2048x512 .f32) :
    SlotInv (gradU m c) (t.val + 1) (runLast (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => h0 ((cond1_iff t).mp h)) (fun h => (cond2_iff t).mp h h1) ((cond3_iff t).mpr ⟨h0, h1⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.2.1 :=
  slotU_step m c t _ (iblk m c 0 t) (iblk m c 1 t) rfl rfl (fun sl hsl r q s hs => last_du c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (fun h => h0 ((cond1_iff t).mp h)) (fun h => (cond2_iff t).mp h h1) ((cond3_iff t).mpr ⟨h0, h1⟩) sl hsl r q s hs)
theorem last_rowsU (c : Dev nD) (t : Fin cfg0.N) (h0 : t.val ≠ 0) (h1 : t.val % 18 = 0) (s0 s1 : Vec Ideal S2x512x512 .bf16) (s2 s3 : Vec Ideal S2048x512 .f32) (y0 y1 : Vec Ideal S2048x512 .f32) (h : FacInv (facU m c) t.val s3) (r : Fin 2048) (q : Fin 512) (hr : r.val < 128 * min ((t.val - 1) % 18 + 1) 16) :
    ((runLast (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => h0 ((cond1_iff t).mp h)) (fun h => (cond2_iff t).mp h h1) ((cond3_iff t).mpr ⟨h0, h1⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.2.2.2 : Vec Ideal S2048x512 .f32) (ix2 r q) = facU m c r (colF (t.val - 1) q) :=
  fac_rows (facU m c) t.val s3 _ h (fun r q r' hr => (last_fac1_in c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (fun h => h0 ((cond1_iff t).mp h)) (fun h => (cond2_iff t).mp h h1) ((cond3_iff t).mpr ⟨h0, h1⟩) r q r' (by rw [coord0 t]; exact hr)).trans (facU_step m c t r q r' hr)) (fun r q hr => last_fac1_out c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (fun h => h0 ((cond1_iff t).mp h)) (fun h => (cond2_iff t).mp h h1) ((cond3_iff t).mpr ⟨h0, h1⟩) r q (by rw [coord0 t]; exact hr)) r q hr
theorem last_facsU (c : Dev nD) (t : Fin cfg0.N) (h0 : t.val ≠ 0) (h1 : t.val % 18 = 0) (s0 s1 : Vec Ideal S2x512x512 .bf16) (s2 s3 : Vec Ideal S2048x512 .f32) (y0 y1 : Vec Ideal S2048x512 .f32) (h : FacInv (facU m c) t.val s3) :
    FacInv (facU m c) (t.val + 1) (runLast (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => h0 ((cond1_iff t).mp h)) (fun h => (cond2_iff t).mp h h1) ((cond3_iff t).mpr ⟨h0, h1⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.2.2.2.2 :=
  fac_next _ t.val h0 _ (last_rowsU m c t h0 h1 s0 s1 s2 s3 y0 y1 h)
theorem last_sumU (c : Dev nD) (t : Fin cfg0.N) (h0 : t.val ≠ 0) (h1 : t.val % 18 = 0) (s0 s1 : Vec Ideal S2x512x512 .bf16) (s2 s3 : Vec Ideal S2048x512 .f32) (y0 y1 : Vec Ideal S2048x512 .f32) (h : SlotInv (gradU m c) t.val s1) (hf : FacInv (facU m c) t.val s3)
    (hy : (t.val - 1) % 18 ≠ 0 → ∀ r q, y1 (ix2 r q) = acc m c (gradU m c) (t.val - 1 - 1) r q) :
    (fun y : S2048x512.Idx => outAt m c (gradU m c) (facU m c) (t.val - 1) (y 0) (y 1)) = (runLast (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => h0 ((cond1_iff t).mp h)) (fun h => (cond2_iff t).mp h h1) ((cond3_iff t).mpr ⟨h0, h1⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3).1.2.1 := by
  have hN : t.val < 199 := lt_of_lt_of_eq t.isLt (show cfg0.N = 199 from N_0)
  funext y
  obtain ⟨r, q, rfl⟩ : ∃ r q, y = ix2 r q := ⟨_, _, eq_ix2 y⟩
  refine Eq.trans ?_ (last_out1 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 s0 s1 s2 s3 (fun h => h0 ((cond1_iff t).mp h)) (fun h => (cond2_iff t).mp h h1) ((cond3_iff t).mpr ⟨h0, h1⟩) ⟨1 - t.val % 2, by omega⟩ (by rw [coord0 t]) r q).symm
  refine Eq.trans ?_ (congrArg₂ (· * ·) (sum_step m c (gradU m c) t h0 y1 s1 h ⟨1 - t.val % 2, by omega⟩ rfl r q (fun h => hy h r q)) (last_rowsU m c t h0 h1 s0 s1 s2 s3 y0 y1 hf r q (by omega))).symm
  show outAt m c _ _ _ r q = _
  unfold outAt; rw [if_pos (by omega)]

end Cert.BwdIdeal.Hand
end
-- ==== Proof.BwdSound.lean ====
module

public import proofs.«01_k».proof.Proof.Gen.BwdIdeal.Skeleton
public import proofs.«01_k».proof.Proof.Gen.BwdIdeal.Frame
public import proofs.«01_k».proof.Proof.BwdStep
public import Idealize.ShloMosaic.Lib.Claim
public import Idealize.ShloMosaic.Lib.Pipeline.FrameBody

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1600000 in
theorem sound_first (c : Dev nD) (t : Fin cfg0.N) (h0 : t.val = 0) :
    bodyPre m c t ⊢ wp frame (wpE (defs₀ (F := Ideal)) Variants.none c none) Set.univ (bodyAt0 t) (fun _ => bodyPost m c t) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11]
  rw [leaves0_12_zero m c t h0, leaves0_13_zero m c t h0, show (dats m 0 c).Φ t.castSucc = carried m c t.val from rfl, show (dats m 0 c).Φ t.succ = carried m c (t.val + 1) from rfl,
    show (dats m 0 c).owesAt () t.succ = (dats m 0 c).owesAt () t.castSucc from rfl]
  unfold carried
  have hN : t.val < 199 := lt_of_lt_of_eq t.isLt (show cfg0.N = 199 from N_0)
  have e0 := coord0 t
  iintro ⟨⟨%s0, %s1, %s2, %s3, %hI, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain ⟨hI0, hI1, hI2, hI3⟩ := hI
  iapply ((runFirst (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) ((cond1_iff t).mpr h0) (cond2_off t h0) (fun h => ((cond3_iff t).mp h).1 h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ s0 s1 s2 s3).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S0]; · iexact S0
  isplitl [S1]; · iexact S1
  isplitl [S2]; · iexact S2
  isplitl [S3]; · iexact S3
  iintro ⟨H0, H1, H2, H3, H4, H5, H6, H7, H8, H9, H10, H11, H12, H13, S0, S1, S2, S3⟩
  isplitl [S0 S1 S2 S3 Hg]
  · iexists _, _, _, _; isplitr; swap
    · isplitl [S0]; · iexact S0
      isplitl [S1]; · iexact S1
      isplitl [S2]; · iexact S2
      isplitl [S3]; · iexact S3
      iexact Hg
    ipureintro
    exact ⟨first_slotG m c t h0 s0 s1 s2 s3 ((dats m 0 c).before 12 t d12) ((dats m 0 c).before 13 t d13), first_slotU m c t h0 s0 s1 s2 s3 ((dats m 0 c).before 12 t d12) ((dats m 0 c).before 13 t d13),
      fun r q hr => absurd hr (by rw [h0]; simp), fun r q hr => absurd hr (by rw [h0]; simp)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iexists _; iexact H13

set_option maxHeartbeats 1600000 in
theorem sound_mid (c : Dev nD) (t : Fin cfg0.N) (h1 : t.val % 18 ≠ 0) :
    bodyPre m c t ⊢ wp frame (wpE (defs₀ (F := Ideal)) Variants.none c none) Set.univ (bodyAt0 t) (fun _ => bodyPost m c t) := by
  have h0 : t.val ≠ 0 := fun h => h1 (by rw [h])
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11]
  rw [leaves0_12 m c t h0, leaves0_13 m c t h0, show (dats m 0 c).Φ t.castSucc = carried m c t.val from rfl, show (dats m 0 c).Φ t.succ = carried m c (t.val + 1) from rfl,
    show (dats m 0 c).owesAt () t.succ = (dats m 0 c).owesAt () t.castSucc from rfl]
  unfold carried
  have hN : t.val < 199 := lt_of_lt_of_eq t.isLt (show cfg0.N = 199 from N_0)
  have e0 := coord0 t
  iintro ⟨⟨%s0, %s1, %s2, %s3, %hI, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain ⟨hI0, hI1, hI2, hI3⟩ := hI
  iapply ((runMid (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (cond1_off t h1) ((cond2_iff t).mpr h1) (fun h => h1 ((cond3_iff t).mp h).2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ s0 s1 s2 s3).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S0]; · iexact S0
  isplitl [S1]; · iexact S1
  isplitl [S2]; · iexact S2
  isplitl [S3]; · iexact S3
  iintro ⟨H0, H1, H2, H3, H4, H5, H6, H7, H8, H9, H10, H11, H12, H13, S0, S1, S2, S3⟩
  isplitl [S0 S1 S2 S3 Hg]
  · iexists _, _, _, _; isplitr; swap
    · isplitl [S0]; · iexact S0
      isplitl [S1]; · iexact S1
      isplitl [S2]; · iexact S2
      isplitl [S3]; · iexact S3
      iexact Hg
    ipureintro
    exact ⟨mid_slotG m c t h1 s0 s1 s2 s3 ((dats m 0 c).before 12 t d12) ((dats m 0 c).before 13 t d13), mid_slotU m c t h1 s0 s1 s2 s3 ((dats m 0 c).before 12 t d12) ((dats m 0 c).before 13 t d13),
      mid_facsG m c t h1 s0 s1 s2 s3 ((dats m 0 c).before 12 t d12) ((dats m 0 c).before 13 t d13) hI2, mid_facsU m c t h1 s0 s1 s2 s3 ((dats m 0 c).before 12 t d12) ((dats m 0 c).before 13 t d13) hI3⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · rw [mid_sumG m c t h1 s0 s1 s2 s3 ((dats m 0 c).before 12 t d12) ((dats m 0 c).before 13 t d13) hI0 (fun h r q => before0_12 m c t h d12 r q)]
    iexact H12
  rw [mid_sumU m c t h1 s0 s1 s2 s3 ((dats m 0 c).before 12 t d12) ((dats m 0 c).before 13 t d13) hI1 (fun h r q => before0_13 m c t h d13 r q)]
  iexact H13

set_option maxHeartbeats 1600000 in
theorem sound_last (c : Dev nD) (t : Fin cfg0.N) (h0 : t.val ≠ 0) (h1 : t.val % 18 = 0) :
    bodyPre m c t ⊢ wp frame (wpE (defs₀ (F := Ideal)) Variants.none c none) Set.univ (bodyAt0 t) (fun _ => bodyPost m c t) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11]
  rw [leaves0_12 m c t h0, leaves0_13 m c t h0, show (dats m 0 c).Φ t.castSucc = carried m c t.val from rfl, show (dats m 0 c).Φ t.succ = carried m c (t.val + 1) from rfl,
    show (dats m 0 c).owesAt () t.succ = (dats m 0 c).owesAt () t.castSucc from rfl]
  unfold carried
  have hN : t.val < 199 := lt_of_lt_of_eq t.isLt (show cfg0.N = 199 from N_0)
  have e0 := coord0 t
  iintro ⟨⟨%s0, %s1, %s2, %s3, %hI, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain ⟨hI0, hI1, hI2, hI3⟩ := hI
  iapply ((runLast (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => h0 ((cond1_iff t).mp h)) (fun h => (cond2_iff t).mp h h1) ((cond3_iff t).mpr ⟨h0, h1⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ s0 s1 s2 s3).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S0]; · iexact S0
  isplitl [S1]; · iexact S1
  isplitl [S2]; · iexact S2
  isplitl [S3]; · iexact S3
  iintro ⟨H0, H1, H2, H3, H4, H5, H6, H7, H8, H9, H10, H11, H12, H13, S0, S1, S2, S3⟩
  isplitl [S0 S1 S2 S3 Hg]
  · iexists _, _, _, _; isplitr; swap
    · isplitl [S0]; · iexact S0
      isplitl [S1]; · iexact S1
      isplitl [S2]; · iexact S2
      isplitl [S3]; · iexact S3
      iexact Hg
    ipureintro
    exact ⟨last_slotG m c t h0 h1 s0 s1 s2 s3 ((dats m 0 c).before 12 t d12) ((dats m 0 c).before 13 t d13), last_slotU m c t h0 h1 s0 s1 s2 s3 ((dats m 0 c).before 12 t d12) ((dats m 0 c).before 13 t d13),
      last_facsG m c t h0 h1 s0 s1 s2 s3 ((dats m 0 c).before 12 t d12) ((dats m 0 c).before 13 t d13) hI2, last_facsU m c t h0 h1 s0 s1 s2 s3 ((dats m 0 c).before 12 t d12) ((dats m 0 c).before 13 t d13) hI3⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · rw [last_sumG m c t h0 h1 s0 s1 s2 s3 ((dats m 0 c).before 12 t d12) ((dats m 0 c).before 13 t d13) hI0 hI2 (fun h r q => before0_12 m c t h d12 r q)]
    iexact H12
  rw [last_sumU m c t h0 h1 s0 s1 s2 s3 ((dats m 0 c).before 12 t d12) ((dats m 0 c).before 13 t d13) hI1 hI3 (fun h r q => before0_13 m c t h d13 r q)]
  iexact H13

theorem sound_body (c : Dev nD) (t : Fin cfg0.N) :
    bodyPre m c t ⊢ wp frame (wpE (defs₀ (F := Ideal)) Variants.none c none) Set.univ (bodyAt0 t) (fun _ => bodyPost m c t) := by
  by_cases h1 : t.val % 18 = 0
  · by_cases h0 : t.val = 0
    · exact sound_first m c t h0
    · exact sound_last m c t h0 h1
  · exact sound_mid m c t h1

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem carried_in (c : Dev nD) : Pipeline.ΦA spec0 c ⊢ (dats m 0 c).Φ 0 := by
  rw [PhiA0_eq, show (dats m 0 c).Φ 0 = carried m c 0 from rfl]
  unfold carried
  iintro ⟨⟨⟨%s0, S0⟩, ⟨%s1, S1⟩, ⟨%s2, S2⟩, ⟨%s3, S3⟩⟩, Hg⟩
  iexists s0, s1, s2, s3; isplitr
  · ipureintro
    exact ⟨fun h => absurd rfl h, fun h => absurd rfl h, fun r q hr => absurd hr (by simp), fun r q hr => absurd hr (by simp)⟩
  isplitl [S0]; · iexact S0
  isplitl [S1]; · iexact S1
  isplitl [S2]; · iexact S2
  isplitl [S3]; · iexact S3
  iexact Hg
theorem carried_out (c : Dev nD) : (dats m 0 c).Φ (Fin.last cfg0.N) ⊢ Pipeline.ΦA spec0 c := by
  rw [PhiA0_eq, show (dats m 0 c).Φ (Fin.last cfg0.N) = carried m c cfg0.N from rfl]
  unfold carried
  iintro ⟨%s0, %s1, %s2, %s3, %hI, S0, S1, S2, S3, Hg⟩
  isplitl [S0 S1 S2 S3]
  · isplitl [S0]; · iexists s0; iexact S0
    isplitl [S1]; · iexists s1; iexact S1
    isplitl [S2]; · iexists s2; iexact S2
    iexists s3; iexact S3
  iexact Hg

set_option backward.isDefEq.respectTransparency.types false in
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

/-- The gradient of a rounding variable from the gradient `D` and the weight's floors, rounding variables and scales. -/
def final (c : Dev nD) (D : Fin 9216 → Fin 5632 → EReal) (f : Vec Ideal S2048x5632 .i8) (v : Vec Ideal S2048x5632 .f32) (s : Vec Ideal S1x5632 .f32) :
    Vec Ideal S2048x5632 .f32 := fun y =>
  Scalars.dv (f y) (v y) (s (ix2 (0 : Fin 1) (y 1)))
    (∑ k : Fin 9216, FloatOps.sitofp (F := Ideal) .bf16 (A5 m c (ix2 k (y 0))) * D k (y 1))

end Cert.BwdIdeal.Hand
end
-- ==== Proof.BwdValue.lean ====
module

public import proofs.«01_k».proof.Proof.Gen.BwdIdeal.Skeleton
public import proofs.«01_k».proof.Proof.Gen.BwdIdeal.Frame
public import proofs.«01_k».proof.Proof.BwdSound
public import proofs.«01_k».proof.Proof.BwdRefValue

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- At the last token tile the sum is over every token. -/
theorem acc_last (c : Dev nD) (D : Fin 9216 → Fin 5632 → EReal) (n : ℕ) (h : n % 18 = 17) (r : Fin 2048) (q : Fin 512) :
    acc m c D n r q = ∑ k : Fin 9216, FloatOps.sitofp (F := Ideal) .bf16 (A5 m c (ix2 k r)) * D k (colF n q) := by
  unfold acc
  rw [h, Finset.sum_range, ← Fin.sum_mul_add_fin 18 512 (fun k : Fin 9216 =>
    FloatOps.sitofp (F := Ideal) .bf16 (A5 m c (ix2 k r)) * D k (colF n q)) rfl]
  refine Finset.sum_congr rfl fun j _ => ?_
  unfold term
  refine Finset.sum_congr rfl fun k _ => ?_
  have hj : j.val < 18 := j.isLt
  have e1 : rowT (18 * (n / 18) + j.val) k = ⟨j.val * 512 + k.val, by omega⟩ := Fin.ext (by show (18 * (n / 18) + j.val) % 18 * 512 + k.val = j.val * 512 + k.val; omega)
  have e2 : colF (18 * (n / 18) + j.val) q = colF n q := Fin.ext (by show (18 * (n / 18) + j.val) / 18 % 11 * 512 + q.val = n / 18 % 11 * 512 + q.val; omega)
  rw [e1, e2]

/-- An output block written back is its block of the gradient of the rounding variable. -/
theorem out_last (c : Dev nD) (D : Fin 9216 → Fin 5632 → EReal) (f : Vec Ideal S2048x5632 .i8) (v : Vec Ideal S2048x5632 .f32) (s : Vec Ideal S1x5632 .f32)
    (n : ℕ) (h : n % 18 = 17) (r : Fin 2048) (q : Fin 512) :
    outAt m c D (fun R Q => Scalars.fac (f (ix2 R Q)) (v (ix2 R Q)) (s (ix2 (0 : Fin 1) Q))) n r q = final m c D f v s (ix2 r (colF n q)) := by
  unfold outAt final
  rw [if_pos h, acc_last m c D n h]
  exact Scalars.mul_fac ..

/-- Where an index of a point's output block lies in the gate gradient's array. -/
theorem emb12 (t : Fin cfg0.N) (r : Fin 2048) (q : Fin 512) :
    ((cfg0.win 12).blk t).view.emb (ix2 r q) = ix2 r (colF (t.val - 1) q) := by
  have ht : t.val < 199 := lt_of_lt_of_eq t.isLt (show cfg0.N = 199 from N_0)
  funext a; apply Fin.ext
  match a with
  | ⟨0, _⟩ => show win0_12.index t (0 : Fin 2) * 2048 + 1 * r.val = r.val; rw [idx12]; show 0 * 2048 + 1 * r.val = r.val; omega
  | ⟨1, _⟩ => show win0_12.index t (1 : Fin 2) * 512 + 1 * q.val = (t.val - 1) / 18 % 11 * 512 + q.val; rw [idx12]; show (t.val - 1) / 18 * 512 + 1 * q.val = _; omega

/-- The gate gradient's array after the run. -/
theorem arr12 (c : Dev nD) : (dats m 0 c).arrAt 12 cfg0.N = final m c (gradG m c) (A8 m c) (A6 m c) (A10 m c) := by
  refine (dats m 0 c).arrAt_eq_of_covers 12 _ (by decide +kernel) fun t hf y => ?_
  rw [flush12] at hf
  obtain ⟨h0, h⟩ := of_decide_eq_true hf
  blk_simp
  rw [after0_12]
  obtain ⟨r, q, rfl⟩ : ∃ r q, y = ix2 (n0 := 2048) (n1 := 512) r q := ⟨_, _, eq_ix2 y⟩
  show outAt m c (gradG m c) (facG m c) (t.val - 1) r q = final m c (gradG m c) (A8 m c) (A6 m c) (A10 m c) (((cfg0.win 12).blk t).view.emb (ix2 r q))
  rw [emb12]
  exact out_last m c _ _ _ _ _ (by omega) r q

/-- Where an index of a point's output block lies in the up gradient's array. -/
theorem emb13 (t : Fin cfg0.N) (r : Fin 2048) (q : Fin 512) :
    ((cfg0.win 13).blk t).view.emb (ix2 r q) = ix2 r (colF (t.val - 1) q) := by
  have ht : t.val < 199 := lt_of_lt_of_eq t.isLt (show cfg0.N = 199 from N_0)
  funext a; apply Fin.ext
  match a with
  | ⟨0, _⟩ => show win0_13.index t (0 : Fin 2) * 2048 + 1 * r.val = r.val; rw [idx13]; show 0 * 2048 + 1 * r.val = r.val; omega
  | ⟨1, _⟩ => show win0_13.index t (1 : Fin 2) * 512 + 1 * q.val = (t.val - 1) / 18 % 11 * 512 + q.val; rw [idx13]; show (t.val - 1) / 18 * 512 + 1 * q.val = _; omega

/-- The up gradient's array after the run. -/
theorem arr13 (c : Dev nD) : (dats m 0 c).arrAt 13 cfg0.N = final m c (gradU m c) (A9 m c) (A7 m c) (A11 m c) := by
  refine (dats m 0 c).arrAt_eq_of_covers 13 _ (by decide +kernel) fun t hf y => ?_
  rw [flush13] at hf
  obtain ⟨h0, h⟩ := of_decide_eq_true hf
  blk_simp
  rw [after0_13]
  obtain ⟨r, q, rfl⟩ : ∃ r q, y = ix2 (n0 := 2048) (n1 := 512) r q := ⟨_, _, eq_ix2 y⟩
  show outAt m c (gradU m c) (facU m c) (t.val - 1) r q = final m c (gradU m c) (A9 m c) (A7 m c) (A11 m c) (((cfg0.win 13).blk t).view.emb (ix2 r q))
  rw [emb13]
  exact out_last m c _ _ _ _ _ (by omega) r q

/-- The run: the result arrays hold the gradients, the arguments are unchanged. -/
theorem run : θ_run defs (onTc (τ := τ) (main (F := Ideal))) ⟨m, fun _ => 0, ρ⟩ fun r => ∀ c : Dev nD,
      r.2.mem ((c : Thread nD τ).loc main_v1_0) = final m c (gradG m c) (A8 m c) (A6 m c) (A10 m c)
      ∧ r.2.mem ((c : Thread nD τ).loc main_v1_1) = final m c (gradU m c) (A9 m c) (A7 m c) (A11 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 12).trans (arr12 m c), ((h c).1 13).trans (arr13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩)
    (run_main m ρ)

/-- The reference computes the same gradient of the gate weight. -/
theorem final12_eq (c : Dev nD) : final m c (gradG m c) (A8 m c) (A6 m c) (A10 m c) = Cert.BwdRefIdeal.Hand.G12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext y
  obtain ⟨r, q, rfl⟩ : ∃ r q, y = ix2 (n0 := 2048) (n1 := 5632) r q := ⟨_, _, eq_ix2 y⟩
  unfold final gradG Scalars.dGate A0 A1 A2 A3 A4 A5 A6 A8 A10
  rw [V_main_arg0, V_main_arg1, V_main_arg2, V_main_arg3, V_main_arg4, V_main_arg5, V_main_arg6, V_main_arg8, V_main_arg10]
  unfold Cert.BwdRefIdeal.Hand.G12
  pointwise [Cert.BwdRefIdeal.Gen.k0_pay1, Cert.BwdRefIdeal.Gen.k0_pay2, Cert.BwdRefIdeal.Gen.k0_pay3, Cert.BwdRefIdeal.Gen.k0_pay4, Cert.BwdRefIdeal.Gen.k0_pay5, Cert.BwdRefIdeal.Gen.k0_pay6, Cert.BwdRefIdeal.Gen.k0_pay7, Cert.BwdRefIdeal.Gen.k0_pay8, Cert.BwdRefIdeal.Gen.k0_pay9, Cert.BwdRefIdeal.Gen.k0_pay10, Cert.BwdRefIdeal.Gen.k0_pay11, Cert.BwdRefIdeal.Gen.k0_pay12, Cert.BwdRefIdeal.Gen.k0_pay13, Cert.BwdRefIdeal.Gen.k0_pay14]
  rfl

/-- The reference computes the same gradient of the up weight. -/
theorem final13_eq (c : Dev nD) : final m c (gradU m c) (A9 m c) (A7 m c) (A11 m c) = Cert.BwdRefIdeal.Hand.G13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext y
  obtain ⟨r, q, rfl⟩ : ∃ r q, y = ix2 (n0 := 2048) (n1 := 5632) r q := ⟨_, _, eq_ix2 y⟩
  unfold final gradU Scalars.dUp A0 A1 A2 A4 A5 A7 A9 A11
  rw [V_main_arg0, V_main_arg1, V_main_arg2, V_main_arg4, V_main_arg5, V_main_arg7, V_main_arg9, V_main_arg11]
  unfold Cert.BwdRefIdeal.Hand.G13
  pointwise [Cert.BwdRefIdeal.Gen.k0_pay1, Cert.BwdRefIdeal.Gen.k0_pay2, Cert.BwdRefIdeal.Gen.k0_pay3, Cert.BwdRefIdeal.Gen.k0_pay4, Cert.BwdRefIdeal.Gen.k0_pay5, Cert.BwdRefIdeal.Gen.k0_pay6, Cert.BwdRefIdeal.Gen.k0_pay7, Cert.BwdRefIdeal.Gen.k0_pay8, Cert.BwdRefIdeal.Gen.k0_pay9, Cert.BwdRefIdeal.Gen.k0_pay10, Cert.BwdRefIdeal.Gen.k0_pay11, Cert.BwdRefIdeal.Gen.k0_pay12, Cert.BwdRefIdeal.Gen.k0_pay13, Cert.BwdRefIdeal.Gen.k0_pay14]
  rfl

end Cert.BwdIdeal.Hand
end
-- ==== Proof.XqVal.lean ====
module

public import proofs.«01_k».proof.Proof.Gen.XqIdeal.Value
public import Idealize.ShloMosaic.Lib.Pipeline.ValueKit
public import Idealize.ShloMosaic.Lib.Pointwise
public import Idealize.ShloMosaic.Lib.VecWindow

/-! What one tile of tokens leaves in its three results: the scale of each row and the rounded quotients. -/

@[expose] public section

set_option maxRecDepth 16384

noncomputable section

namespace Cert.XqIdeal.Hand

open Cert.XqIdeal Cert.XqIdeal.Gen
open Idealize.ShloMosaic Idealize.ShloMosaic.TcCoe Idealize.ShloMosaic.Tactic
open Idealize.SL.Sem

/-- The largest magnitude of a row. -/
def rowMax (f : Fin 2048 → EReal) : EReal :=
  Finset.fold max (Ideal.ofBits FTy.f32 4286578688#32) (fun k => FloatOps.absf (F := Ideal) (φ := .f32) (f k)) Finset.univ

/-- The scale of a row: its largest magnitude over 127, and 1 for a row of zeros. -/
def scale (f : Fin 2048 → EReal) : EReal :=
  if 0 < rowMax f then Ideal.div (rowMax f) (Ideal.ofBits FTy.f32 1123942400#32) else 1

/-- The code of a value under a scale: the quotient rounded to even, clipped to -127 … 127. -/
def code (x s : EReal) : BitVec 8 :=
  FloatOps.fptosi (F := Ideal) (φ := .f32) 8 (min (Ideal.ofBits FTy.f32 1123942400#32) (max (Ideal.ofBits FTy.f32 3271426048#32)
    (FloatOps.roundeven (F := Ideal) (φ := .f32) (Ideal.div x s))))

/-- The maximum over the sixteen lane groups and then over the lanes is the maximum over the row. -/
theorem fold_groups (b : EReal) (f : Fin 2048 → EReal) :
    Finset.fold max b (fun x : Fin 128 =>
      max (max (max (max (max (max (max (max (max (max (max (max (max (max (max
        (f ⟨x.val, by omega⟩) (f ⟨128 + x.val, by omega⟩)) (f ⟨256 + x.val, by omega⟩)) (f ⟨384 + x.val, by omega⟩))
        (f ⟨512 + x.val, by omega⟩)) (f ⟨640 + x.val, by omega⟩)) (f ⟨768 + x.val, by omega⟩)) (f ⟨896 + x.val, by omega⟩))
        (f ⟨1024 + x.val, by omega⟩)) (f ⟨1152 + x.val, by omega⟩)) (f ⟨1280 + x.val, by omega⟩)) (f ⟨1408 + x.val, by omega⟩))
        (f ⟨1536 + x.val, by omega⟩)) (f ⟨1664 + x.val, by omega⟩)) (f ⟨1792 + x.val, by omega⟩)) (f ⟨1920 + x.val, by omega⟩)) Finset.univ
      = Finset.fold max b f Finset.univ := by
  refine eq_of_forall_ge_iff fun c => ?_
  simp only [Finset.fold_max_le, Finset.mem_univ, true_implies, max_le_iff]
  refine and_congr_right fun _ => ⟨fun h k => ?_, fun h x => ?_⟩
  · have hk := k.isLt
    obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ :=
      h ⟨k.val % 128, Nat.mod_lt _ (by omega)⟩
    have hq : k.val / 128 < 16 := by omega
    have e := Nat.div_add_mod k.val 128
    generalize hd : k.val / 128 = d at hq e
    interval_cases d
    all_goals first
      | exact (congrArg f (Fin.ext (by show k.val = k.val % 128; omega))).trans_le h0
      | exact (congrArg f (Fin.ext (by show k.val = 128 + k.val % 128; omega))).trans_le h1
      | exact (congrArg f (Fin.ext (by show k.val = 256 + k.val % 128; omega))).trans_le h2
      | exact (congrArg f (Fin.ext (by show k.val = 384 + k.val % 128; omega))).trans_le h3
      | exact (congrArg f (Fin.ext (by show k.val = 512 + k.val % 128; omega))).trans_le h4
      | exact (congrArg f (Fin.ext (by show k.val = 640 + k.val % 128; omega))).trans_le h5
      | exact (congrArg f (Fin.ext (by show k.val = 768 + k.val % 128; omega))).trans_le h6
      | exact (congrArg f (Fin.ext (by show k.val = 896 + k.val % 128; omega))).trans_le h7
      | exact (congrArg f (Fin.ext (by show k.val = 1024 + k.val % 128; omega))).trans_le h8
      | exact (congrArg f (Fin.ext (by show k.val = 1152 + k.val % 128; omega))).trans_le h9
      | exact (congrArg f (Fin.ext (by show k.val = 1280 + k.val % 128; omega))).trans_le h10
      | exact (congrArg f (Fin.ext (by show k.val = 1408 + k.val % 128; omega))).trans_le h11
      | exact (congrArg f (Fin.ext (by show k.val = 1536 + k.val % 128; omega))).trans_le h12
      | exact (congrArg f (Fin.ext (by show k.val = 1664 + k.val % 128; omega))).trans_le h13
      | exact (congrArg f (Fin.ext (by show k.val = 1792 + k.val % 128; omega))).trans_le h14
      | exact (congrArg f (Fin.ext (by show k.val = 1920 + k.val % 128; omega))).trans_le h15
  · exact ⟨⟨⟨⟨⟨⟨⟨⟨⟨⟨⟨⟨⟨⟨⟨h _, h _⟩, h _⟩, h _⟩, h _⟩, h _⟩, h _⟩, h _⟩, h _⟩, h _⟩, h _⟩, h _⟩, h _⟩, h _⟩, h _⟩, h _⟩

/-- The scales of 256 rows, repeated over the lanes. -/
theorem pay5_eq (v : Vec Ideal S256x2048 .bf16) (r : Fin 256) (l : Fin 128) : k0_pay5 v (ix2 r l) = scale (fun k => v (ix2 r k)) := by
  pointwise [k0_pay5, k0_pay4]
  rw [fold_groups _ (fun k => FloatOps.absf (F := Ideal) (φ := .f32) (v (ix2 r k)))]
  rfl

/-- The codes of 256 rows from their scales. -/
theorem pay10_eq (x : FVec Ideal S256x2048 .f32) (s : FVec Ideal S256x128 .f32) (r : Fin 256) (q : Fin 2048) :
    k0_pay10 x s (ix2 r q) = code (x (ix2 r q)) (s (ix2 r ⟨q.val % 128, Nat.mod_lt _ (by omega)⟩)) := by
  unfold k0_pay10
  have hc : ∀ h, concatenate S256x2048 1 (List.replicate 16 (⟨S256x128, s⟩ : (s : Shape) × (s.Idx → EReal))) h (ix2 r q)
      = s (ix2 r ⟨q.val % 128, Nat.mod_lt _ (by omega)⟩) := fun h =>
    concatenate_replicate_apply (s₁ := S256x128) (t := S256x2048) 1 16 s h rfl (ix2 r q) _ rfl
      (fun b hb => by match b with | ⟨0, _⟩ => rfl | ⟨1, _⟩ => exact absurd rfl hb)
  exact congrArg (fun z => code (x (ix2 r q)) z) (hc _)

/-- The codes of 256 rows. -/
theorem codes_eq (v : Vec Ideal S256x2048 .bf16) (r : Fin 256) (q : Fin 2048) :
    k0_pay10 (k0_pay8 v) (k0_pay9 v) (ix2 r q) = code (v (ix2 r q)) (scale (fun k => v (ix2 r k))) := by
  rw [pay10_eq, show k0_pay9 v = k0_pay5 v from rfl, pay5_eq]
  rfl

theorem codes1 (v : Vec Ideal S256x2048 .bf16) : k0_pay7 (k0_pay6 v) (Scalar.ofBits .f32 0xC2FE0000#32) (Scalar.ofBits .f32 0x42FE0000#32)
    = k0_pay10 (k0_pay8 v) (k0_pay9 v) := rfl
theorem codes3 (v : Vec Ideal S256x2048 .bf16) : k0_pay15 (k0_pay11 v) (k0_pay12 v) (k0_pay13 v) (Scalar.ofBits .f32 0x42FE0000#32)
    = k0_pay10 (k0_pay8 v) (k0_pay9 v) := rfl
theorem codes4 (v : Vec Ideal S256x2048 .bf16) : k0_pay2 (k0_pay16 v) (k0_pay18 v) (k0_pay19 v)
    = k0_pay10 (k0_pay8 v) (k0_pay9 v) := rfl
theorem scales2 (v : Vec Ideal S256x2048 .bf16) : k0_pay9 v = k0_pay5 v := rfl
theorem scales3 (v : Vec Ideal S256x2048 .bf16) : k0_pay14 (k0_pay12 v) (k0_pay13 v) (Scalar.ofBits .f32 0x42FE0000#32) = k0_pay5 v := rfl
theorem scales4 (v : Vec Ideal S256x2048 .bf16) : k0_pay1 (k0_pay18 v) (k0_pay19 v) = k0_pay5 v := rfl

/-- The largest of 128 equal lanes, read back as one dense row of scales per 128 tokens. -/
theorem fold_const (b z : EReal) (hb : b ≤ z) : Finset.fold max b (fun _ : Fin 128 => z) Finset.univ = z := by
  refine eq_of_forall_ge_iff fun c => ?_
  simp only [Finset.fold_max_le, Finset.mem_univ, true_implies]
  exact ⟨fun h => h.2 0, fun h => ⟨hb.trans h, fun _ => h⟩⟩

theorem negInf_le (z : EReal) : Ideal.ofBits FTy.f32 4286578688#32 ≤ z := by
  have : Ideal.ofBits FTy.f32 4286578688#32 = ⊥ := by simp [Ideal.ofBits, Ideal.ieee]
  rw [this]; exact bot_le

theorem dense_eq (v : Vec Ideal S1024x128 .f32) (f : Fin 1024 → EReal) (hv : ∀ r l, v (ix2 r l) = f r) (r : Fin 8) (l : Fin 128) :
    k0_pay3 v (ix2 r l) = f ⟨r.val * 128 + l.val, by omega⟩ := by
  pointwise [k0_pay3]
  simp only [hv]
  exact fold_const _ _ (negInf_le _)

end Cert.XqIdeal.Hand
end
-- ==== Proof.XqRefValue.lean ====
module

public import proofs.«01_k».proof.Proof.Gen.XqRefIdeal.Frame
public import Idealize.ShloMosaic.Lib.Pipeline.Value

@[expose] public section

noncomputable section

namespace Cert.XqRefIdeal.Hand

open Cert.XqRefIdeal Cert.XqRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v0_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_1) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_2) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S9216x2048.Idx) : ((cfg0.win 0).blk t).view.emb j = j := by
  obtain ⟨e0, e1⟩ := idx_zero0 t
  funext a; apply Fin.ext
  match a with
  | ⟨0, _⟩ => show win0_0.index t (0 : Fin 2) * 9216 + 1 * (j 0).val = (j 0).val; omega
  | ⟨1, _⟩ => show win0_0.index t (1 : Fin 2) * 2048 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S9216x2048.Idx) : ((cfg0.win 1).blk t).view.emb j = j := by
  obtain ⟨e0, e1⟩ := idx_zero1 t
  funext a; apply Fin.ext
  match a with
  | ⟨0, _⟩ => show win0_1.index t (0 : Fin 2) * 9216 + 1 * (j 0).val = (j 0).val; omega
  | ⟨1, _⟩ => show win0_1.index t (1 : Fin 2) * 2048 + 1 * (j 1).val = (j 1).val; omega

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S9216x128.Idx) : ((cfg0.win 2).blk t).view.emb j = j := by
  obtain ⟨e0, e1⟩ := idx_zero2 t
  funext a; apply Fin.ext
  match a with
  | ⟨0, _⟩ => show win0_2.index t (0 : Fin 2) * 9216 + 1 * (j 0).val = (j 0).val; omega
  | ⟨1, _⟩ => show win0_2.index t (1 : Fin 2) * 128 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S72x128.Idx) : ((cfg0.win 3).blk t).view.emb j = j := by
  obtain ⟨e0, e1⟩ := idx_zero3 t
  funext a; apply Fin.ext
  match a with
  | ⟨0, _⟩ => show win0_3.index t (0 : Fin 2) * 72 + 1 * (j 0).val = (j 0).val; omega
  | ⟨1, _⟩ => show win0_3.index t (1 : Fin 2) * 128 + 1 * (j 1).val = (j 1).val; omega

/-! ### Output window 1: the array after the run -/

/-- What the window's array ends holding: `out0_1` applied to the argument arrays in place of the input blocks (a value that the
    frame states apart, `kK_payN a…`, keeps its loads inside its own definition). -/
abbrev G1 (a0 : Vec F S9216x2048 .bf16) : Vec F S9216x2048 .i8 :=
  k0_pay3 a0

/-- A load of the whole of a block reads the block, and the one store through the whole rectangle leaves its payload. -/
theorem out1_eq (a0 : Vec F S9216x2048 .bf16) : out0_1 (F := F) a0 = G1 a0 := by
  unfold out0_1
  rw [View.canon_unit_zero hz1, View.ld_unit_zero (S := S9216x2048) hz0 _ a0]

/-- Cutting the point's block out of `X` and reading `X` through the block's view give the same. -/
theorem cut1_eq (t : Fin cfg0.N) (X : Vec F S9216x2048 .i8) :
    (cfg0.win 1).cut (grid0.coords t) X = ((cfg0.win 1).blk t).view.read (Elt F) X := by
  funext j
  show X j = X (((cfg0.win 1).blk t).view.emb j)
  rw [emb1]

/-- WHAT THE POINT WRITES BACK is its block of `G1` of the argument arrays as the region finds them. -/
theorem flushed1_eq (c : Dev nD) (t : Fin cfg0.N) :
    (dats m 0 c).flushed 1 t = ((cfg0.win 1).blk t).view.read (Elt F) (G1 (V m c main_arg0)) := by
  show (cfg0.win 1).cut (grid0.coords t) ((dats m 0 c).after 1 t) = _
  rw [after0_1, out1_eq, iblk0_eq]
  exact cut1_eq t _

/-- Every index of the array is in the point's block. -/
theorem covered1 (i : S9216x2048.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- THE ARRAY after the run: `G1` of the argument arrays as launched. -/
theorem final1 (c : Dev nD) : (dats m 0 c).arrAt 1 cfg0.N = G1 (m ((c : Thread nD τ).loc main_arg0)) :=
  ((dats m 0 c).arrAt_eq_of_cover 1 (G1 (V m c main_arg0)) (fun t _ => flushed1_eq m c t) covered1).trans (by rw [V_main_arg0])

/-! ### Output window 2: the array after the run -/

/-- What the window's array ends holding: `out0_2` applied to the argument arrays in place of the input blocks (a value that the
    frame states apart, `kK_payN a…`, keeps its loads inside its own definition). -/
abbrev G2 (a0 : Vec F S9216x2048 .bf16) : Vec F S9216x128 .f32 :=
  k0_pay4 a0

/-- A load of the whole of a block reads the block, and the one store through the whole rectangle leaves its payload. -/
theorem out2_eq (a0 : Vec F S9216x2048 .bf16) : out0_2 (F := F) a0 = G2 a0 := by
  unfold out0_2
  rw [View.canon_unit_zero hz2, View.ld_unit_zero (S := S9216x2048) hz0 _ a0]

/-- Cutting the point's block out of `X` and reading `X` through the block's view give the same. -/
theorem cut2_eq (t : Fin cfg0.N) (X : Vec F S9216x128 .f32) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0)) := by
  show (cfg0.win 2).cut (grid0.coords t) ((dats m 0 c).after 2 t) = _
  rw [after0_2, out2_eq, iblk0_eq]
  exact cut2_eq t _

/-- Every index of the array is in the point's block. -/
theorem covered2 (i : S9216x128.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) :=
  ((dats m 0 c).arrAt_eq_of_cover 2 (G2 (V m c main_arg0)) (fun t _ => flushed2_eq m c t) covered2).trans (by rw [V_main_arg0])

/-! ### Output window 3: the array after the run -/

/-- What the window's array ends holding: `out0_3` applied to the argument arrays in place of the input blocks (a value that the
    frame states apart, `kK_payN a…`, keeps its loads inside its own definition). -/
abbrev G3 (a0 : Vec F S9216x2048 .bf16) : Vec F S72x128 .f32 :=
  k0_pay5 a0

/-- A load of the whole of a block reads the block, and the one store through the whole rectangle leaves its payload. -/
theorem out3_eq (a0 : Vec F S9216x2048 .bf16) : out0_3 (F := F) a0 = G3 a0 := by
  unfold out0_3
  rw [View.canon_unit_zero hz3, View.ld_unit_zero (S := S9216x2048) hz0 _ a0]

/-- Cutting the point's block out of `X` and reading `X` through the block's view give the same. -/
theorem cut3_eq (t : Fin cfg0.N) (X : Vec F S72x128 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0)) := by
  show (cfg0.win 3).cut (grid0.coords t) ((dats m 0 c).after 3 t) = _
  rw [after0_3, out3_eq, iblk0_eq]
  exact cut3_eq t _

/-- Every index of the array is in the point's block. -/
theorem covered3 (i : S72x128.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) :=
  ((dats m 0 c).arrAt_eq_of_cover 3 (G3 (V m c main_arg0)) (fun t _ => flushed3_eq m c t) covered3).trans (by rw [V_main_arg0])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G1 (m ((c : Thread nD τ).loc main_arg0))
      ∧ r.2.mem ((c : Thread nD τ).loc main_v0_1) = G2 (m ((c : Thread nD τ).loc main_arg0))
      ∧ r.2.mem ((c : Thread nD τ).loc main_v0_2) = G3 (m ((c : Thread nD τ).loc main_arg0))
      ∧ r.2.mem ((c : Thread nD τ).loc main_arg0) = m ((c : Thread nD τ).loc main_arg0) :=
  (θ_run defs _ _).mono (fun r h c => ⟨(post1 m r h c).trans (final1 m c),
      (post2 m r h c).trans (final2 m c),
      (post3 m r h c).trans (final3 m c),
      kept_main_arg0 m r h c⟩)
    (run_main m ρ)

end Cert.XqRefIdeal.Hand

end
-- ==== Proof.XqRef.lean ====
module

public import proofs.«01_k».proof.Proof.XqVal
public import proofs.«01_k».proof.Proof.XqRefValue

/-! The reference's scales and codes, element by element. -/

@[expose] public section

set_option maxRecDepth 16384

noncomputable section

namespace Cert.XqRefIdeal

open Cert.XqRefIdeal Cert.XqRefIdeal.Gen
open Cert.XqIdeal.Hand (scale code rowMax)
open Idealize.ShloMosaic

/-- The reference's scale of a row, -/
theorem ref_red (v : FVec Ideal S9216x2048 .f32) (r : Fin 9216) :
    multiReduction .maximumf [1] S9216 v 0xFF800000#32 reduces_S9216x2048_S9216 (.inl rfl) rfl (ix1 r)
      = Finset.fold max (Ideal.ofBits FTy.f32 4286578688#32) (fun x => v (ix2 r x)) Finset.univ := by
  pointwise
theorem ref_col (v : FVec Ideal S9216 .f32) (r : Fin 9216) : shapeCast S9216x1 v shapeCasts_S9216_S9216x1 (ix2 r 0) = v (ix1 r) := by
  pointwise
theorem ref_dense (v : FVec Ideal S9216x1 .f32) (r : Fin 72) (q : Fin 128) :
    shapeCast S72x128 v shapeCasts_S9216x1_S72x128 (ix2 r q) = v (ix2 ⟨r.val * 128 + q.val, by omega⟩ 0) := by
  pointwise
theorem ref_rep (s : FVec Ideal S9216x1 .f32) (r : Fin 9216) (q : Fin 128) :
    broadcastTo S9216x128 (shapeCast S9216x1 s shapeCasts_S9216x1_S9216x1) broadcasts_S9216x1_S9216x128 (ix2 r q) = s (ix2 r 0) := by
  pointwise
theorem ref_wide (s : FVec Ideal S9216x1 .f32) (r : Fin 9216) (q : Fin 2048) :
    broadcastTo S9216x2048 s broadcasts_S9216x1_S9216x2048 (ix2 r q) = s (ix2 r 0) := by
  pointwise
theorem ref_sel (V : FVec Ideal S9216x1 .f32) (r : Fin 9216) :
    select (cmpf .ogt V (broadcast S9216x1 (Scalar.ofBits .f32 0x00000000#32))) (divf V (broadcast S9216x1 (Scalar.ofBits .f32 0x42FE0000#32)))
      (broadcast S9216x1 (Scalar.ofBits .f32 0x3F800000#32)) (ix2 r 0)
      = if 0 < V (ix2 r 0) then Ideal.div (V (ix2 r 0)) (Ideal.ofBits FTy.f32 1123942400#32) else 1 := by
  pointwise
theorem ref_code (x y : FVec Ideal S9216x2048 .f32) (r : Fin 9216) (q : Fin 2048) :
    fptosi 8 (minimumf (broadcast S9216x2048 (Scalar.ofBits .f32 0x42FE0000#32)) (maximumf (broadcast S9216x2048 (Scalar.ofBits .f32 0xC2FE0000#32))
      (roundeven (divf x y)))) (ix2 r q) = code (x (ix2 r q)) (y (ix2 r q)) := rfl

theorem ref_scale (a : Vec Ideal S9216x2048 .bf16) (r : Fin 9216) :
    k0_pay2 (F := Ideal) a (ix2 r 0) = scale fun k => a (ix2 r k) := by
  have h := (ref_col _ r).trans (ref_red (absf (k0_pay1 (F := Ideal) a)) r)
  refine (ref_sel _ r).trans ?_
  rw [h]
  rfl

/-- its codes, -/
theorem ref1 (a : Vec Ideal S9216x2048 .bf16) (r : Fin 9216) (q : Fin 2048) :
    Hand.G1 (F := Ideal) a (ix2 r q) = code (a (ix2 r q)) (scale fun k => a (ix2 r k)) := by
  refine (ref_code (k0_pay1 a) _ r q).trans ?_
  rw [ref_wide, ref_scale]
  rfl

/-- the scales repeated over the lanes, -/
theorem ref2 (a : Vec Ideal S9216x2048 .bf16) (r : Fin 9216) (q : Fin 128) :
    Hand.G2 (F := Ideal) a (ix2 r q) = scale fun k => a (ix2 r k) :=
  (ref_rep _ r q).trans (ref_scale a r)

/-- and the scales in rows of 128 tokens. -/
theorem ref3 (a : Vec Ideal S9216x2048 .bf16) (r : Fin 72) (q : Fin 128) :
    Hand.G3 (F := Ideal) a (ix2 r q) = scale fun k => a (ix2 (⟨r.val * 128 + q.val, by omega⟩ : Fin 9216) k) := by
  rw [← ref_scale]
  unfold Hand.G3 k0_pay5
  exact ref_dense _ r q

end Cert.XqRefIdeal
end
-- ==== Proof.XqValue.lean ====
module

public import proofs.«01_k».proof.Proof.XqVal
public import proofs.«01_k».proof.Proof.XqRef

/-! The arrays the quantiser leaves, and the reference's same arrays. -/

@[expose] public section

set_option maxRecDepth 16384

noncomputable section

namespace Cert.XqIdeal.Hand

open Cert.XqIdeal Cert.XqIdeal.Gen
open Idealize.ShloMosaic Idealize.ShloMosaic.TcCoe Idealize.ShloMosaic.Tactic
open Idealize.SL.Sem
open Idealize.ShloMosaic.Pipeline (Dat Cfg Window BodyObligation cellOf)

variable (m : (ℓ : Loc nD τ sig) → Buf (Elt Ideal) ℓ) (ρ : Dev nD → PrngReg)

theorem out1_eq (c : Dev nD) (i : grid0.Coords) (arg1 : Memref sig .tc .vmem S1024x2048 .bf16) (harg1 : arg1.IsWhole) (arg2 : Memref sig .tc .vmem S1024x2048 .i8) (harg2 : arg2.IsWhole) (arg3 : Memref sig .tc .vmem S1024x128 .f32) (harg3 : arg3.IsWhole) (arg4 : Memref sig .tc .vmem S8x128 .f32) (harg4 : arg4.IsWhole)
    (x0 : Vec Ideal S1024x2048 .bf16) (r : Fin 1024) (q : Fin 2048) :
    out0_A_1 (F := Ideal) c i arg1 harg1 arg2 harg2 arg3 harg3 arg4 harg4 x0 (ix2 r q) = code (x0 (ix2 r q)) (scale fun k => x0 (ix2 r k)) := by
  unfold out0_A_1 kernelRun0_A; dsimp only
  by_cases h768 : 768 ≤ r.val
  · refine (View.read_writes_cons_unit_of_mem _ _ _ _ _ _ (ix2 ⟨r.val - 768, by omega⟩ q) rfl (fun a => by match a with | ⟨0, _⟩ => show r.val = 768 + (r.val - 768); omega | ⟨1, _⟩ => exact (Nat.zero_add _).symm)).trans ?_
    sl_unfold_words
    simp only [View.readAt_eq_ld, Memref.IsWhole.read_unread]
    refine ((congrFun (codes4 _) _).trans (codes_eq _ _ _)).trans ?_
    have e : ∀ k : Fin 2048, View.ld x0 (Rect.unit (s := S1024x2048) ![768, 0] S256x2048.size inb_S1024x2048_S256x2048_768_0) (ix2 ⟨r.val - 768, by omega⟩ k) = x0 (ix2 r k) := fun k => by
      pointwise
      rw [show (⟨768 + (r.val - 768), _⟩ : Fin 1024) = r from Fin.ext (by show 768 + (r.val - 768) = r.val; omega)]
    simp only [e]
  refine (View.read_writes_cons_unit_of_not_mem _ _ _ _ _ _ rfl 0 (Or.inl (by show r.val < 768; omega))).trans ?_
  by_cases h512 : 512 ≤ r.val
  · refine (View.read_writes_cons_unit_of_mem _ _ _ _ _ _ (ix2 ⟨r.val - 512, by omega⟩ q) rfl (fun a => by match a with | ⟨0, _⟩ => show r.val = 512 + (r.val - 512); omega | ⟨1, _⟩ => exact (Nat.zero_add _).symm)).trans ?_
    sl_unfold_words
    simp only [View.readAt_eq_ld, Memref.IsWhole.read_unread]
    refine ((congrFun (codes3 _) _).trans (codes_eq _ _ _)).trans ?_
    have e : ∀ k : Fin 2048, View.ld x0 (Rect.unit (s := S1024x2048) ![512, 0] S256x2048.size inb_S1024x2048_S256x2048_512_0) (ix2 ⟨r.val - 512, by omega⟩ k) = x0 (ix2 r k) := fun k => by
      pointwise
      rw [show (⟨512 + (r.val - 512), _⟩ : Fin 1024) = r from Fin.ext (by show 512 + (r.val - 512) = r.val; omega)]
    simp only [e]
  refine (View.read_writes_cons_unit_of_not_mem _ _ _ _ _ _ rfl 0 (Or.inl (by show r.val < 512; omega))).trans ?_
  by_cases h256 : 256 ≤ r.val
  · refine (View.read_writes_cons_unit_of_mem _ _ _ _ _ _ (ix2 ⟨r.val - 256, by omega⟩ q) rfl (fun a => by match a with | ⟨0, _⟩ => show r.val = 256 + (r.val - 256); omega | ⟨1, _⟩ => exact (Nat.zero_add _).symm)).trans ?_
    sl_unfold_words
    simp only [View.readAt_eq_ld, Memref.IsWhole.read_unread]
    refine (codes_eq _ _ _).trans ?_
    have e : ∀ k : Fin 2048, View.ld x0 (Rect.unit (s := S1024x2048) ![256, 0] S256x2048.size inb_S1024x2048_S256x2048_256_0) (ix2 ⟨r.val - 256, by omega⟩ k) = x0 (ix2 r k) := fun k => by
      pointwise
      rw [show (⟨256 + (r.val - 256), _⟩ : Fin 1024) = r from Fin.ext (by show 256 + (r.val - 256) = r.val; omega)]
    simp only [e]
  refine (View.read_writes_cons_unit_of_not_mem _ _ _ _ _ _ rfl 0 (Or.inl (by show r.val < 256; omega))).trans ?_
  refine (View.read_writes_cons_unit_of_mem _ _ _ _ _ _ (ix2 ⟨r.val - 0, by omega⟩ q) rfl (fun a => by match a with | ⟨0, _⟩ => show r.val = 0 + (r.val - 0); omega | ⟨1, _⟩ => exact (Nat.zero_add _).symm)).trans ?_
  sl_unfold_words
  simp only [View.readAt_eq_ld, Memref.IsWhole.read_unread]
  refine ((congrFun (codes1 _) _).trans (codes_eq _ _ _)).trans ?_
  have e : ∀ k : Fin 2048, View.ld x0 (Rect.unit (s := S1024x2048) ![0, 0] S256x2048.size inb_S1024x2048_S256x2048_0_0) (ix2 ⟨r.val - 0, by omega⟩ k) = x0 (ix2 r k) := fun k => by
    pointwise
  simp only [e]

theorem out2_eq (c : Dev nD) (i : grid0.Coords) (arg1 : Memref sig .tc .vmem S1024x2048 .bf16) (harg1 : arg1.IsWhole) (arg2 : Memref sig .tc .vmem S1024x2048 .i8) (harg2 : arg2.IsWhole) (arg3 : Memref sig .tc .vmem S1024x128 .f32) (harg3 : arg3.IsWhole) (arg4 : Memref sig .tc .vmem S8x128 .f32) (harg4 : arg4.IsWhole)
    (x0 : Vec Ideal S1024x2048 .bf16) (r : Fin 1024) (q : Fin 128) :
    out0_A_2 (F := Ideal) c i arg1 harg1 arg2 harg2 arg3 harg3 arg4 harg4 x0 (ix2 r q) = scale fun k => x0 (ix2 r k) := by
  unfold out0_A_2 kernelRun0_A; dsimp only
  by_cases h768 : 768 ≤ r.val
  · refine (View.read_writes_cons_unit_of_mem _ _ _ _ _ _ (ix2 ⟨r.val - 768, by omega⟩ q) rfl (fun a => by match a with | ⟨0, _⟩ => show r.val = 768 + (r.val - 768); omega | ⟨1, _⟩ => exact (Nat.zero_add _).symm)).trans ?_
    sl_unfold_words
    simp only [View.readAt_eq_ld, Memref.IsWhole.read_unread]
    refine ((congrFun (scales4 _) _).trans (pay5_eq _ _ _)).trans ?_
    have e : ∀ k : Fin 2048, View.ld x0 (Rect.unit (s := S1024x2048) ![768, 0] S256x2048.size inb_S1024x2048_S256x2048_768_0) (ix2 ⟨r.val - 768, by omega⟩ k) = x0 (ix2 r k) := fun k => by
      pointwise
      rw [show (⟨768 + (r.val - 768), _⟩ : Fin 1024) = r from Fin.ext (by show 768 + (r.val - 768) = r.val; omega)]
    simp only [e]
  refine (View.read_writes_cons_unit_of_not_mem _ _ _ _ _ _ rfl 0 (Or.inl (by show r.val < 768; omega))).trans ?_
  by_cases h512 : 512 ≤ r.val
  · refine (View.read_writes_cons_unit_of_mem _ _ _ _ _ _ (ix2 ⟨r.val - 512, by omega⟩ q) rfl (fun a => by match a with | ⟨0, _⟩ => show r.val = 512 + (r.val - 512); omega | ⟨1, _⟩ => exact (Nat.zero_add _).symm)).trans ?_
    sl_unfold_words
    simp only [View.readAt_eq_ld, Memref.IsWhole.read_unread]
    refine ((congrFun (scales3 _) _).trans (pay5_eq _ _ _)).trans ?_
    have e : ∀ k : Fin 2048, View.ld x0 (Rect.unit (s := S1024x2048) ![512, 0] S256x2048.size inb_S1024x2048_S256x2048_512_0) (ix2 ⟨r.val - 512, by omega⟩ k) = x0 (ix2 r k) := fun k => by
      pointwise
      rw [show (⟨512 + (r.val - 512), _⟩ : Fin 1024) = r from Fin.ext (by show 512 + (r.val - 512) = r.val; omega)]
    simp only [e]
  refine (View.read_writes_cons_unit_of_not_mem _ _ _ _ _ _ rfl 0 (Or.inl (by show r.val < 512; omega))).trans ?_
  by_cases h256 : 256 ≤ r.val
  · refine (View.read_writes_cons_unit_of_mem _ _ _ _ _ _ (ix2 ⟨r.val - 256, by omega⟩ q) rfl (fun a => by match a with | ⟨0, _⟩ => show r.val = 256 + (r.val - 256); omega | ⟨1, _⟩ => exact (Nat.zero_add _).symm)).trans ?_
    sl_unfold_words
    simp only [View.readAt_eq_ld, Memref.IsWhole.read_unread]
    refine ((congrFun (scales2 _) _).trans (pay5_eq _ _ _)).trans ?_
    have e : ∀ k : Fin 2048, View.ld x0 (Rect.unit (s := S1024x2048) ![256, 0] S256x2048.size inb_S1024x2048_S256x2048_256_0) (ix2 ⟨r.val - 256, by omega⟩ k) = x0 (ix2 r k) := fun k => by
      pointwise
      rw [show (⟨256 + (r.val - 256), _⟩ : Fin 1024) = r from Fin.ext (by show 256 + (r.val - 256) = r.val; omega)]
    simp only [e]
  refine (View.read_writes_cons_unit_of_not_mem _ _ _ _ _ _ rfl 0 (Or.inl (by show r.val < 256; omega))).trans ?_
  refine (View.read_writes_cons_unit_of_mem _ _ _ _ _ _ (ix2 ⟨r.val - 0, by omega⟩ q) rfl (fun a => by match a with | ⟨0, _⟩ => show r.val = 0 + (r.val - 0); omega | ⟨1, _⟩ => exact (Nat.zero_add _).symm)).trans ?_
  sl_unfold_words
  simp only [View.readAt_eq_ld, Memref.IsWhole.read_unread]
  refine (pay5_eq _ _ _).trans ?_
  have e : ∀ k : Fin 2048, View.ld x0 (Rect.unit (s := S1024x2048) ![0, 0] S256x2048.size inb_S1024x2048_S256x2048_0_0) (ix2 ⟨r.val - 0, by omega⟩ k) = x0 (ix2 r k) := fun k => by
    pointwise
  simp only [e]

theorem out3_eq (c : Dev nD) (i : grid0.Coords) (arg1 : Memref sig .tc .vmem S1024x2048 .bf16) (harg1 : arg1.IsWhole) (arg2 : Memref sig .tc .vmem S1024x2048 .i8) (harg2 : arg2.IsWhole) (arg3 : Memref sig .tc .vmem S1024x128 .f32) (harg3 : arg3.IsWhole) (arg4 : Memref sig .tc .vmem S8x128 .f32) (harg4 : arg4.IsWhole)
    (x0 : Vec Ideal S1024x2048 .bf16) (r : Fin 8) (q : Fin 128) :
    out0_A_3 (F := Ideal) c i arg1 harg1 arg2 harg2 arg3 harg3 arg4 harg4 x0 (ix2 r q) = scale fun k => x0 (ix2 ⟨r.val * 128 + q.val, by omega⟩ k) := by
  unfold out0_A_3 kernelRun0_A; dsimp only
  refine (View.read_writes_cons_unit_of_mem _ _ _ _ _ _ (ix2 r q) rfl (fun a => by match a with | ⟨0, _⟩ => exact (Nat.zero_add _).symm | ⟨1, _⟩ => exact (Nat.zero_add _).symm)).trans ?_
  sl_unfold_words
  refine dense_eq _ (fun R => scale fun k => x0 (ix2 R k)) (fun R l => ?_) r q
  rw [← out2_eq c i arg1 harg1 arg2 harg2 arg3 harg3 arg4 harg4 x0 R l]
  unfold out0_A_2 kernelRun0_A; dsimp only
  sl_unfold_words
  rw [View.readCov_eq_canon', View.read_writes_junk_eq_canon]
  refine congrArg _ ?_
  funext a; apply Fin.ext
  match a with
  | ⟨0, _⟩ => show 0 + 1 * R.val = R.val; omega
  | ⟨1, _⟩ => show 0 + 1 * l.val = l.val; omega

/-! ## The arrays -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem lt9 (t : Fin cfg0.N) : t.val < 9 := t.isLt

/-- The rows of tile `t`. -/
def rowG (t : Fin cfg0.N) (r : Fin 1024) : Fin 9216 := ⟨t.val * 1024 + r.val, by have := lt9 t; omega⟩
def rowD (t : Fin cfg0.N) (r : Fin 8) : Fin 72 := ⟨t.val * 8 + r.val, by have := lt9 t; omega⟩

/-- The tokens. -/
def A0 (c : Dev nD) : Vec Ideal S9216x2048 .bf16 := m ((c : Thread nD τ).loc main_arg0)

theorem blk0 (c : Dev nD) (t : Fin cfg0.N) (r : Fin 1024) (q : Fin 2048) :
    iblk m c 0 t (ix2 r q) = A0 m c (ix2 (rowG t r) q) := by
  unfold A0
  refine Eq.trans ?_ (congrFun (V_main_arg0 m c) _)
  show V m c main_arg0 (((cfg0.win 0).blk t).view.emb (ix2 r q)) = V m c main_arg0 (ix2 (rowG t r) q)
  congr 1; funext a; apply Fin.ext
  match a with
  | ⟨0, _⟩ => show win0_0.index t (0 : Fin 2) * 1024 + 1 * r.val = t.val * 1024 + r.val; rw [idx0]; show t.val * 1024 + 1 * r.val = _; omega
  | ⟨1, _⟩ => show win0_0.index t (1 : Fin 2) * 2048 + 1 * q.val = q.val; rw [idx0]; show 0 * 2048 + 1 * q.val = q.val; omega
theorem emb1 (t : Fin cfg0.N) (r : Fin 1024) (q : Fin 2048) :
    ((cfg0.win 1).blk t).view.emb (ix2 r q) = ix2 (rowG t r) q := by
  funext a; apply Fin.ext
  match a with
  | ⟨0, _⟩ => show win0_1.index t (0 : Fin 2) * 1024 + 1 * r.val = t.val * 1024 + r.val; rw [idx1]; show t.val * 1024 + 1 * r.val = _; omega
  | ⟨1, _⟩ => show win0_1.index t (1 : Fin 2) * 2048 + 1 * q.val = q.val; rw [idx1]; show 0 * 2048 + 1 * q.val = q.val; omega
theorem emb2 (t : Fin cfg0.N) (r : Fin 1024) (q : Fin 128) :
    ((cfg0.win 2).blk t).view.emb (ix2 r q) = ix2 (rowG t r) q := by
  funext a; apply Fin.ext
  match a with
  | ⟨0, _⟩ => show win0_2.index t (0 : Fin 2) * 1024 + 1 * r.val = t.val * 1024 + r.val; rw [idx2]; show t.val * 1024 + 1 * r.val = _; omega
  | ⟨1, _⟩ => show win0_2.index t (1 : Fin 2) * 128 + 1 * q.val = q.val; rw [idx2]; show 0 * 128 + 1 * q.val = q.val; omega
theorem emb3 (t : Fin cfg0.N) (r : Fin 8) (q : Fin 128) :
    ((cfg0.win 3).blk t).view.emb (ix2 r q) = ix2 (rowD t r) q := by
  funext a; apply Fin.ext
  match a with
  | ⟨0, _⟩ => show win0_3.index t (0 : Fin 2) * 8 + 1 * r.val = t.val * 8 + r.val; rw [idx3]; show t.val * 8 + 1 * r.val = _; omega
  | ⟨1, _⟩ => show win0_3.index t (1 : Fin 2) * 128 + 1 * q.val = q.val; rw [idx3]; show 0 * 128 + 1 * q.val = q.val; omega

/-- The codes after the run are the reference's. -/
theorem arr1 (c : Dev nD) : (dats m 0 c).arrAt 1 cfg0.N = Cert.XqRefIdeal.Hand.G1 (F := Ideal) (A0 m c) := by
  refine (dats m 0 c).arrAt_eq_of_covers 1 _ (by decide +kernel) fun t hf y => ?_
  blk_simp
  rw [after0_1]
  obtain ⟨r, q, rfl⟩ : ∃ r q, y = ix2 (n0 := 1024) (n1 := 2048) r q := ⟨_, _, eq_ix2 y⟩
  show (outsAt0 m c t).1 (ix2 r q) = Cert.XqRefIdeal.Hand.G1 (F := Ideal) (A0 m c) (((cfg0.win 1).blk t).view.emb (ix2 r q))
  rw [emb1]
  unfold outsAt0
  dsimp only
  refine (out1_eq ..).trans ?_
  simp only [blk0]
  exact (Cert.XqRefIdeal.ref1 (A0 m c) (rowG t r) q).symm

/-- The repeated scales after the run are the reference's. -/
theorem arr2 (c : Dev nD) : (dats m 0 c).arrAt 2 cfg0.N = Cert.XqRefIdeal.Hand.G2 (F := Ideal) (A0 m c) := by
  refine (dats m 0 c).arrAt_eq_of_covers 2 _ (by decide +kernel) fun t hf y => ?_
  blk_simp
  rw [after0_2]
  obtain ⟨r, q, rfl⟩ : ∃ r q, y = ix2 (n0 := 1024) (n1 := 128) r q := ⟨_, _, eq_ix2 y⟩
  show (outsAt0 m c t).2.1 (ix2 r q) = Cert.XqRefIdeal.Hand.G2 (F := Ideal) (A0 m c) (((cfg0.win 2).blk t).view.emb (ix2 r q))
  rw [emb2]
  unfold outsAt0
  dsimp only
  refine (out2_eq ..).trans ?_
  simp only [blk0]
  exact (Cert.XqRefIdeal.ref2 (A0 m c) (rowG t r) q).symm

/-- The scales after the run are the reference's. -/
theorem arr3 (c : Dev nD) : (dats m 0 c).arrAt 3 cfg0.N = Cert.XqRefIdeal.Hand.G3 (F := Ideal) (A0 m c) := by
  refine (dats m 0 c).arrAt_eq_of_covers 3 _ (by decide +kernel) fun t hf y => ?_
  blk_simp
  rw [after0_3]
  obtain ⟨r, q, rfl⟩ : ∃ r q, y = ix2 (n0 := 8) (n1 := 128) r q := ⟨_, _, eq_ix2 y⟩
  show (outsAt0 m c t).2.2 (ix2 r q) = Cert.XqRefIdeal.Hand.G3 (F := Ideal) (A0 m c) (((cfg0.win 3).blk t).view.emb (ix2 r q))
  rw [emb3]
  unfold outsAt0
  dsimp only
  refine (out3_eq ..).trans ?_
  simp only [blk0]
  refine Eq.trans ?_ (Cert.XqRefIdeal.ref3 (A0 m c) (rowD t r) q).symm
  rw [show rowG t ⟨r.val * 128 + q.val, by omega⟩ = (⟨(rowD t r).val * 128 + q.val, by have := (rowD t r).isLt; omega⟩ : Fin 9216) from
    Fin.ext (by show t.val * 1024 + (r.val * 128 + q.val) = (t.val * 8 + r.val) * 128 + q.val; omega)]

/-- The run: the three results are the reference's, the argument is unchanged. -/
theorem run : θ_run defs (onTc (τ := τ) (main (F := Ideal))) ⟨m, fun _ => 0, ρ⟩ fun r => ∀ c : Dev nD,
      r.2.mem ((c : Thread nD τ).loc main_v0_0) = Cert.XqRefIdeal.Hand.G1 (F := Ideal) (m ((c : Thread nD τ).loc main_arg0))
      ∧ r.2.mem ((c : Thread nD τ).loc main_v0_1) = Cert.XqRefIdeal.Hand.G2 (F := Ideal) (m ((c : Thread nD τ).loc main_arg0))
      ∧ r.2.mem ((c : Thread nD τ).loc main_v0_2) = Cert.XqRefIdeal.Hand.G3 (F := Ideal) (m ((c : Thread nD τ).loc main_arg0))
      ∧ r.2.mem ((c : Thread nD τ).loc main_arg0) = m ((c : Thread nD τ).loc main_arg0) :=
  (θ_run defs _ _).mono (fun r h c => ⟨(h c).1.trans (arr1 m c), (h c).2.1.trans (arr2 m c), (h c).2.2.1.trans (arr3 m c), (h c).2.2.2⟩)
    (Cert.XqIdeal.Value.run_blocks m ρ)

end Cert.XqIdeal.Hand
end
-- ==== Proof.DownRunAcc.lean ====
module

public import proofs.«01_k».proof.Proof.Gen.DownIdeal.Skeleton
public import proofs.«01_k».proof.Proof.Gen.DownIdeal.Frame

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a column block that is not the last: the losses are not written. -/
def runAcc (c : Dev nD) (i : grid0.Coords) (arg2 : Memref sig .tc .vmem S1024x5632 .i8) (harg2 : arg2.IsWhole) (arg3 : Memref sig .tc .vmem S1024x128 .f32) (harg3 : arg3.IsWhole) (arg4 : Memref sig .tc .vmem S5632x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S8x128 .f32) (harg10 : arg10.IsWhole) (arg11 : Memref sig .tc .vmem S1024x128 .f32) (harg11 : arg11.IsWhole) (h1 : ¬ k0_cond1 i = 1#1)
    (x0 : Vec F S1024x5632 .i8) (x1 : Vec F S1024x128 .f32) (x2 : Vec F S5632x512 .bf16) (x3 : Vec F S1x512 .f32) (x4 : Vec F S1024x512 .bf16) (x5 : Vec F S1024x512 .bf16)
    (y0 : Vec F S1024x512 .bf16) (y1 : Vec F S1024x512 .bf16) (y2 : Vec F S8x128 .f32) (y3 : Vec F S1024x128 .f32) :
    { p : (Vec F S1024x512 .bf16 × Vec F S1024x512 .bf16) × Vec F S1024x128 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y0 ∗ owns (c : Thread nD τ) arg9 fullShare y1 ∗ owns (c : Thread nD τ) arg10 fullShare y2 ∗ owns (c : Thread nD τ) arg11 fullShare y3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare p.1.1 ∗ owns (c : Thread nD τ) arg9 fullShare p.1.2 ∗ owns (c : Thread nD τ) arg10 fullShare y2 ∗ owns (c : Thread nD τ) arg11 fullShare p.2) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨((?_, ?_), ?_), ?_⟩; rotate_left 3
  · intro E K
    simp only [cc0_down_eq_skeleton]; unfold cc0_down_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rfl
    isplitl [H7]
    · iexists _; isplitr; swap; · iexact H7
      ipureintro; rfl
    isplitl [H8]
    · iexists _; isplitr; · ipureintro; exact harg10.read_unread _
      iexact H8
    iexists _; isplitr; swap; · iexact H9
    ipureintro; rfl

end Cert.DownIdeal.Hand

end
-- ==== Proof.DownRunEnd.lean ====
module

public import proofs.«01_k».proof.Proof.Gen.DownIdeal.Skeleton
public import proofs.«01_k».proof.Proof.Gen.DownIdeal.Frame

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last column block of a token tile: the losses are written. -/
def runEnd (c : Dev nD) (i : grid0.Coords) (arg2 : Memref sig .tc .vmem S1024x5632 .i8) (harg2 : arg2.IsWhole) (arg3 : Memref sig .tc .vmem S1024x128 .f32) (harg3 : arg3.IsWhole) (arg4 : Memref sig .tc .vmem S5632x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S8x128 .f32) (harg10 : arg10.IsWhole) (arg11 : Memref sig .tc .vmem S1024x128 .f32) (harg11 : arg11.IsWhole) (h1 : k0_cond1 i = 1#1)
    (x0 : Vec F S1024x5632 .i8) (x1 : Vec F S1024x128 .f32) (x2 : Vec F S5632x512 .bf16) (x3 : Vec F S1x512 .f32) (x4 : Vec F S1024x512 .bf16) (x5 : Vec F S1024x512 .bf16)
    (y0 : Vec F S1024x512 .bf16) (y1 : Vec F S1024x512 .bf16) (y2 : Vec F S8x128 .f32) (y3 : Vec F S1024x128 .f32) :
    { p : (Vec F S1024x512 .bf16 × Vec F S1024x512 .bf16) × (Vec F S8x128 .f32 × Vec F S1024x128 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y0 ∗ owns (c : Thread nD τ) arg9 fullShare y1 ∗ owns (c : Thread nD τ) arg10 fullShare y2 ∗ owns (c : Thread nD τ) arg11 fullShare y3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare p.1.1 ∗ owns (c : Thread nD τ) arg9 fullShare p.1.2 ∗ owns (c : Thread nD τ) arg10 fullShare p.2.1 ∗ owns (c : Thread nD τ) arg11 fullShare p.2.2) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨((?_, ?_), (?_, ?_)), ?_⟩; rotate_left 4
  · intro E K
    simp only [cc0_down_eq_skeleton]; unfold cc0_down_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    iexists _; isplitr; swap; · iexact H9
    ipureintro; rfl

end Cert.DownIdeal.Hand

end
-- ==== Proof.DownFree.lean ====
/- The frame: from any memory the call ends, leaves its arguments unchanged and its counters at zero. Nothing is said here of
   what the outputs hold. -/
module

public import proofs.«01_k».proof.Proof.Gen.DownIdeal.Skeleton
public import proofs.«01_k».proof.Proof.Gen.DownIdeal.Frame
public import proofs.«01_k».proof.Proof.DownRunAcc
public import proofs.«01_k».proof.Proof.DownRunEnd
public import Idealize.ShloMosaic.Lib.Claim
public import Idealize.ShloMosaic.Lib.Pipeline.FrameBody

@[expose] public section

set_option maxRecDepth 16384

noncomputable section

namespace Cert.DownIdeal.Free

open Cert.DownIdeal Cert.DownIdeal.Gen Cert.DownIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S1024x128 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

theorem cond1_iff : ∀ t : Fin cfg0.N, k0_cond1 (grid0.coords t) = 1#1 ↔ t.val % 4 = 3 :=
  (by decide +kernel : ∀ t : Fin grid0.N, k0_cond1 (grid0.coords t) = 1#1 ↔ t.val % 4 = 3)

/-- The output windows, of which nothing is named. -/
def forgets0 : Fin 9 → Bool := fun w => decide (6 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (st0_6 t) fullShare d)
    ∗ (∃ d, owns (c : Thread nD τ) (st0_7 t) fullShare d)
    ∗ (∃ d, owns (c : Thread nD τ) (st0_8 t) fullShare d))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, leaves0_0, before0_1, leaves0_1, before0_2, leaves0_2, before0_3, leaves0_3, before0_4, leaves0_4, before0_5, leaves0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  by_cases h1 : t.val % 4 = 3
  · iintro ⟨⟨⟨%s0, S0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runEnd (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) ((cond1_iff t).mpr h1) (iblk m c 0 t) (iblk m c 1 t) (iblk m c 2 t) (iblk m c 3 t) (iblk m c 4 t) (iblk m c 5 t) d6 d7 d8 s0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    iintro ⟨H0, H1, H2, H3, H4, H5, H6, H7, H8, S0⟩
    isplitl [S0 Hg]
    · isplitl [S0]
      · iexists _; iexact S0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  · iintro ⟨⟨⟨%s0, S0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAcc (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) (fun h => h1 ((cond1_iff t).mp h)) (iblk m c 0 t) (iblk m c 1 t) (iblk m c 2 t) (iblk m c 3 t) (iblk m c 4 t) (iblk m c 5 t) d6 d7 d8 s0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    iintro ⟨H0, H1, H2, H3, H4, H5, H6, H7, H8, S0⟩
    isplitl [S0 Hg]
    · isplitl [S0]
      · iexists _; iexact S0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call runs from any memory, leaves its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h' => ⟨fun c => have h := h'.1
    ⟨(Pipeline.RDat.FramePost.arr_in (cfg₁ := cfgs 0) h c 0 rfl).trans ((A_eq m c 0).trans (V_main_arg0 m c)),
      ((h c).2 main_arg1 (Pipeline.mem_restRefs_of main_arg1 (by decide) (by decide))).trans (V_main_arg1 m c),
      (Pipeline.RDat.FramePost.arr_in (cfg₁ := cfgs 0) h c 2 rfl).trans ((A_eq m c 2).trans (V_main_arg2 m c)),
      (Pipeline.RDat.FramePost.arr_in (cfg₁ := cfgs 0) h c 3 rfl).trans ((A_eq m c 3).trans (V_main_arg3 m c)),
      (Pipeline.RDat.FramePost.arr_in (cfg₁ := cfgs 0) h c 4 rfl).trans ((A_eq m c 4).trans (V_main_arg4 m c)),
      (Pipeline.RDat.FramePost.arr_in (cfg₁ := cfgs 0) h c 5 rfl).trans ((A_eq m c 5).trans (V_main_arg5 m c))⟩, h'.2⟩) (run_main_quiescent m ρ)

end Cert.DownIdeal.Free
end
-- ==== Proof.DownFrame.lean ====
/- The frame of the program as printed: its body is the idealised one, so the frame carries over. -/
module

public import proofs.«01_k».proof.Proof.Gen.Down.Frame
public import proofs.«01_k».proof.Proof.DownFree

@[expose] public section

set_option maxRecDepth 16384

noncomputable section

namespace Cert.Down.Hand

open Idealize.SL Idealize.SL.Sem Idealize.ShloMosaic Idealize.ShloMosaic.TcCoe
open Cert.Down

variable {F : FTy → Type} [FloatOps F]
variable [h1 : Cert.Down.Facts] [h2 : Cert.DownIdeal.Facts]

/-- The two bodies are the same term. -/
theorem body_eq : @Cert.Down.cc0_down F _ _ = @Cert.DownIdeal.cc0_down F _ _ := by with_unfolding_all rfl

set_option maxHeartbeats 8000000 in
theorem defs₀_eq : Cert.Down.defs₀ (F := F) = Cert.DownIdeal.defs₀ (F := F) := by
  unfold Cert.Down.defs₀ Cert.DownIdeal.defs₀
  congr 1
  funext l a
  obtain ⟨l, hl⟩ := l
  obtain rfl : l = 0 := by have : l < 1 := hl; omega
  obtain ⟨t, s⟩ := a
  exact congrFun (congrFun (congrFun (congrFun (congrFun (congrFun (congrFun (congrFun (congrFun (congrFun (congrFun (congrFun (congrFun (congrFun (congrFun (congrFun (congrFun (congrFun (congrFun (congrFun (congrFun body_eq (Cert.DownIdeal.grid0.coords t)) _) _) _) _) _) _) _) _) _) _) _) _) _) _) _) _) _) _) _) _

theorem defs_eq : Cert.Down.defs (F := F) = Cert.DownIdeal.defs (F := F) :=
  congrArg (Pipeline.defs Cert.DownIdeal.pcfgs) defs₀_eq

/-- The program runs, leaves its arguments unchanged and its counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) := by
  rw [defs_eq]
  exact Cert.DownIdeal.Free.frame m ρ

end Cert.Down.Hand
end
-- ==== Proof.DownVal.lean ====
module

public import proofs.«01_k».proof.Proof.Gen.DownIdeal.Skeleton
public import proofs.«01_k».proof.Proof.Gen.DownIdeal.Frame
public import proofs.«01_k».proof.Proof.DownRunAcc
public import proofs.«01_k».proof.Proof.DownRunEnd
public import Idealize.ShloMosaic.Lib.Pipeline.ValueKit
public import Idealize.ShloMosaic.Lib.Pointwise
public import Idealize.ShloMosaic.Lib.VecWindow

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.Sem
open Idealize.ShloMosaic.Rounds
open Idealize.ShloMosaic.Pipeline (Dat Cfg Window BodyObligation cellOf)

/-- The constants 2 and 1/9216. -/
def two : EReal := Ideal.ofBits FTy.f32 0x40000000#32
def inv : EReal := Ideal.ofBits FTy.f32 0x38E38E39#32

/-- The error of one output: the scaled product of codes and weights minus the target. -/
def err (a : Fin 5632 → BitVec 8) (w : Fin 5632 → EReal) (s d y : EReal) : EReal :=
  (∑ k, FloatOps.sitofp (F := Ideal) .bf16 (a k) * w k) * (s * d) - y
/-- The gradient of the mean loss by one output, from its error and its gate. -/
def grd (e g : EReal) : EReal := (two * ((g * g) * e)) * inv
/-- The squared error of one output under its gate. -/
def sq (e g : EReal) : EReal := ((g * g) * e) * e
/-- The sum of the four entries of a row of 512 that share a lane. -/
def lanes (S : Fin 512 → EReal) (l : Fin 128) : EReal :=
  ((S ⟨l.val, by omega⟩ + S ⟨128 + l.val, by omega⟩) + S ⟨256 + l.val, by omega⟩) + S ⟨384 + l.val, by omega⟩
/-- The lane of a column. -/
def lane (q : Fin 512) : Fin 128 := ⟨q.val % 128, Nat.mod_lt _ (by omega)⟩

/-- Reading a block of rows of an array from row `o` on. -/
theorem ld_rows {n m n' : ℕ} {e : EltTy} (x : Vec Ideal ⟨2, ![n, m]⟩ e) (o : ℕ)
    (h : ∀ a, (![o, 0] : Fin 2 → ℕ) a + (⟨2, ![n', m]⟩ : Shape).size a ≤ (⟨2, ![n, m]⟩ : Shape).size a) (r : Fin n') (R : Fin n) (hR : R.val = o + r.val) (k : Fin m) :
    View.ld (Val := Elt Ideal) x (Rect.unit (s := ⟨2, ![n, m]⟩) ![o, 0] (⟨2, ![n', m]⟩ : Shape).size h) (ix2 r k) = x (ix2 R k) := by
  refine congrArg x (funext fun a => Fin.ext ?_)
  match a with
  | ⟨0, _⟩ => exact (show o + 1 * r.val = R.val by omega)
  | ⟨1, _⟩ => exact (show 0 + 1 * k.val = k.val by omega)

theorem same_cast (v : Vec Ideal S256x128 .f32) (r : Fin 256) (l : Fin 128) :
    shapeCast S256x128 v shapeCasts_S256x128_S256x128 (ix2 r l) = v (ix2 r l) := by pointwise

/-- The scales of the rows, repeated over the columns. -/
theorem rep_eq (v : Vec Ideal S256x128 .f32) (r : Fin 256) (q : Fin 512) : k0_pay1 v (ix2 r q) = v (ix2 r (lane q)) := by
  unfold k0_pay1
  generalize hs : shapeCast S256x128 v shapeCasts_S256x128_S256x128 = s
  have hc : ∀ h, concatenate S256x512 1 (List.replicate 4 (⟨S256x128, s⟩ : (s : Shape) × (s.Idx → EReal))) h (ix2 r q)
      = s (ix2 r (lane q)) := fun h =>
    concatenate_replicate_apply (s₁ := S256x128) (t := S256x512) 1 4 s h rfl (ix2 r q) _ rfl
      (fun b hb => by match b with | ⟨0, _⟩ => rfl | ⟨1, _⟩ => exact absurd rfl hb)
  refine (hc _).trans ?_
  rw [← hs, same_cast]

section
variable (v0 : Vec Ideal S256x128 .f32) (v3 : Vec Ideal S1x512 .f32) (v4 : Vec Ideal S256x5632 .i8) (v6 : Vec Ideal S5632x512 .bf16) (v11 v14 : Vec Ideal S256x512 .bf16)
  (r : Fin 256) (q : Fin 512)

theorem sub_mul_eq (s : FVec Ideal S256x512 .f32) :
    subf (mulf (matmul (φ₁ := .bf16) (φ₂ := .bf16) dot_S256x5632_S5632x512_S256x512_1_0_0_1_n_n none (sitofp .bf16 v4) v6 (constant S256x512 .f32 0x00000000#32))
      (mulf s (broadcastTo S256x512 v3 broadcasts_S1x512_S256x512))) (extf .f32 v11 bitsLt_bf16_f32) (ix2 r q)
      = err (fun k => v4 (ix2 r k)) (fun k => v6 (ix2 k q)) (s (ix2 r q)) (v3 (ix2 0 q)) (v11 (ix2 r q)) := by
  unfold err
  pointwise

theorem err_eq : k0_pay2 v0 v3 v4 v6 v11 (ix2 r q)
    = err (fun k => v4 (ix2 r k)) (fun k => v6 (ix2 k q)) (v0 (ix2 r (lane q))) (v3 (ix2 0 q)) (v11 (ix2 r q)) := by
  rw [← rep_eq v0 r q]
  exact sub_mul_eq v3 v4 v6 v11 r q (k0_pay1 v0)

variable (a : Fin 5632 → BitVec 8) (w : Fin 5632 → EReal) (s d y g : EReal)
  (ha : ∀ k, v4 (ix2 r k) = a k) (hw : ∀ k, v6 (ix2 k q) = w k) (hs : v0 (ix2 r (lane q)) = s) (hd : v3 (ix2 0 q) = d)
  (hy : v11 (ix2 r q) = y) (hg : v14 (ix2 r q) = g)
include ha hw hs hd hy

theorem err_at : k0_pay2 v0 v3 v4 v6 v11 (ix2 r q) = err a w s d y := by
  rw [err_eq, hs, hd, hy, show (fun k => v4 (ix2 r k)) = a from funext ha, show (fun k => v6 (ix2 k q)) = w from funext hw]

include hg
theorem dys_at : k0_pay5 v0 v3 v4 v6 v11 v14 (ix2 r q) = grd (err a w s d y) g * s := by
  have h := err_at v0 v3 v4 v6 v11 r q a w s d y ha hw hs hd hy
  show (two * ((v14 (ix2 r q) * v14 (ix2 r q)) * k0_pay2 v0 v3 v4 v6 v11 (ix2 r q)) * inv) * k0_pay1 v0 (ix2 r q) = _
  rw [h, rep_eq, hs, hg]
  rfl
theorem dyw_at : k0_pay6 v0 v3 v4 v6 v11 v14 (ix2 r q) = grd (err a w s d y) g * d := by
  have h := err_at v0 v3 v4 v6 v11 r q a w s d y ha hw hs hd hy
  have hb : broadcastTo S256x512 v3 broadcasts_S1x512_S256x512 (ix2 r q) = v3 (ix2 0 q) := by pointwise
  show (two * ((v14 (ix2 r q) * v14 (ix2 r q)) * k0_pay2 v0 v3 v4 v6 v11 (ix2 r q)) * inv) * broadcastTo S256x512 v3 broadcasts_S1x512_S256x512 (ix2 r q) = _
  rw [h, hb, hd, hg]
  rfl
theorem sq_at : k0_pay3 v0 v3 v4 v6 v11 v14 (ix2 r q) * k0_pay2 v0 v3 v4 v6 v11 (ix2 r q) = sq (err a w s d y) g := by
  have h := err_at v0 v3 v4 v6 v11 r q a w s d y ha hw hs hd hy
  show (v14 (ix2 r q) * v14 (ix2 r q)) * k0_pay2 v0 v3 v4 v6 v11 (ix2 r q) * k0_pay2 v0 v3 v4 v6 v11 (ix2 r q) = _
  rw [h, hg]
  rfl
end

theorem lanes_eq (v : FVec Ideal S256x512 .f32) (r : Fin 256) (l : Fin 128) :
    addf (addf (addf (extractStridedSlice S256x128 ![0, 0] v slices_S256x512_o0_0_S256x128) (extractStridedSlice S256x128 ![0, 128] v slices_S256x512_o0_128_S256x128))
      (extractStridedSlice S256x128 ![0, 256] v slices_S256x512_o0_256_S256x128)) (extractStridedSlice S256x128 ![0, 384] v slices_S256x512_o0_384_S256x128) (ix2 r l)
      = lanes (fun q => v (ix2 r q)) l := by
  pointwise
  simp only [lanes, Nat.zero_add]

theorem acc_eq (n : BitVec 32) (p v : FVec Ideal S256x128 .f32) (r : Fin 256) (l : Fin 128) :
    k0_pay8 n p v (ix2 r l) = Scalar.select (Scalar.cmpi .eq n 0#32) 0 (v (ix2 r l)) + p (ix2 r l) := by
  pointwise [k0_pay8]

/-- What a block of rows adds to the lane sums. -/
theorem part_at (n : BitVec 32) (v0 : Vec Ideal S256x128 .f32) (v3 : Vec Ideal S1x512 .f32) (v4 : Vec Ideal S256x5632 .i8) (v6 : Vec Ideal S5632x512 .bf16) (v11 v14 : Vec Ideal S256x512 .bf16)
    (v : Vec Ideal S256x128 .f32) (r : Fin 256) (l : Fin 128) (z : EReal) (S : Fin 512 → EReal) (hz : v (ix2 r l) = z)
    (hS : ∀ q, k0_pay3 v0 v3 v4 v6 v11 v14 (ix2 r q) * k0_pay2 v0 v3 v4 v6 v11 (ix2 r q) = S q) :
    k0_pay8 n (k0_pay7 v0 v3 v4 v6 v11 v14) v (ix2 r l) = Scalar.select (Scalar.cmpi .eq n 0#32) 0 z + lanes S l := by
  rw [acc_eq, hz, ← show (fun q => k0_pay3 v0 v3 v4 v6 v11 v14 (ix2 r q) * k0_pay2 v0 v3 v4 v6 v11 (ix2 r q)) = S from funext hS]
  exact congrArg _ (lanes_eq (mulf (k0_pay3 v0 v3 v4 v6 v11 v14) (k0_pay2 v0 v3 v4 v6 v11)) r l)

theorem loss_eq (v : FVec Ideal S1024x128 .f32) (r : Fin 8) (l : Fin 128) :
    k0_pay33 v (ix2 r l) = (∑ x : Fin 128, v (ix2 ⟨r.val * 128 + l.val, by omega⟩ x)) * inv := by
  pointwise [k0_pay33]
  rfl

section
variable (n : BitVec 32) (a : Vec Ideal S256x128 .f32) (b : Vec Ideal S1x512 .f32) (d : Vec Ideal S256x5632 .i8) (e : Vec Ideal S5632x512 .bf16) (f g : Vec Ideal S256x512 .bf16) (v : Vec Ideal S256x128 .f32)
theorem dys2 : k0_pay13 a b d e f g = k0_pay5 a b d e f g := rfl
theorem dyw2 : k0_pay15 (k0_pay14 a b d e f g) = k0_pay6 a b d e f g := rfl
theorem part2 : k0_pay16 n (k0_pay10 a b d e f) (k0_pay11 a b d e f g) v = k0_pay8 n (k0_pay7 a b d e f g) v := rfl
theorem dys3 : k0_pay21 (k0_pay17 a) (k0_pay19 a b d e f g) (Scalar.ofBits .f32 0x40000000#32) = k0_pay5 a b d e f g := rfl
theorem dyw3 : k0_pay22 b (k0_pay19 a b d e f g) (Scalar.ofBits .f32 0x40000000#32) = k0_pay6 a b d e f g := rfl
theorem part3 : k0_pay23 n (k0_pay18 a b d e f) (k0_pay19 a b d e f g) v = k0_pay8 n (k0_pay7 a b d e f g) v := rfl
theorem dys4 : k0_pay30 (k0_pay24 a) (k0_pay25 d e) (k0_pay26 a b) f g = k0_pay5 a b d e f g := rfl
theorem dyw4 : k0_pay31 b (k0_pay25 d e) (k0_pay26 a b) f g = k0_pay6 a b d e f g := rfl
theorem part4 : k0_pay32 n (k0_pay25 d e) (k0_pay26 a b) f g v = k0_pay8 n (k0_pay7 a b d e f g) v := rfl
end

/-! ## What a step leaves, on whole blocks -/

section
variable (x0 : Vec Ideal S1024x5632 .i8) (x1 : Vec Ideal S1024x128 .f32) (x2 : Vec Ideal S5632x512 .bf16) (x3 : Vec Ideal S1x512 .f32) (x4 : Vec Ideal S1024x512 .bf16) (x5 : Vec Ideal S1024x512 .bf16)

def errB (r : Fin 1024) (q : Fin 512) : EReal :=
  err (fun k => x0 (ix2 r k)) (fun k => x2 (ix2 k q)) (x1 (ix2 r (lane q))) (x3 (ix2 0 q)) (x4 (ix2 r q))
def dysB (r : Fin 1024) (q : Fin 512) : EReal := grd (errB x0 x1 x2 x3 x4 r q) (x5 (ix2 r q)) * x1 (ix2 r (lane q))
def dywB (r : Fin 1024) (q : Fin 512) : EReal := grd (errB x0 x1 x2 x3 x4 r q) (x5 (ix2 r q)) * x3 (ix2 0 q)
def sqB (r : Fin 1024) (q : Fin 512) : EReal := sq (errB x0 x1 x2 x3 x4 r q) (x5 (ix2 r q))
end

/-- Four blocks of 256 rows cover 1024 rows. -/
theorem rows_cover (w1 w2 w3 w4 : Vec Ideal S256x128 .f32) (R : Fin 1024) (x : Fin 128) :
    ∃ p ∈ ([⟨Rect.unit ![768, 0] S256x128.size inb_S1024x128_S256x128_768_0, w4⟩, ⟨Rect.unit ![512, 0] S256x128.size inb_S1024x128_S256x128_512_0, w3⟩,
      ⟨Rect.unit ![256, 0] S256x128.size inb_S1024x128_S256x128_256_0, w2⟩, ⟨Rect.unit ![0, 0] S256x128.size inb_S1024x128_S256x128_0_0, w1⟩] : List (View.Piece (Elt Ideal) S1024x128 .f32)),
      (ix2 R x : S1024x128.Idx) ∈ p.1.set := by
  have hm : ∀ (o : ℕ) (inb) (h1 : o ≤ R.val) (h2 : R.val < o + 256),
      (ix2 R x : S1024x128.Idx) ∈ (Rect.unit (s := S1024x128) ![o, 0] S256x128.size inb).set := fun o inb h1 h2 => by
    have e : (Rect.unit (s := S1024x128) ![o, 0] S256x128.size inb).emb (ix2 (⟨R.val - o, by omega⟩ : Fin 256) x) = ix2 R x := by
      funext a; apply Fin.ext
      match a with
      | ⟨0, _⟩ => show o + 1 * (R.val - o) = R.val; omega
      | ⟨1, _⟩ => show 0 + 1 * x.val = x.val; omega
    rw [← e, ← Rect.map_emb_univ]
    exact Finset.mem_map_of_mem _ (Finset.mem_univ _)
  by_cases h3 : 768 ≤ R.val
  · exact ⟨_, List.mem_cons_self, hm 768 inb_S1024x128_S256x128_768_0 h3 (by omega)⟩
  by_cases h2 : 512 ≤ R.val
  · exact ⟨_, List.mem_cons_of_mem _ List.mem_cons_self, hm 512 inb_S1024x128_S256x128_512_0 h2 (by omega)⟩
  by_cases h1 : 256 ≤ R.val
  · exact ⟨_, List.mem_cons_of_mem _ (List.mem_cons_of_mem _ List.mem_cons_self), hm 256 inb_S1024x128_S256x128_256_0 h1 (by omega)⟩
  · exact ⟨_, List.mem_cons_of_mem _ (List.mem_cons_of_mem _ (List.mem_cons_of_mem _ List.mem_cons_self)), hm 0 inb_S1024x128_S256x128_0_0 (Nat.zero_le _) (by omega)⟩

section
variable (c : Dev nD) (i : grid0.Coords) (arg2 : Memref sig .tc .vmem S1024x5632 .i8) (harg2 : arg2.IsWhole) (arg3 : Memref sig .tc .vmem S1024x128 .f32) (harg3 : arg3.IsWhole) (arg4 : Memref sig .tc .vmem S5632x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S8x128 .f32) (harg10 : arg10.IsWhole) (arg11 : Memref sig .tc .vmem S1024x128 .f32) (harg11 : arg11.IsWhole)
    (x0 : Vec Ideal S1024x5632 .i8) (x1 : Vec Ideal S1024x128 .f32) (x2 : Vec Ideal S5632x512 .bf16) (x3 : Vec Ideal S1x512 .f32) (x4 : Vec Ideal S1024x512 .bf16) (x5 : Vec Ideal S1024x512 .bf16)
    (y0 : Vec Ideal S1024x512 .bf16) (y1 : Vec Ideal S1024x512 .bf16) (y2 : Vec Ideal S8x128 .f32) (y3 : Vec Ideal S1024x128 .f32)

theorem acc_dys (h1 : ¬ k0_cond1 i = 1#1) (r : Fin 1024) (q : Fin 512) :
    (runAcc (F := Ideal) c i arg2 harg2 arg3 harg3 arg4 harg4 arg5 harg5 arg6 harg6 arg7 harg7 arg8 harg8 arg9 harg9 arg10 harg10 arg11 harg11 h1 x0 x1 x2 x3 x4 x5 y0 y1 y2 y3).1.1.1 (ix2 r q) = dysB x0 x1 x2 x3 x4 x5 r q := by
  unfold runAcc; dsimp only
  by_cases h768 : 768 ≤ r.val
  · refine (View.read_writes_cons_unit_of_mem _ _ _ _ _ _ (ix2 ⟨r.val - 768, by omega⟩ q) rfl (fun a => by match a with | ⟨0, _⟩ => show r.val = 768 + (r.val - 768); omega | ⟨1, _⟩ => exact (Nat.zero_add _).symm)).trans ?_
    sl_unfold_words
    simp only [View.readAt_eq_ld, Memref.IsWhole.read_unread]
    have hr : r.val = 768 + (⟨r.val - 768, by omega⟩ : Fin 256).val := by show r.val = 768 + (r.val - 768); omega
    exact (congrFun (dys4 ..) _).trans (dys_at _ _ _ _ _ _ _ _ _ _ _ _ _ _ (fun k => ld_rows x0 768 _ _ r hr k) (fun k => ld_rows x2 0 _ k k (Nat.zero_add _).symm _) (ld_rows x1 768 _ _ r hr _) (ld_rows x3 0 _ 0 0 rfl _) (ld_rows x4 768 _ _ r hr _) (ld_rows x5 768 _ _ r hr _))
  refine (View.read_writes_cons_unit_of_not_mem _ _ _ _ _ _ rfl 0 (Or.inl (by show r.val < 768; omega))).trans ?_
  by_cases h512 : 512 ≤ r.val
  · refine (View.read_writes_cons_unit_of_mem _ _ _ _ _ _ (ix2 ⟨r.val - 512, by omega⟩ q) rfl (fun a => by match a with | ⟨0, _⟩ => show r.val = 512 + (r.val - 512); omega | ⟨1, _⟩ => exact (Nat.zero_add _).symm)).trans ?_
    sl_unfold_words
    simp only [View.readAt_eq_ld, Memref.IsWhole.read_unread]
    have hr : r.val = 512 + (⟨r.val - 512, by omega⟩ : Fin 256).val := by show r.val = 512 + (r.val - 512); omega
    exact (congrFun (dys3 ..) _).trans (dys_at _ _ _ _ _ _ _ _ _ _ _ _ _ _ (fun k => ld_rows x0 512 _ _ r hr k) (fun k => ld_rows x2 0 _ k k (Nat.zero_add _).symm _) (ld_rows x1 512 _ _ r hr _) (ld_rows x3 0 _ 0 0 rfl _) (ld_rows x4 512 _ _ r hr _) (ld_rows x5 512 _ _ r hr _))
  refine (View.read_writes_cons_unit_of_not_mem _ _ _ _ _ _ rfl 0 (Or.inl (by show r.val < 512; omega))).trans ?_
  by_cases h256 : 256 ≤ r.val
  · refine (View.read_writes_cons_unit_of_mem _ _ _ _ _ _ (ix2 ⟨r.val - 256, by omega⟩ q) rfl (fun a => by match a with | ⟨0, _⟩ => show r.val = 256 + (r.val - 256); omega | ⟨1, _⟩ => exact (Nat.zero_add _).symm)).trans ?_
    sl_unfold_words
    simp only [View.readAt_eq_ld, Memref.IsWhole.read_unread]
    have hr : r.val = 256 + (⟨r.val - 256, by omega⟩ : Fin 256).val := by show r.val = 256 + (r.val - 256); omega
    exact (congrFun (dys2 ..) _).trans (dys_at _ _ _ _ _ _ _ _ _ _ _ _ _ _ (fun k => ld_rows x0 256 _ _ r hr k) (fun k => ld_rows x2 0 _ k k (Nat.zero_add _).symm _) (ld_rows x1 256 _ _ r hr _) (ld_rows x3 0 _ 0 0 rfl _) (ld_rows x4 256 _ _ r hr _) (ld_rows x5 256 _ _ r hr _))
  refine (View.read_writes_cons_unit_of_not_mem _ _ _ _ _ _ rfl 0 (Or.inl (by show r.val < 256; omega))).trans ?_
  refine (View.read_writes_cons_unit_of_mem _ _ _ _ _ _ (ix2 ⟨r.val - 0, by omega⟩ q) rfl (fun a => by match a with | ⟨0, _⟩ => show r.val = 0 + (r.val - 0); omega | ⟨1, _⟩ => exact (Nat.zero_add _).symm)).trans ?_
  sl_unfold_words
  simp only [View.readAt_eq_ld, Memref.IsWhole.read_unread]
  have hr : r.val = 0 + (⟨r.val - 0, by omega⟩ : Fin 256).val := by show r.val = 0 + (r.val - 0); omega
  exact (dys_at _ _ _ _ _ _ _ _ _ _ _ _ _ _ (fun k => ld_rows x0 0 _ _ r hr k) (fun k => ld_rows x2 0 _ k k (Nat.zero_add _).symm _) (ld_rows x1 0 _ _ r hr _) (ld_rows x3 0 _ 0 0 rfl _) (ld_rows x4 0 _ _ r hr _) (ld_rows x5 0 _ _ r hr _))

theorem acc_dyw (h1 : ¬ k0_cond1 i = 1#1) (r : Fin 1024) (q : Fin 512) :
    (runAcc (F := Ideal) c i arg2 harg2 arg3 harg3 arg4 harg4 arg5 harg5 arg6 harg6 arg7 harg7 arg8 harg8 arg9 harg9 arg10 harg10 arg11 harg11 h1 x0 x1 x2 x3 x4 x5 y0 y1 y2 y3).1.1.2 (ix2 r q) = dywB x0 x1 x2 x3 x4 x5 r q := by
  unfold runAcc; dsimp only
  by_cases h768 : 768 ≤ r.val
  · refine (View.read_writes_cons_unit_of_mem _ _ _ _ _ _ (ix2 ⟨r.val - 768, by omega⟩ q) rfl (fun a => by match a with | ⟨0, _⟩ => show r.val = 768 + (r.val - 768); omega | ⟨1, _⟩ => exact (Nat.zero_add _).symm)).trans ?_
    sl_unfold_words
    simp only [View.readAt_eq_ld, Memref.IsWhole.read_unread]
    have hr : r.val = 768 + (⟨r.val - 768, by omega⟩ : Fin 256).val := by show r.val = 768 + (r.val - 768); omega
    exact (congrFun (dyw4 ..) _).trans (dyw_at _ _ _ _ _ _ _ _ _ _ _ _ _ _ (fun k => ld_rows x0 768 _ _ r hr k) (fun k => ld_rows x2 0 _ k k (Nat.zero_add _).symm _) (ld_rows x1 768 _ _ r hr _) (ld_rows x3 0 _ 0 0 rfl _) (ld_rows x4 768 _ _ r hr _) (ld_rows x5 768 _ _ r hr _))
  refine (View.read_writes_cons_unit_of_not_mem _ _ _ _ _ _ rfl 0 (Or.inl (by show r.val < 768; omega))).trans ?_
  by_cases h512 : 512 ≤ r.val
  · refine (View.read_writes_cons_unit_of_mem _ _ _ _ _ _ (ix2 ⟨r.val - 512, by omega⟩ q) rfl (fun a => by match a with | ⟨0, _⟩ => show r.val = 512 + (r.val - 512); omega | ⟨1, _⟩ => exact (Nat.zero_add _).symm)).trans ?_
    sl_unfold_words
    simp only [View.readAt_eq_ld, Memref.IsWhole.read_unread]
    have hr : r.val = 512 + (⟨r.val - 512, by omega⟩ : Fin 256).val := by show r.val = 512 + (r.val - 512); omega
    exact (congrFun (dyw3 ..) _).trans (dyw_at _ _ _ _ _ _ _ _ _ _ _ _ _ _ (fun k => ld_rows x0 512 _ _ r hr k) (fun k => ld_rows x2 0 _ k k (Nat.zero_add _).symm _) (ld_rows x1 512 _ _ r hr _) (ld_rows x3 0 _ 0 0 rfl _) (ld_rows x4 512 _ _ r hr _) (ld_rows x5 512 _ _ r hr _))
  refine (View.read_writes_cons_unit_of_not_mem _ _ _ _ _ _ rfl 0 (Or.inl (by show r.val < 512; omega))).trans ?_
  by_cases h256 : 256 ≤ r.val
  · refine (View.read_writes_cons_unit_of_mem _ _ _ _ _ _ (ix2 ⟨r.val - 256, by omega⟩ q) rfl (fun a => by match a with | ⟨0, _⟩ => show r.val = 256 + (r.val - 256); omega | ⟨1, _⟩ => exact (Nat.zero_add _).symm)).trans ?_
    sl_unfold_words
    simp only [View.readAt_eq_ld, Memref.IsWhole.read_unread]
    have hr : r.val = 256 + (⟨r.val - 256, by omega⟩ : Fin 256).val := by show r.val = 256 + (r.val - 256); omega
    exact (congrFun (dyw2 ..) _).trans (dyw_at _ _ _ _ _ _ _ _ _ _ _ _ _ _ (fun k => ld_rows x0 256 _ _ r hr k) (fun k => ld_rows x2 0 _ k k (Nat.zero_add _).symm _) (ld_rows x1 256 _ _ r hr _) (ld_rows x3 0 _ 0 0 rfl _) (ld_rows x4 256 _ _ r hr _) (ld_rows x5 256 _ _ r hr _))
  refine (View.read_writes_cons_unit_of_not_mem _ _ _ _ _ _ rfl 0 (Or.inl (by show r.val < 256; omega))).trans ?_
  refine (View.read_writes_cons_unit_of_mem _ _ _ _ _ _ (ix2 ⟨r.val - 0, by omega⟩ q) rfl (fun a => by match a with | ⟨0, _⟩ => show r.val = 0 + (r.val - 0); omega | ⟨1, _⟩ => exact (Nat.zero_add _).symm)).trans ?_
  sl_unfold_words
  simp only [View.readAt_eq_ld, Memref.IsWhole.read_unread]
  have hr : r.val = 0 + (⟨r.val - 0, by omega⟩ : Fin 256).val := by show r.val = 0 + (r.val - 0); omega
  exact (dyw_at _ _ _ _ _ _ _ _ _ _ _ _ _ _ (fun k => ld_rows x0 0 _ _ r hr k) (fun k => ld_rows x2 0 _ k k (Nat.zero_add _).symm _) (ld_rows x1 0 _ _ r hr _) (ld_rows x3 0 _ 0 0 rfl _) (ld_rows x4 0 _ _ r hr _) (ld_rows x5 0 _ _ r hr _))

theorem acc_part (h1 : ¬ k0_cond1 i = 1#1) (r : Fin 1024) (q : Fin 128) :
    (runAcc (F := Ideal) c i arg2 harg2 arg3 harg3 arg4 harg4 arg5 harg5 arg6 harg6 arg7 harg7 arg8 harg8 arg9 harg9 arg10 harg10 arg11 harg11 h1 x0 x1 x2 x3 x4 x5 y0 y1 y2 y3).1.2 (ix2 r q) = Scalar.select (Scalar.cmpi .eq (BitVec.ofNat 32 (i 1).val) 0#32) 0 (y3 (ix2 r q)) + lanes (sqB x0 x1 x2 x3 x4 x5 r) q := by
  unfold runAcc; dsimp only
  by_cases h768 : 768 ≤ r.val
  · refine (View.read_writes_cons_unit_of_mem _ _ _ _ _ _ (ix2 ⟨r.val - 768, by omega⟩ q) rfl (fun a => by match a with | ⟨0, _⟩ => show r.val = 768 + (r.val - 768); omega | ⟨1, _⟩ => exact (Nat.zero_add _).symm)).trans ?_
    sl_unfold_words
    simp only [View.readAt_eq_ld, Memref.IsWhole.read_unread]
    have hr : r.val = 768 + (⟨r.val - 768, by omega⟩ : Fin 256).val := by show r.val = 768 + (r.val - 768); omega
    exact (congrFun (part4 ..) _).trans (part_at _ _ _ _ _ _ _ _ _ _ _ _ (ld_rows y3 768 _ _ r hr _) fun q => sq_at _ _ _ _ _ _ _ q _ _ _ _ _ _ (fun k => ld_rows x0 768 _ _ r hr k) (fun k => ld_rows x2 0 _ k k (Nat.zero_add _).symm _) (ld_rows x1 768 _ _ r hr _) (ld_rows x3 0 _ 0 0 rfl _) (ld_rows x4 768 _ _ r hr _) (ld_rows x5 768 _ _ r hr _))
  refine (View.read_writes_cons_unit_of_not_mem _ _ _ _ _ _ rfl 0 (Or.inl (by show r.val < 768; omega))).trans ?_
  by_cases h512 : 512 ≤ r.val
  · refine (View.read_writes_cons_unit_of_mem _ _ _ _ _ _ (ix2 ⟨r.val - 512, by omega⟩ q) rfl (fun a => by match a with | ⟨0, _⟩ => show r.val = 512 + (r.val - 512); omega | ⟨1, _⟩ => exact (Nat.zero_add _).symm)).trans ?_
    sl_unfold_words
    simp only [View.readAt_eq_ld, Memref.IsWhole.read_unread]
    have hr : r.val = 512 + (⟨r.val - 512, by omega⟩ : Fin 256).val := by show r.val = 512 + (r.val - 512); omega
    exact (congrFun (part3 ..) _).trans (part_at _ _ _ _ _ _ _ _ _ _ _ _ (ld_rows y3 512 _ _ r hr _) fun q => sq_at _ _ _ _ _ _ _ q _ _ _ _ _ _ (fun k => ld_rows x0 512 _ _ r hr k) (fun k => ld_rows x2 0 _ k k (Nat.zero_add _).symm _) (ld_rows x1 512 _ _ r hr _) (ld_rows x3 0 _ 0 0 rfl _) (ld_rows x4 512 _ _ r hr _) (ld_rows x5 512 _ _ r hr _))
  refine (View.read_writes_cons_unit_of_not_mem _ _ _ _ _ _ rfl 0 (Or.inl (by show r.val < 512; omega))).trans ?_
  by_cases h256 : 256 ≤ r.val
  · refine (View.read_writes_cons_unit_of_mem _ _ _ _ _ _ (ix2 ⟨r.val - 256, by omega⟩ q) rfl (fun a => by match a with | ⟨0, _⟩ => show r.val = 256 + (r.val - 256); omega | ⟨1, _⟩ => exact (Nat.zero_add _).symm)).trans ?_
    sl_unfold_words
    simp only [View.readAt_eq_ld, Memref.IsWhole.read_unread]
    have hr : r.val = 256 + (⟨r.val - 256, by omega⟩ : Fin 256).val := by show r.val = 256 + (r.val - 256); omega
    exact (congrFun (part2 ..) _).trans (part_at _ _ _ _ _ _ _ _ _ _ _ _ (ld_rows y3 256 _ _ r hr _) fun q => sq_at _ _ _ _ _ _ _ q _ _ _ _ _ _ (fun k => ld_rows x0 256 _ _ r hr k) (fun k => ld_rows x2 0 _ k k (Nat.zero_add _).symm _) (ld_rows x1 256 _ _ r hr _) (ld_rows x3 0 _ 0 0 rfl _) (ld_rows x4 256 _ _ r hr _) (ld_rows x5 256 _ _ r hr _))
  refine (View.read_writes_cons_unit_of_not_mem _ _ _ _ _ _ rfl 0 (Or.inl (by show r.val < 256; omega))).trans ?_
  refine (View.read_writes_cons_unit_of_mem _ _ _ _ _ _ (ix2 ⟨r.val - 0, by omega⟩ q) rfl (fun a => by match a with | ⟨0, _⟩ => show r.val = 0 + (r.val - 0); omega | ⟨1, _⟩ => exact (Nat.zero_add _).symm)).trans ?_
  sl_unfold_words
  simp only [View.readAt_eq_ld, Memref.IsWhole.read_unread]
  have hr : r.val = 0 + (⟨r.val - 0, by omega⟩ : Fin 256).val := by show r.val = 0 + (r.val - 0); omega
  exact (part_at _ _ _ _ _ _ _ _ _ _ _ _ (ld_rows y3 0 _ _ r hr _) fun q => sq_at _ _ _ _ _ _ _ q _ _ _ _ _ _ (fun k => ld_rows x0 0 _ _ r hr k) (fun k => ld_rows x2 0 _ k k (Nat.zero_add _).symm _) (ld_rows x1 0 _ _ r hr _) (ld_rows x3 0 _ 0 0 rfl _) (ld_rows x4 0 _ _ r hr _) (ld_rows x5 0 _ _ r hr _))

theorem end_dys (h1 : k0_cond1 i = 1#1) (r : Fin 1024) (q : Fin 512) :
    (runEnd (F := Ideal) c i arg2 harg2 arg3 harg3 arg4 harg4 arg5 harg5 arg6 harg6 arg7 harg7 arg8 harg8 arg9 harg9 arg10 harg10 arg11 harg11 h1 x0 x1 x2 x3 x4 x5 y0 y1 y2 y3).1.1.1 (ix2 r q) = dysB x0 x1 x2 x3 x4 x5 r q := by
  unfold runEnd; dsimp only
  by_cases h768 : 768 ≤ r.val
  · refine (View.read_writes_cons_unit_of_mem _ _ _ _ _ _ (ix2 ⟨r.val - 768, by omega⟩ q) rfl (fun a => by match a with | ⟨0, _⟩ => show r.val = 768 + (r.val - 768); omega | ⟨1, _⟩ => exact (Nat.zero_add _).symm)).trans ?_
    sl_unfold_words
    simp only [View.readAt_eq_ld, Memref.IsWhole.read_unread]
    have hr : r.val = 768 + (⟨r.val - 768, by omega⟩ : Fin 256).val := by show r.val = 768 + (r.val - 768); omega
    exact (congrFun (dys4 ..) _).trans (dys_at _ _ _ _ _ _ _ _ _ _ _ _ _ _ (fun k => ld_rows x0 768 _ _ r hr k) (fun k => ld_rows x2 0 _ k k (Nat.zero_add _).symm _) (ld_rows x1 768 _ _ r hr _) (ld_rows x3 0 _ 0 0 rfl _) (ld_rows x4 768 _ _ r hr _) (ld_rows x5 768 _ _ r hr _))
  refine (View.read_writes_cons_unit_of_not_mem _ _ _ _ _ _ rfl 0 (Or.inl (by show r.val < 768; omega))).trans ?_
  by_cases h512 : 512 ≤ r.val
  · refine (View.read_writes_cons_unit_of_mem _ _ _ _ _ _ (ix2 ⟨r.val - 512, by omega⟩ q) rfl (fun a => by match a with | ⟨0, _⟩ => show r.val = 512 + (r.val - 512); omega | ⟨1, _⟩ => exact (Nat.zero_add _).symm)).trans ?_
    sl_unfold_words
    simp only [View.readAt_eq_ld, Memref.IsWhole.read_unread]
    have hr : r.val = 512 + (⟨r.val - 512, by omega⟩ : Fin 256).val := by show r.val = 512 + (r.val - 512); omega
    exact (congrFun (dys3 ..) _).trans (dys_at _ _ _ _ _ _ _ _ _ _ _ _ _ _ (fun k => ld_rows x0 512 _ _ r hr k) (fun k => ld_rows x2 0 _ k k (Nat.zero_add _).symm _) (ld_rows x1 512 _ _ r hr _) (ld_rows x3 0 _ 0 0 rfl _) (ld_rows x4 512 _ _ r hr _) (ld_rows x5 512 _ _ r hr _))
  refine (View.read_writes_cons_unit_of_not_mem _ _ _ _ _ _ rfl 0 (Or.inl (by show r.val < 512; omega))).trans ?_
  by_cases h256 : 256 ≤ r.val
  · refine (View.read_writes_cons_unit_of_mem _ _ _ _ _ _ (ix2 ⟨r.val - 256, by omega⟩ q) rfl (fun a => by match a with | ⟨0, _⟩ => show r.val = 256 + (r.val - 256); omega | ⟨1, _⟩ => exact (Nat.zero_add _).symm)).trans ?_
    sl_unfold_words
    simp only [View.readAt_eq_ld, Memref.IsWhole.read_unread]
    have hr : r.val = 256 + (⟨r.val - 256, by omega⟩ : Fin 256).val := by show r.val = 256 + (r.val - 256); omega
    exact (congrFun (dys2 ..) _).trans (dys_at _ _ _ _ _ _ _ _ _ _ _ _ _ _ (fun k => ld_rows x0 256 _ _ r hr k) (fun k => ld_rows x2 0 _ k k (Nat.zero_add _).symm _) (ld_rows x1 256 _ _ r hr _) (ld_rows x3 0 _ 0 0 rfl _) (ld_rows x4 256 _ _ r hr _) (ld_rows x5 256 _ _ r hr _))
  refine (View.read_writes_cons_unit_of_not_mem _ _ _ _ _ _ rfl 0 (Or.inl (by show r.val < 256; omega))).trans ?_
  refine (View.read_writes_cons_unit_of_mem _ _ _ _ _ _ (ix2 ⟨r.val - 0, by omega⟩ q) rfl (fun a => by match a with | ⟨0, _⟩ => show r.val = 0 + (r.val - 0); omega | ⟨1, _⟩ => exact (Nat.zero_add _).symm)).trans ?_
  sl_unfold_words
  simp only [View.readAt_eq_ld, Memref.IsWhole.read_unread]
  have hr : r.val = 0 + (⟨r.val - 0, by omega⟩ : Fin 256).val := by show r.val = 0 + (r.val - 0); omega
  exact (dys_at _ _ _ _ _ _ _ _ _ _ _ _ _ _ (fun k => ld_rows x0 0 _ _ r hr k) (fun k => ld_rows x2 0 _ k k (Nat.zero_add _).symm _) (ld_rows x1 0 _ _ r hr _) (ld_rows x3 0 _ 0 0 rfl _) (ld_rows x4 0 _ _ r hr _) (ld_rows x5 0 _ _ r hr _))

theorem end_dyw (h1 : k0_cond1 i = 1#1) (r : Fin 1024) (q : Fin 512) :
    (runEnd (F := Ideal) c i arg2 harg2 arg3 harg3 arg4 harg4 arg5 harg5 arg6 harg6 arg7 harg7 arg8 harg8 arg9 harg9 arg10 harg10 arg11 harg11 h1 x0 x1 x2 x3 x4 x5 y0 y1 y2 y3).1.1.2 (ix2 r q) = dywB x0 x1 x2 x3 x4 x5 r q := by
  unfold runEnd; dsimp only
  by_cases h768 : 768 ≤ r.val
  · refine (View.read_writes_cons_unit_of_mem _ _ _ _ _ _ (ix2 ⟨r.val - 768, by omega⟩ q) rfl (fun a => by match a with | ⟨0, _⟩ => show r.val = 768 + (r.val - 768); omega | ⟨1, _⟩ => exact (Nat.zero_add _).symm)).trans ?_
    sl_unfold_words
    simp only [View.readAt_eq_ld, Memref.IsWhole.read_unread]
    have hr : r.val = 768 + (⟨r.val - 768, by omega⟩ : Fin 256).val := by show r.val = 768 + (r.val - 768); omega
    exact (congrFun (dyw4 ..) _).trans (dyw_at _ _ _ _ _ _ _ _ _ _ _ _ _ _ (fun k => ld_rows x0 768 _ _ r hr k) (fun k => ld_rows x2 0 _ k k (Nat.zero_add _).symm _) (ld_rows x1 768 _ _ r hr _) (ld_rows x3 0 _ 0 0 rfl _) (ld_rows x4 768 _ _ r hr _) (ld_rows x5 768 _ _ r hr _))
  refine (View.read_writes_cons_unit_of_not_mem _ _ _ _ _ _ rfl 0 (Or.inl (by show r.val < 768; omega))).trans ?_
  by_cases h512 : 512 ≤ r.val
  · refine (View.read_writes_cons_unit_of_mem _ _ _ _ _ _ (ix2 ⟨r.val - 512, by omega⟩ q) rfl (fun a => by match a with | ⟨0, _⟩ => show r.val = 512 + (r.val - 512); omega | ⟨1, _⟩ => exact (Nat.zero_add _).symm)).trans ?_
    sl_unfold_words
    simp only [View.readAt_eq_ld, Memref.IsWhole.read_unread]
    have hr : r.val = 512 + (⟨r.val - 512, by omega⟩ : Fin 256).val := by show r.val = 512 + (r.val - 512); omega
    exact (congrFun (dyw3 ..) _).trans (dyw_at _ _ _ _ _ _ _ _ _ _ _ _ _ _ (fun k => ld_rows x0 512 _ _ r hr k) (fun k => ld_rows x2 0 _ k k (Nat.zero_add _).symm _) (ld_rows x1 512 _ _ r hr _) (ld_rows x3 0 _ 0 0 rfl _) (ld_rows x4 512 _ _ r hr _) (ld_rows x5 512 _ _ r hr _))
  refine (View.read_writes_cons_unit_of_not_mem _ _ _ _ _ _ rfl 0 (Or.inl (by show r.val < 512; omega))).trans ?_
  by_cases h256 : 256 ≤ r.val
  · refine (View.read_writes_cons_unit_of_mem _ _ _ _ _ _ (ix2 ⟨r.val - 256, by omega⟩ q) rfl (fun a => by match a with | ⟨0, _⟩ => show r.val = 256 + (r.val - 256); omega | ⟨1, _⟩ => exact (Nat.zero_add _).symm)).trans ?_
    sl_unfold_words
    simp only [View.readAt_eq_ld, Memref.IsWhole.read_unread]
    have hr : r.val = 256 + (⟨r.val - 256, by omega⟩ : Fin 256).val := by show r.val = 256 + (r.val - 256); omega
    exact (congrFun (dyw2 ..) _).trans (dyw_at _ _ _ _ _ _ _ _ _ _ _ _ _ _ (fun k => ld_rows x0 256 _ _ r hr k) (fun k => ld_rows x2 0 _ k k (Nat.zero_add _).symm _) (ld_rows x1 256 _ _ r hr _) (ld_rows x3 0 _ 0 0 rfl _) (ld_rows x4 256 _ _ r hr _) (ld_rows x5 256 _ _ r hr _))
  refine (View.read_writes_cons_unit_of_not_mem _ _ _ _ _ _ rfl 0 (Or.inl (by show r.val < 256; omega))).trans ?_
  refine (View.read_writes_cons_unit_of_mem _ _ _ _ _ _ (ix2 ⟨r.val - 0, by omega⟩ q) rfl (fun a => by match a with | ⟨0, _⟩ => show r.val = 0 + (r.val - 0); omega | ⟨1, _⟩ => exact (Nat.zero_add _).symm)).trans ?_
  sl_unfold_words
  simp only [View.readAt_eq_ld, Memref.IsWhole.read_unread]
  have hr : r.val = 0 + (⟨r.val - 0, by omega⟩ : Fin 256).val := by show r.val = 0 + (r.val - 0); omega
  exact (dyw_at _ _ _ _ _ _ _ _ _ _ _ _ _ _ (fun k => ld_rows x0 0 _ _ r hr k) (fun k => ld_rows x2 0 _ k k (Nat.zero_add _).symm _) (ld_rows x1 0 _ _ r hr _) (ld_rows x3 0 _ 0 0 rfl _) (ld_rows x4 0 _ _ r hr _) (ld_rows x5 0 _ _ r hr _))

theorem end_part (h1 : k0_cond1 i = 1#1) (r : Fin 1024) (q : Fin 128) :
    (runEnd (F := Ideal) c i arg2 harg2 arg3 harg3 arg4 harg4 arg5 harg5 arg6 harg6 arg7 harg7 arg8 harg8 arg9 harg9 arg10 harg10 arg11 harg11 h1 x0 x1 x2 x3 x4 x5 y0 y1 y2 y3).1.2.2 (ix2 r q) = Scalar.select (Scalar.cmpi .eq (BitVec.ofNat 32 (i 1).val) 0#32) 0 (y3 (ix2 r q)) + lanes (sqB x0 x1 x2 x3 x4 x5 r) q := by
  unfold runEnd; dsimp only
  by_cases h768 : 768 ≤ r.val
  · refine (View.read_writes_cons_unit_of_mem _ _ _ _ _ _ (ix2 ⟨r.val - 768, by omega⟩ q) rfl (fun a => by match a with | ⟨0, _⟩ => show r.val = 768 + (r.val - 768); omega | ⟨1, _⟩ => exact (Nat.zero_add _).symm)).trans ?_
    sl_unfold_words
    simp only [View.readAt_eq_ld, Memref.IsWhole.read_unread]
    have hr : r.val = 768 + (⟨r.val - 768, by omega⟩ : Fin 256).val := by show r.val = 768 + (r.val - 768); omega
    exact (congrFun (part4 ..) _).trans (part_at _ _ _ _ _ _ _ _ _ _ _ _ (ld_rows y3 768 _ _ r hr _) fun q => sq_at _ _ _ _ _ _ _ q _ _ _ _ _ _ (fun k => ld_rows x0 768 _ _ r hr k) (fun k => ld_rows x2 0 _ k k (Nat.zero_add _).symm _) (ld_rows x1 768 _ _ r hr _) (ld_rows x3 0 _ 0 0 rfl _) (ld_rows x4 768 _ _ r hr _) (ld_rows x5 768 _ _ r hr _))
  refine (View.read_writes_cons_unit_of_not_mem _ _ _ _ _ _ rfl 0 (Or.inl (by show r.val < 768; omega))).trans ?_
  by_cases h512 : 512 ≤ r.val
  · refine (View.read_writes_cons_unit_of_mem _ _ _ _ _ _ (ix2 ⟨r.val - 512, by omega⟩ q) rfl (fun a => by match a with | ⟨0, _⟩ => show r.val = 512 + (r.val - 512); omega | ⟨1, _⟩ => exact (Nat.zero_add _).symm)).trans ?_
    sl_unfold_words
    simp only [View.readAt_eq_ld, Memref.IsWhole.read_unread]
    have hr : r.val = 512 + (⟨r.val - 512, by omega⟩ : Fin 256).val := by show r.val = 512 + (r.val - 512); omega
    exact (congrFun (part3 ..) _).trans (part_at _ _ _ _ _ _ _ _ _ _ _ _ (ld_rows y3 512 _ _ r hr _) fun q => sq_at _ _ _ _ _ _ _ q _ _ _ _ _ _ (fun k => ld_rows x0 512 _ _ r hr k) (fun k => ld_rows x2 0 _ k k (Nat.zero_add _).symm _) (ld_rows x1 512 _ _ r hr _) (ld_rows x3 0 _ 0 0 rfl _) (ld_rows x4 512 _ _ r hr _) (ld_rows x5 512 _ _ r hr _))
  refine (View.read_writes_cons_unit_of_not_mem _ _ _ _ _ _ rfl 0 (Or.inl (by show r.val < 512; omega))).trans ?_
  by_cases h256 : 256 ≤ r.val
  · refine (View.read_writes_cons_unit_of_mem _ _ _ _ _ _ (ix2 ⟨r.val - 256, by omega⟩ q) rfl (fun a => by match a with | ⟨0, _⟩ => show r.val = 256 + (r.val - 256); omega | ⟨1, _⟩ => exact (Nat.zero_add _).symm)).trans ?_
    sl_unfold_words
    simp only [View.readAt_eq_ld, Memref.IsWhole.read_unread]
    have hr : r.val = 256 + (⟨r.val - 256, by omega⟩ : Fin 256).val := by show r.val = 256 + (r.val - 256); omega
    exact (congrFun (part2 ..) _).trans (part_at _ _ _ _ _ _ _ _ _ _ _ _ (ld_rows y3 256 _ _ r hr _) fun q => sq_at _ _ _ _ _ _ _ q _ _ _ _ _ _ (fun k => ld_rows x0 256 _ _ r hr k) (fun k => ld_rows x2 0 _ k k (Nat.zero_add _).symm _) (ld_rows x1 256 _ _ r hr _) (ld_rows x3 0 _ 0 0 rfl _) (ld_rows x4 256 _ _ r hr _) (ld_rows x5 256 _ _ r hr _))
  refine (View.read_writes_cons_unit_of_not_mem _ _ _ _ _ _ rfl 0 (Or.inl (by show r.val < 256; omega))).trans ?_
  refine (View.read_writes_cons_unit_of_mem _ _ _ _ _ _ (ix2 ⟨r.val - 0, by omega⟩ q) rfl (fun a => by match a with | ⟨0, _⟩ => show r.val = 0 + (r.val - 0); omega | ⟨1, _⟩ => exact (Nat.zero_add _).symm)).trans ?_
  sl_unfold_words
  simp only [View.readAt_eq_ld, Memref.IsWhole.read_unread]
  have hr : r.val = 0 + (⟨r.val - 0, by omega⟩ : Fin 256).val := by show r.val = 0 + (r.val - 0); omega
  exact (part_at _ _ _ _ _ _ _ _ _ _ _ _ (ld_rows y3 0 _ _ r hr _) fun q => sq_at _ _ _ _ _ _ _ q _ _ _ _ _ _ (fun k => ld_rows x0 0 _ _ r hr k) (fun k => ld_rows x2 0 _ k k (Nat.zero_add _).symm _) (ld_rows x1 0 _ _ r hr _) (ld_rows x3 0 _ 0 0 rfl _) (ld_rows x4 0 _ _ r hr _) (ld_rows x5 0 _ _ r hr _))

theorem end_loss (h1 : k0_cond1 i = 1#1) (r : Fin 8) (l : Fin 128) :
    (runEnd (F := Ideal) c i arg2 harg2 arg3 harg3 arg4 harg4 arg5 harg5 arg6 harg6 arg7 harg7 arg8 harg8 arg9 harg9 arg10 harg10 arg11 harg11 h1 x0 x1 x2 x3 x4 x5 y0 y1 y2 y3).1.2.1 (ix2 r l)
      = (∑ x : Fin 128, (runEnd (F := Ideal) c i arg2 harg2 arg3 harg3 arg4 harg4 arg5 harg5 arg6 harg6 arg7 harg7 arg8 harg8 arg9 harg9 arg10 harg10 arg11 harg11 h1 x0 x1 x2 x3 x4 x5 y0 y1 y2 y3).1.2.2 (ix2 ⟨r.val * 128 + l.val, by omega⟩ x)) * inv := by
  unfold runEnd; dsimp only
  refine (View.read_writes_cons_unit_of_mem _ _ _ _ _ _ (ix2 r l) rfl (fun a => by match a with | ⟨0, _⟩ => exact (Nat.zero_add _).symm | ⟨1, _⟩ => exact (Nat.zero_add _).symm)).trans ?_
  sl_unfold_words
  refine (loss_eq _ r l).trans ?_
  refine congrArg (· * inv) (Finset.sum_congr rfl fun x _ => ?_)
  rw [View.readCov_eq_canon']
  refine Eq.trans ?_ (View.read_writes_apply_eq_canon (Val := Elt Ideal) (e := .f32) (s := S1024x128) arg11.view (harg11.unread y3) (ix2 ⟨r.val * 128 + l.val, by omega⟩ x) _ ?_).symm
  · refine congrArg _ ?_
    funext a; apply Fin.ext
    match a with
    | ⟨0, _⟩ => show 0 + 1 * (r.val * 128 + l.val) = r.val * 128 + l.val; omega
    | ⟨1, _⟩ => show 0 + 1 * x.val = x.val; omega
  · exact rows_cover _ _ _ _ _ _
end

end Cert.DownIdeal.Hand
end
-- ==== Proof.DownSound.lean ====
module

public import proofs.«01_k».proof.Proof.Gen.DownIdeal.Skeleton
public import proofs.«01_k».proof.Proof.Gen.DownIdeal.Frame
public import proofs.«01_k».proof.Proof.DownVal
public import Idealize.ShloMosaic.Lib.Claim
public import Idealize.ShloMosaic.Lib.Pipeline.FrameBody

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The grid -/

theorem coord1 : ∀ t : Fin cfg0.N, (grid0.coords t 1).val = t.val % 4 :=
  (by decide +kernel : ∀ t : Fin grid0.N, (grid0.coords t 1).val = t.val % 4)
theorem cond1_iff : ∀ t : Fin cfg0.N, k0_cond1 (grid0.coords t) = 1#1 ↔ t.val % 4 = 3 :=
  (by decide +kernel : ∀ t : Fin grid0.N, k0_cond1 (grid0.coords t) = 1#1 ↔ t.val % 4 = 3)
theorem first_eq : ∀ t : Fin cfg0.N, Scalar.cmpi .eq (BitVec.ofNat 32 (grid0.coords t 1).val) 0#32 = BitVec.ofBool (decide (t.val % 4 = 0)) :=
  (by decide +kernel : ∀ t : Fin grid0.N, Scalar.cmpi .eq (BitVec.ofNat 32 (grid0.coords t 1).val) 0#32 = BitVec.ofBool (decide (t.val % 4 = 0)))
theorem idle8 : ∀ t : Fin cfg0.N, cfg0.idle 8 (grid0.coords t) = decide (t.val % 4 ≠ 3) :=
  (by decide +kernel : ∀ t : Fin grid0.N, cfg0.idle 8 (grid0.coords t) = decide (t.val % 4 ≠ 3))
theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![t.val / 4, 0] :=
  (by decide +kernel : ∀ t : Fin grid0.N, win0_1.index t = ![t.val / 4, 0])
theorem idx2 : ∀ t : Fin cfg0.N, win0_2.index t = ![0, t.val % 4] :=
  (by decide +kernel : ∀ t : Fin grid0.N, win0_2.index t = ![0, t.val % 4])
theorem idx3 : ∀ t : Fin cfg0.N, win0_3.index t = ![0, t.val % 4] :=
  (by decide +kernel : ∀ t : Fin grid0.N, win0_3.index t = ![0, t.val % 4])
theorem idx4 : ∀ t : Fin cfg0.N, win0_4.index t = ![t.val / 4, t.val % 4] :=
  (by decide +kernel : ∀ t : Fin grid0.N, win0_4.index t = ![t.val / 4, t.val % 4])
theorem idx5 : ∀ t : Fin cfg0.N, win0_5.index t = ![t.val / 4, t.val % 4] :=
  (by decide +kernel : ∀ t : Fin grid0.N, win0_5.index t = ![t.val / 4, t.val % 4])
theorem idx6 : ∀ t : Fin cfg0.N, win0_6.index t = ![t.val / 4, t.val % 4] :=
  (by decide +kernel : ∀ t : Fin grid0.N, win0_6.index t = ![t.val / 4, t.val % 4])
theorem idx7 : ∀ t : Fin cfg0.N, win0_7.index t = ![t.val / 4, t.val % 4] :=
  (by decide +kernel : ∀ t : Fin grid0.N, win0_7.index t = ![t.val / 4, t.val % 4])
theorem idx8 : ∀ t : Fin cfg0.N, win0_8.index t = ![t.val / 4, 0] :=
  (by decide +kernel : ∀ t : Fin grid0.N, win0_8.index t = ![t.val / 4, 0])
theorem lt36 (t : Fin cfg0.N) : t.val < 36 := Nat.lt_of_lt_of_eq t.isLt N_0

/-! ## The arrays and their blocks -/

def A0 (c : Dev nD) : Vec Ideal S9216x5632 .i8 := V m c main_arg0
def A1 (c : Dev nD) : Vec Ideal S9216x1 .f32 := V m c main_arg1
def A2 (c : Dev nD) : Vec Ideal S5632x2048 .bf16 := V m c main_arg2
def A3 (c : Dev nD) : Vec Ideal S1x2048 .f32 := V m c main_arg3
def A4 (c : Dev nD) : Vec Ideal S9216x2048 .bf16 := V m c main_arg4
def A5 (c : Dev nD) : Vec Ideal S9216x2048 .bf16 := V m c main_arg5

/-- The token and the column of the whole arrays that row `r` and column `q` of point `t`'s blocks are. -/
def rowG (t : Fin cfg0.N) (r : Fin 1024) : Fin 9216 := ⟨t.val / 4 * 1024 + r.val, by have := lt36 t; omega⟩
def colG (t : Fin cfg0.N) (q : Fin 512) : Fin 2048 := ⟨t.val % 4 * 512 + q.val, by omega⟩

/-- The host's replication of the scales. -/
theorem V_scales (c : Dev nD) (K : Fin 9216) (k : Fin 128) :
    (V m c main_v0 : Vec Ideal S9216x128 .f32) (ix2 K k) = A1 m c (ix2 K (0 : Fin 1)) := by
  unfold A1
  rw [V_main_arg1]
  have e : V m c main_v0 = broadcastInDim S9216x128 ![0, 1] bcast_S9216x1_S9216x128_0_1 (m ((c : Thread nD τ).loc main_arg1) : Vec Ideal S9216x1 .f32) := by
    unfold V; rw [StableHlo.after_cons, StableHlo.after_nil]; rfl
  rw [e]
  pointwise []

theorem blk0 (c : Dev nD) (t : Fin cfg0.N) (r : Fin 1024) (k : Fin 5632) :
    iblk m c 0 t (ix2 r k) = A0 m c (ix2 (rowG t r) k) := by
  show V m c main_arg0 (((cfg0.win 0).blk t).view.emb (ix2 r k)) = V m c main_arg0 (ix2 (rowG t r) k)
  congr 1; funext a; apply Fin.ext
  match a with
  | ⟨0, _⟩ => show win0_0.index t (0 : Fin 2) * 1024 + 1 * r.val = (rowG t r).val; rw [idx0]; show t.val / 4 * 1024 + 1 * r.val = (rowG t r).val; first | omega | (simp only [rowG, colG]; omega)
  | ⟨1, _⟩ => show win0_0.index t (1 : Fin 2) * 5632 + 1 * k.val = (k).val; rw [idx0]; show 0 * 5632 + 1 * k.val = (k).val; first | omega | (simp only [rowG, colG]; omega)
theorem blk1 (c : Dev nD) (t : Fin cfg0.N) (r : Fin 1024) (k : Fin 128) :
    iblk m c 1 t (ix2 r k) = A1 m c (ix2 (rowG t r) (0 : Fin 1)) := by
  refine Eq.trans ?_ (V_scales m c (rowG t r) k)
  show V m c main_v0 (((cfg0.win 1).blk t).view.emb (ix2 r k)) = V m c main_v0 (ix2 (rowG t r) k)
  congr 1; funext a; apply Fin.ext
  match a with
  | ⟨0, _⟩ => show win0_1.index t (0 : Fin 2) * 1024 + 1 * r.val = (rowG t r).val; rw [idx1]; show t.val / 4 * 1024 + 1 * r.val = (rowG t r).val; first | omega | (simp only [rowG, colG]; omega)
  | ⟨1, _⟩ => show win0_1.index t (1 : Fin 2) * 128 + 1 * k.val = (k).val; rw [idx1]; show 0 * 128 + 1 * k.val = (k).val; first | omega | (simp only [rowG, colG]; omega)
theorem blk2 (c : Dev nD) (t : Fin cfg0.N) (k : Fin 5632) (q : Fin 512) :
    iblk m c 2 t (ix2 k q) = A2 m c (ix2 k (colG t q)) := by
  show V m c main_arg2 (((cfg0.win 2).blk t).view.emb (ix2 k q)) = V m c main_arg2 (ix2 k (colG t q))
  congr 1; funext a; apply Fin.ext
  match a with
  | ⟨0, _⟩ => show win0_2.index t (0 : Fin 2) * 5632 + 1 * k.val = (k).val; rw [idx2]; show 0 * 5632 + 1 * k.val = (k).val; first | omega | (simp only [rowG, colG]; omega)
  | ⟨1, _⟩ => show win0_2.index t (1 : Fin 2) * 512 + 1 * q.val = (colG t q).val; rw [idx2]; show t.val % 4 * 512 + 1 * q.val = (colG t q).val; first | omega | (simp only [rowG, colG]; omega)
theorem blk3 (c : Dev nD) (t : Fin cfg0.N) (q : Fin 512) :
    iblk m c 3 t (ix2 (0 : Fin 1) q) = A3 m c (ix2 (0 : Fin 1) (colG t q)) := by
  show V m c main_arg3 (((cfg0.win 3).blk t).view.emb (ix2 (0 : Fin 1) q)) = V m c main_arg3 (ix2 (0 : Fin 1) (colG t q))
  congr 1; funext a; apply Fin.ext
  match a with
  | ⟨0, _⟩ => show win0_3.index t (0 : Fin 2) * 1 + 1 * 0 = 0; rw [idx3]; show 0 * 1 + 1 * 0 = 0; first | omega | (simp only [rowG, colG]; omega)
  | ⟨1, _⟩ => show win0_3.index t (1 : Fin 2) * 512 + 1 * q.val = (colG t q).val; rw [idx3]; show t.val % 4 * 512 + 1 * q.val = (colG t q).val; first | omega | (simp only [rowG, colG]; omega)
theorem blk4 (c : Dev nD) (t : Fin cfg0.N) (r : Fin 1024) (q : Fin 512) :
    iblk m c 4 t (ix2 r q) = A4 m c (ix2 (rowG t r) (colG t q)) := by
  show V m c main_arg4 (((cfg0.win 4).blk t).view.emb (ix2 r q)) = V m c main_arg4 (ix2 (rowG t r) (colG t q))
  congr 1; funext a; apply Fin.ext
  match a with
  | ⟨0, _⟩ => show win0_4.index t (0 : Fin 2) * 1024 + 1 * r.val = (rowG t r).val; rw [idx4]; show t.val / 4 * 1024 + 1 * r.val = (rowG t r).val; first | omega | (simp only [rowG, colG]; omega)
  | ⟨1, _⟩ => show win0_4.index t (1 : Fin 2) * 512 + 1 * q.val = (colG t q).val; rw [idx4]; show t.val % 4 * 512 + 1 * q.val = (colG t q).val; first | omega | (simp only [rowG, colG]; omega)
theorem blk5 (c : Dev nD) (t : Fin cfg0.N) (r : Fin 1024) (q : Fin 512) :
    iblk m c 5 t (ix2 r q) = A5 m c (ix2 (rowG t r) (colG t q)) := by
  show V m c main_arg5 (((cfg0.win 5).blk t).view.emb (ix2 r q)) = V m c main_arg5 (ix2 (rowG t r) (colG t q))
  congr 1; funext a; apply Fin.ext
  match a with
  | ⟨0, _⟩ => show win0_5.index t (0 : Fin 2) * 1024 + 1 * r.val = (rowG t r).val; rw [idx5]; show t.val / 4 * 1024 + 1 * r.val = (rowG t r).val; first | omega | (simp only [rowG, colG]; omega)
  | ⟨1, _⟩ => show win0_5.index t (1 : Fin 2) * 512 + 1 * q.val = (colG t q).val; rw [idx5]; show t.val % 4 * 512 + 1 * q.val = (colG t q).val; first | omega | (simp only [rowG, colG]; omega)

/-! ## What the buffers hold point by point -/

def dysAt (c : Dev nD) (t : Fin cfg0.N) (r : Fin 1024) (q : Fin 512) : EReal := dysB (iblk m c 0 t) (iblk m c 1 t) (iblk m c 2 t) (iblk m c 3 t) (iblk m c 4 t) (iblk m c 5 t) r q
def dywAt (c : Dev nD) (t : Fin cfg0.N) (r : Fin 1024) (q : Fin 512) : EReal := dywB (iblk m c 0 t) (iblk m c 1 t) (iblk m c 2 t) (iblk m c 3 t) (iblk m c 4 t) (iblk m c 5 t) r q
def sqAt (c : Dev nD) (t : Fin cfg0.N) (r : Fin 1024) : Fin 512 → EReal := sqB (iblk m c 0 t) (iblk m c 1 t) (iblk m c 2 t) (iblk m c 3 t) (iblk m c 4 t) (iblk m c 5 t) r

/-- What point `n` adds to the lane sums. -/
def term (c : Dev nD) (n : ℕ) (r : Fin 1024) (l : Fin 128) : EReal :=
  if h : n < cfg0.N then lanes (sqAt m c ⟨n, h⟩ r) l else 0

/-- The lane sums after point `n`. -/
def acc (c : Dev nD) (n : ℕ) (r : Fin 1024) (l : Fin 128) : EReal :=
  ∑ j ∈ Finset.range (n % 4 + 1), term m c (4 * (n / 4) + j) r l

/-- The losses of a token tile, from its lane sums. -/
def lossAt (c : Dev nD) (n : ℕ) (r : Fin 8) (l : Fin 128) : EReal :=
  (∑ x : Fin 128, acc m c n ⟨r.val * 128 + l.val, by omega⟩ x) * inv

/-- Before point `n` the scratch holds the lane sums of the tile's earlier points. -/
def Inv (c : Dev nD) (n : ℕ) (d : Vec Ideal S1024x128 .f32) : Prop :=
  n % 4 ≠ 0 → ∀ (r : Fin 1024) (l : Fin 128), d (ix2 r l) = acc m c (n - 1) r l

theorem acc_first (c : Dev nD) (t : Fin cfg0.N) (h : t.val % 4 = 0) (r : Fin 1024) (l : Fin 128) :
    acc m c t.val r l = term m c t.val r l := by
  unfold acc
  rw [h, Finset.sum_range_one, show 4 * (t.val / 4) + 0 = t.val from by omega]
theorem acc_next (c : Dev nD) (t : Fin cfg0.N) (h : t.val % 4 ≠ 0) (r : Fin 1024) (l : Fin 128) :
    acc m c t.val r l = acc m c (t.val - 1) r l + term m c t.val r l := by
  unfold acc
  rw [show t.val % 4 + 1 = ((t.val - 1) % 4 + 1) + 1 from by omega, Finset.sum_range_succ,
    show (t.val - 1) / 4 = t.val / 4 from by omega, show 4 * (t.val / 4) + ((t.val - 1) % 4 + 1) = t.val from by omega]

/-- The sum a point leaves in the scratch. -/
theorem sum_step (c : Dev nD) (t : Fin cfg0.N) (d : Vec Ideal S1024x128 .f32) (hI : Inv m c t.val d) (r : Fin 1024) (l : Fin 128) :
    Scalar.select (Scalar.cmpi .eq (BitVec.ofNat 32 (grid0.coords t 1).val) 0#32) 0 (d (ix2 r l)) + lanes (sqB (iblk m c 0 t) (iblk m c 1 t) (iblk m c 2 t) (iblk m c 3 t) (iblk m c 4 t) (iblk m c 5 t) r) l
      = acc m c t.val r l := by
  rw [first_eq]
  have e : lanes (sqB (iblk m c 0 t) (iblk m c 1 t) (iblk m c 2 t) (iblk m c 3 t) (iblk m c 4 t) (iblk m c 5 t) r) l = term m c t.val r l := by
    unfold term sqAt; rw [dif_pos t.isLt]
  rw [e]
  by_cases h : t.val % 4 = 0
  · rw [acc_first m c t h, decide_eq_true h]; exact zero_add _
  · rw [acc_next m c t h, decide_eq_false h, hI h]; rfl

/-! ## The pipeline's proof data -/

abbrev scM0_0 : Memref sig .tc .vmem S1024x128 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body carries between points: the lane sums. -/
def carried (c : Dev nD) (n : ℕ) : sProp 𝕄 :=
  iprop(∃ d, ⌜Inv m c n d⌝ ∗ owns (c : Thread nD τ) scM0_0 fullShare d ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun y : S1024x512.Idx => dysAt m c t (y 0) (y 1)
    | ⟨7, _⟩ => fun y : S1024x512.Idx => dywAt m c t (y 0) (y 1)
    | ⟨8, _⟩ => fun y : S8x128.Idx => lossAt m c t.val (y 0) (y 1)
  Φ n := carried m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]
theorem after0_6 (c : Dev nD) (t : Fin cfg0.N) : (dats m 0 c).after 6 t = fun y : S1024x512.Idx => dysAt m c t (y 0) (y 1) := by dsimp only [dats]
theorem leaves0_6 (c : Dev nD) (t : Fin cfg0.N) : (dats m 0 c).leavesExact 6 t = owns (c : Thread nD τ) (st0_6 t) fullShare (fun y : S1024x512.Idx => dysAt m c t (y 0) (y 1)) := by
  unfold Dat.leavesExact; rw [show cfg0.idle 6 (grid0.coords t) = false from rfl, after0_6]
theorem after0_7 (c : Dev nD) (t : Fin cfg0.N) : (dats m 0 c).after 7 t = fun y : S1024x512.Idx => dywAt m c t (y 0) (y 1) := by dsimp only [dats]
theorem leaves0_7 (c : Dev nD) (t : Fin cfg0.N) : (dats m 0 c).leavesExact 7 t = owns (c : Thread nD τ) (st0_7 t) fullShare (fun y : S1024x512.Idx => dywAt m c t (y 0) (y 1)) := by
  unfold Dat.leavesExact; rw [show cfg0.idle 7 (grid0.coords t) = false from rfl, after0_7]
theorem after0_8 (c : Dev nD) (t : Fin cfg0.N) : (dats m 0 c).after 8 t = fun y : S8x128.Idx => lossAt m c t.val (y 0) (y 1) := by dsimp only [dats]
theorem leaves0_8 (c : Dev nD) (t : Fin cfg0.N) (h : t.val % 4 = 3) : (dats m 0 c).leavesExact 8 t = owns (c : Thread nD τ) (st0_8 t) fullShare (fun y : S8x128.Idx => lossAt m c t.val (y 0) (y 1)) := by
  unfold Dat.leavesExact; rw [idle8, decide_eq_false (fun hh => hh h), after0_8]
theorem leaves0_8_idle (c : Dev nD) (t : Fin cfg0.N) (h : ¬ t.val % 4 = 3) : (dats m 0 c).leavesExact 8 t = iprop(∃ d, owns (c : Thread nD τ) (st0_8 t) fullShare ((dats m 0 c).before 8 t d)) :=
  (dats m 0 c).leavesExact_idle 8 t (by rw [idle8, decide_eq_true h]) (Bool.eq_false_iff.mpr fun hf => h ((flush0_8 t).mp hf))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, leaves0_0, before0_1, leaves0_1, before0_2, leaves0_2, before0_3, leaves0_3, before0_4, leaves0_4, before0_5, leaves0_5, leaves0_6, leaves0_7]
  rw [show (dats m 0 c).Φ t.castSucc = carried m c t.val from rfl, show (dats m 0 c).Φ t.succ = carried m c (t.val + 1) from rfl,
    show (dats m 0 c).owesAt () t.succ = (dats m 0 c).owesAt () t.castSucc from rfl]
  unfold carried
  by_cases h1 : t.val % 4 = 3
  · rw [leaves0_8 m c t h1]
    iintro ⟨⟨%ds, %hI, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runEnd (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) ((cond1_iff t).mpr h1) (iblk m c 0 t) (iblk m c 1 t) (iblk m c 2 t) (iblk m c 3 t) (iblk m c 4 t) (iblk m c 5 t) ((dats m 0 c).before 6 t d6) ((dats m 0 c).before 7 t d7) ((dats m 0 c).before 8 t d8) ds).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · iexists _; isplitr; swap
      · isplitl [HS]; · iexact HS
        iexact Hg
      ipureintro
      intro h; exact absurd h (by omega)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · rw [show (fun y : S1024x512.Idx => dysAt m c t (y 0) (y 1)) = _ from ?_]
      · iexact H6
      funext y
      obtain ⟨r, q, rfl⟩ : ∃ r q, y = ix2 (n0 := 1024) (n1 := 512) r q := ⟨_, _, eq_ix2 y⟩
      exact (end_dys ..).symm
    isplitl [H7]
    · rw [show (fun y : S1024x512.Idx => dywAt m c t (y 0) (y 1)) = _ from ?_]
      · iexact H7
      funext y
      obtain ⟨r, q, rfl⟩ : ∃ r q, y = ix2 (n0 := 1024) (n1 := 512) r q := ⟨_, _, eq_ix2 y⟩
      exact (end_dyw ..).symm
    rw [show (fun y : S8x128.Idx => lossAt m c t.val (y 0) (y 1)) = _ from ?_]
    · iexact H8
    funext y
    obtain ⟨r, q, rfl⟩ : ∃ r q, y = ix2 (n0 := 8) (n1 := 128) r q := ⟨_, _, eq_ix2 y⟩
    refine Eq.trans ?_ (end_loss ..).symm
    exact congrArg (· * inv) (Finset.sum_congr rfl fun x _ => ((end_part ..).trans (sum_step m c t ds hI _ x)).symm)
  · rw [leaves0_8_idle m c t h1]
    iintro ⟨⟨%ds, %hI, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAcc (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) (fun h => h1 ((cond1_iff t).mp h)) (iblk m c 0 t) (iblk m c 1 t) (iblk m c 2 t) (iblk m c 3 t) (iblk m c 4 t) (iblk m c 5 t) ((dats m 0 c).before 6 t d6) ((dats m 0 c).before 7 t d7) ((dats m 0 c).before 8 t d8) ds).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · iexists _; isplitr; swap
      · isplitl [HS]; · iexact HS
        iexact Hg
      ipureintro
      intro _ r l
      rw [show t.val + 1 - 1 = t.val from rfl]
      exact (acc_part ..).trans (sum_step m c t ds hI r l)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · rw [show (fun y : S1024x512.Idx => dysAt m c t (y 0) (y 1)) = _ from ?_]
      · iexact H6
      funext y
      obtain ⟨r, q, rfl⟩ : ∃ r q, y = ix2 (n0 := 1024) (n1 := 512) r q := ⟨_, _, eq_ix2 y⟩
      exact (acc_dys ..).symm
    isplitl [H7]
    · rw [show (fun y : S1024x512.Idx => dywAt m c t (y 0) (y 1)) = _ from ?_]
      · iexact H7
      funext y
      obtain ⟨r, q, rfl⟩ : ∃ r q, y = ix2 (n0 := 1024) (n1 := 512) r q := ⟨_, _, eq_ix2 y⟩
      exact (acc_dyw ..).symm
    iexists d8; iexact H8

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem carried_in (c : Dev nD) : Pipeline.ΦA spec0 c ⊢ (dats m 0 c).Φ 0 := by
  rw [PhiA0_eq, show (dats m 0 c).Φ 0 = carried m c 0 from rfl]
  unfold carried
  iintro ⟨⟨%d, H⟩, Hg⟩
  iexists d; isplitr
  · ipureintro; intro h; exact absurd rfl h
  isplitl [H]; · iexact H
  iexact Hg
theorem carried_out (c : Dev nD) : (dats m 0 c).Φ (Fin.last cfg0.N) ⊢ Pipeline.ΦA spec0 c := by
  rw [PhiA0_eq, show (dats m 0 c).Φ (Fin.last cfg0.N) = carried m c cfg0.N from rfl]
  unfold carried
  iintro ⟨%d, %hI, H, Hg⟩
  isplitl [H]; · iexists d; iexact H
  iexact Hg

set_option backward.isDefEq.respectTransparency.types false in
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

end Cert.DownIdeal.Hand
end
-- ==== Proof.DownRef.lean ====
module

public import proofs.«01_k».proof.Proof.DownVal
public import proofs.«01_k».proof.Proof.Gen.DownRefIdeal.Value

/-! The reference's gradients and losses, element by element. -/

@[expose] public section

set_option maxRecDepth 16384

noncomputable section

namespace Cert.DownRefIdeal

open Cert.DownRefIdeal Cert.DownRefIdeal.Gen
open Cert.DownIdeal.Hand (err grd sq two inv)
open Idealize.ShloMosaic

theorem ref_mm (a : FVec Ideal S9216x5632 .bf16) (b : FVec Ideal S5632x2048 .bf16) (r : Fin 9216) (q : Fin 2048) :
    matmul (φ₁ := .bf16) (φ₂ := .bf16) dot_S9216x5632_S5632x2048_S9216x2048_1_0_0_1_n_n none a b (constant S9216x2048 .f32 0x00000000#32) (ix2 r q)
      = ∑ k : Fin 5632, a (ix2 r k) * b (ix2 k q) := by
  pointwise
theorem ref_rows (s : FVec Ideal S9216x1 .f32) (r : Fin 9216) (q : Fin 2048) :
    broadcastTo S9216x2048 s broadcasts_S9216x1_S9216x2048 (ix2 r q) = s (ix2 r 0) := by
  pointwise
theorem ref_cols (s : FVec Ideal S1x2048 .f32) (r : Fin 9216) (q : Fin 2048) :
    broadcastTo S9216x2048 s broadcasts_S1x2048_S9216x2048 (ix2 r q) = s (ix2 0 q) := by
  pointwise
theorem ref_red (v : FVec Ideal S9216x2048 .f32) (r : Fin 9216) :
    multiReduction .add [1] S9216 v 0x00000000#32 reduces_S9216x2048_S9216 (.inl rfl) rfl (ix1 r) = ∑ x : Fin 2048, v (ix2 r x) := by
  pointwise
theorem ref_dense (v : FVec Ideal S9216 .f32) (r : Fin 72) (q : Fin 128) :
    shapeCast S72x128 v shapeCasts_S9216_S72x128 (ix2 r q) = v (ix1 ⟨r.val * 128 + q.val, by omega⟩) := by
  pointwise

section
variable (a0 : Vec Ideal S9216x5632 .i8) (a1 : Vec Ideal S9216x1 .f32) (a2 : Vec Ideal S5632x2048 .bf16) (a3 : Vec Ideal S1x2048 .f32)
  (a4 a5 : Vec Ideal S9216x2048 .bf16) (r : Fin 9216) (q : Fin 2048)

/-- The error of one output. -/
def errR : EReal := err (fun k => a0 (ix2 r k)) (fun k => a2 (ix2 k q)) (a1 (ix2 r 0)) (a3 (ix2 0 q)) (a4 (ix2 r q))

theorem ref_err : k0_pay1 (F := Ideal) a0 a1 a2 a3 a4 (ix2 r q) = errR a0 a1 a2 a3 a4 r q := by
  show (matmul (F := Ideal) (φ₁ := .bf16) (φ₂ := .bf16) dot_S9216x5632_S5632x2048_S9216x2048_1_0_0_1_n_n none (sitofp .bf16 a0) a2 (constant S9216x2048 .f32 0x00000000#32) (ix2 r q) : EReal)
    * (broadcastTo S9216x2048 a1 broadcasts_S9216x1_S9216x2048 (ix2 r q) * broadcastTo S9216x2048 a3 broadcasts_S1x2048_S9216x2048 (ix2 r q)) - a4 (ix2 r q) = _
  rw [ref_mm, ref_rows, ref_cols]
  rfl

theorem ref_grd : k0_pay3 (F := Ideal) a0 a1 a2 a3 a4 a5 (ix2 r q) = grd (errR a0 a1 a2 a3 a4 r q) (a5 (ix2 r q)) := by
  show ((two * (a5 (ix2 r q) * a5 (ix2 r q))) * k0_pay1 (F := Ideal) a0 a1 a2 a3 a4 (ix2 r q)) * inv = _
  rw [ref_err, mul_assoc two]
  rfl

theorem ref6 : Value.G6 (F := Ideal) a0 a1 a2 a3 a4 a5 (ix2 r q) = grd (errR a0 a1 a2 a3 a4 r q) (a5 (ix2 r q)) * a1 (ix2 r 0) := by
  show k0_pay3 (F := Ideal) a0 a1 a2 a3 a4 a5 (ix2 r q) * broadcastTo S9216x2048 a1 broadcasts_S9216x1_S9216x2048 (ix2 r q) = _
  rw [ref_grd, ref_rows]
theorem ref7 : Value.G7 (F := Ideal) a0 a1 a2 a3 a4 a5 (ix2 r q) = grd (errR a0 a1 a2 a3 a4 r q) (a5 (ix2 r q)) * a3 (ix2 0 q) := by
  show k0_pay3 (F := Ideal) a0 a1 a2 a3 a4 a5 (ix2 r q) * broadcastTo S9216x2048 a3 broadcasts_S1x2048_S9216x2048 (ix2 r q) = _
  rw [ref_grd, ref_cols]
theorem ref_sq : mulf (mulf (k0_pay2 (F := Ideal) a5) (k0_pay1 a0 a1 a2 a3 a4)) (k0_pay1 a0 a1 a2 a3 a4) (ix2 r q)
    = sq (errR a0 a1 a2 a3 a4 r q) (a5 (ix2 r q)) := by
  show (a5 (ix2 r q) * a5 (ix2 r q)) * k0_pay1 (F := Ideal) a0 a1 a2 a3 a4 (ix2 r q) * k0_pay1 (F := Ideal) a0 a1 a2 a3 a4 (ix2 r q) = _
  rw [ref_err]
  rfl
end

theorem ref8 (a0 : Vec Ideal S9216x5632 .i8) (a1 : Vec Ideal S9216x1 .f32) (a2 : Vec Ideal S5632x2048 .bf16) (a3 : Vec Ideal S1x2048 .f32)
    (a4 a5 : Vec Ideal S9216x2048 .bf16) (r : Fin 72) (l : Fin 128) :
    Value.G8 (F := Ideal) a0 a1 a2 a3 a4 a5 (ix2 r l)
      = (∑ q : Fin 2048, sq (errR a0 a1 a2 a3 a4 ⟨r.val * 128 + l.val, by omega⟩ q) (a5 (ix2 ⟨r.val * 128 + l.val, by omega⟩ q))) * inv := by
  unfold Value.G8 k0_pay6
  refine (ref_dense _ r l).trans ?_
  refine congrArg (· * inv) ((ref_red _ _).trans ?_)
  exact Finset.sum_congr rfl fun q _ => ref_sq a0 a1 a2 a3 a4 a5 _ q

end Cert.DownRefIdeal
end
-- ==== Proof.DownValue.lean ====
module

public import proofs.«01_k».proof.Proof.Gen.DownIdeal.Skeleton
public import proofs.«01_k».proof.Proof.Gen.DownIdeal.Frame
public import proofs.«01_k».proof.Proof.DownSound
public import proofs.«01_k».proof.Proof.DownRef

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DownRefIdeal (errR)

variable (m : (ℓ : Loc nD τ sig) → Buf (Elt Ideal) ℓ) (ρ : Dev nD → PrngReg)

theorem errB_eq (c : Dev nD) (t : Fin cfg0.N) (r : Fin 1024) (q : Fin 512) :
    errB (iblk m c 0 t) (iblk m c 1 t) (iblk m c 2 t) (iblk m c 3 t) (iblk m c 4 t) r q = errR (A0 m c) (A1 m c) (A2 m c) (A3 m c) (A4 m c) (rowG t r) (colG t q) := by
  unfold errB errR
  rw [blk1, blk3, blk4, show (fun k => iblk m c 0 t (ix2 r k)) = fun k => A0 m c (ix2 (rowG t r) k) from funext fun k => blk0 m c t r k,
    show (fun k => iblk m c 2 t (ix2 k q)) = fun k => A2 m c (ix2 k (colG t q)) from funext fun k => blk2 m c t k q]

/-- A sum over the lanes of the lane sums is the sum over the columns. -/
theorem sum_lanes (S : Fin 512 → EReal) : ∑ x : Fin 128, lanes S x = ∑ q : Fin 512, S q := by
  rw [← Fin.sum_mul_add_fin 4 128 S rfl, Fin.sum_univ_four]
  unfold lanes
  simp only [Finset.sum_add_distrib]
  refine congrArg₂ (· + ·) (congrArg₂ (· + ·) (congrArg₂ (· + ·) ?_ ?_) ?_) ?_
  all_goals
    refine Finset.sum_congr rfl fun x _ => congrArg S (Fin.ext ?_)
  · show x.val = 0 * 128 + x.val; omega
  · show 128 + x.val = 1 * 128 + x.val; omega
  · show 256 + x.val = 2 * 128 + x.val; omega
  · show 384 + x.val = 3 * 128 + x.val; omega

/-- At the last column block the lane sums of a token add up to its whole squared error. -/
theorem acc_last (c : Dev nD) (t : Fin cfg0.N) (h : t.val % 4 = 3) (r : Fin 1024) :
    ∑ x : Fin 128, acc m c t.val r x
      = ∑ Q : Fin 2048, sq (errR (A0 m c) (A1 m c) (A2 m c) (A3 m c) (A4 m c) (rowG t r) Q) (A5 m c (ix2 (rowG t r) Q)) := by
  have ht := lt36 t
  unfold acc
  rw [Finset.sum_comm, h, Finset.sum_range, ← Fin.sum_mul_add_fin 4 512 (fun Q : Fin 2048 => sq (errR (A0 m c) (A1 m c) (A2 m c) (A3 m c) (A4 m c) (rowG t r) Q) (A5 m c (ix2 (rowG t r) Q))) rfl]
  refine Finset.sum_congr rfl fun j _ => ?_
  have hj : 4 * (t.val / 4) + j.val < cfg0.N := lt_of_lt_of_eq (by omega : 4 * (t.val / 4) + j.val < 36) N_0.symm
  unfold term
  simp only [dif_pos hj]
  rw [sum_lanes]
  refine Finset.sum_congr rfl fun q _ => ?_
  unfold sqAt sqB
  rw [errB_eq, blk5]
  rw [show rowG ⟨_, hj⟩ r = rowG t r from Fin.ext (by show (4 * (t.val / 4) + j.val) / 4 * 1024 + r.val = t.val / 4 * 1024 + r.val; omega),
    show colG ⟨_, hj⟩ q = (⟨j.val * 512 + q.val, by omega⟩ : Fin 2048) from Fin.ext (by show (4 * (t.val / 4) + j.val) % 4 * 512 + q.val = j.val * 512 + q.val; omega)]

/-- The row of the losses that row `r` of point `t`'s block is. -/
def rowD (t : Fin cfg0.N) (r : Fin 8) : Fin 72 := ⟨t.val / 4 * 8 + r.val, by have := lt36 t; omega⟩

theorem emb6 (t : Fin cfg0.N) (r : Fin 1024) (q : Fin 512) :
    ((cfg0.win 6).blk t).view.emb (ix2 r q) = ix2 (rowG t r) (colG t q) := by
  funext a; apply Fin.ext
  match a with
  | ⟨0, _⟩ => show win0_6.index t (0 : Fin 2) * 1024 + 1 * r.val = t.val / 4 * 1024 + r.val; rw [idx6]; show t.val / 4 * 1024 + 1 * r.val = _; omega
  | ⟨1, _⟩ => show win0_6.index t (1 : Fin 2) * 512 + 1 * q.val = t.val % 4 * 512 + q.val; rw [idx6]; show t.val % 4 * 512 + 1 * q.val = _; omega
theorem emb7 (t : Fin cfg0.N) (r : Fin 1024) (q : Fin 512) :
    ((cfg0.win 7).blk t).view.emb (ix2 r q) = ix2 (rowG t r) (colG t q) := by
  funext a; apply Fin.ext
  match a with
  | ⟨0, _⟩ => show win0_7.index t (0 : Fin 2) * 1024 + 1 * r.val = t.val / 4 * 1024 + r.val; rw [idx7]; show t.val / 4 * 1024 + 1 * r.val = _; omega
  | ⟨1, _⟩ => show win0_7.index t (1 : Fin 2) * 512 + 1 * q.val = t.val % 4 * 512 + q.val; rw [idx7]; show t.val % 4 * 512 + 1 * q.val = _; omega
theorem emb8 (t : Fin cfg0.N) (r : Fin 8) (l : Fin 128) :
    ((cfg0.win 8).blk t).view.emb (ix2 r l) = ix2 (rowD t r) l := by
  funext a; apply Fin.ext
  match a with
  | ⟨0, _⟩ => show win0_8.index t (0 : Fin 2) * 8 + 1 * r.val = t.val / 4 * 8 + r.val; rw [idx8]; show t.val / 4 * 8 + 1 * r.val = _; omega
  | ⟨1, _⟩ => show win0_8.index t (1 : Fin 2) * 128 + 1 * l.val = l.val; rw [idx8]; show 0 * 128 + 1 * l.val = l.val; omega

/-- The gradient scaled by the row scales after the run is the reference's. -/
theorem arr6 (c : Dev nD) : (dats m 0 c).arrAt 6 cfg0.N = Cert.DownRefIdeal.Value.G6 (F := Ideal) (A0 m c) (A1 m c) (A2 m c) (A3 m c) (A4 m c) (A5 m c) := by
  refine (dats m 0 c).arrAt_eq_of_covers 6 _ (by decide +kernel) fun t hf y => ?_
  blk_simp
  rw [after0_6]
  obtain ⟨r, q, rfl⟩ : ∃ r q, y = ix2 (n0 := 1024) (n1 := 512) r q := ⟨_, _, eq_ix2 y⟩
  show dysAt m c t r q = Cert.DownRefIdeal.Value.G6 (F := Ideal) (A0 m c) (A1 m c) (A2 m c) (A3 m c) (A4 m c) (A5 m c) (((cfg0.win 6).blk t).view.emb (ix2 r q))
  rw [emb6]
  refine Eq.trans ?_ (Cert.DownRefIdeal.ref6 (A0 m c) (A1 m c) (A2 m c) (A3 m c) (A4 m c) (A5 m c) (rowG t r) (colG t q)).symm
  unfold dysAt dysB
  rw [errB_eq, blk5, blk1]

/-- The gradient scaled by the column scales after the run is the reference's. -/
theorem arr7 (c : Dev nD) : (dats m 0 c).arrAt 7 cfg0.N = Cert.DownRefIdeal.Value.G7 (F := Ideal) (A0 m c) (A1 m c) (A2 m c) (A3 m c) (A4 m c) (A5 m c) := by
  refine (dats m 0 c).arrAt_eq_of_covers 7 _ (by decide +kernel) fun t hf y => ?_
  blk_simp
  rw [after0_7]
  obtain ⟨r, q, rfl⟩ : ∃ r q, y = ix2 (n0 := 1024) (n1 := 512) r q := ⟨_, _, eq_ix2 y⟩
  show dywAt m c t r q = Cert.DownRefIdeal.Value.G7 (F := Ideal) (A0 m c) (A1 m c) (A2 m c) (A3 m c) (A4 m c) (A5 m c) (((cfg0.win 7).blk t).view.emb (ix2 r q))
  rw [emb7]
  refine Eq.trans ?_ (Cert.DownRefIdeal.ref7 (A0 m c) (A1 m c) (A2 m c) (A3 m c) (A4 m c) (A5 m c) (rowG t r) (colG t q)).symm
  unfold dywAt dywB
  rw [errB_eq, blk5, blk3]

/-- The losses after the run are the reference's. -/
theorem arr8 (c : Dev nD) : (dats m 0 c).arrAt 8 cfg0.N = Cert.DownRefIdeal.Value.G8 (F := Ideal) (A0 m c) (A1 m c) (A2 m c) (A3 m c) (A4 m c) (A5 m c) := by
  refine (dats m 0 c).arrAt_eq_of_covers 8 _ (by decide +kernel) fun t hf y => ?_
  have h : t.val % 4 = 3 := (flush0_8 t).mp hf
  blk_simp
  rw [after0_8]
  obtain ⟨r, l, rfl⟩ : ∃ r l, y = ix2 (n0 := 8) (n1 := 128) r l := ⟨_, _, eq_ix2 y⟩
  show lossAt m c t.val r l = Cert.DownRefIdeal.Value.G8 (F := Ideal) (A0 m c) (A1 m c) (A2 m c) (A3 m c) (A4 m c) (A5 m c) (((cfg0.win 8).blk t).view.emb (ix2 r l))
  rw [emb8]
  refine Eq.trans ?_ (Cert.DownRefIdeal.ref8 (A0 m c) (A1 m c) (A2 m c) (A3 m c) (A4 m c) (A5 m c) (rowD t r) l).symm
  unfold lossAt
  rw [acc_last m c t h]
  rw [show rowG t ⟨r.val * 128 + l.val, by omega⟩ = (⟨(rowD t r).val * 128 + l.val, by have := (rowD t r).isLt; omega⟩ : Fin 9216) from
    Fin.ext (by show t.val / 4 * 1024 + (r.val * 128 + l.val) = (t.val / 4 * 8 + r.val) * 128 + l.val; omega)]

theorem A_launch (c : Dev nD) : A0 m c = m ((c : Thread nD τ).loc main_arg0) ∧ A1 m c = m ((c : Thread nD τ).loc main_arg1)
    ∧ A2 m c = m ((c : Thread nD τ).loc main_arg2) ∧ A3 m c = m ((c : Thread nD τ).loc main_arg3)
    ∧ A4 m c = m ((c : Thread nD τ).loc main_arg4) ∧ A5 m c = m ((c : Thread nD τ).loc main_arg5) :=
  ⟨V_main_arg0 m c, V_main_arg1 m c, V_main_arg2 m c, V_main_arg3 m c, V_main_arg4 m c, V_main_arg5 m c⟩

theorem final6 (c : Dev nD) : (dats m 0 c).arrAt 6 cfg0.N = Cert.DownRefIdeal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨h0, h1, h2, h3, h4, h5⟩ := A_launch m c
  rw [arr6, h0, h1, h2, h3, h4, h5]
theorem final7 (c : Dev nD) : (dats m 0 c).arrAt 7 cfg0.N = Cert.DownRefIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨h0, h1, h2, h3, h4, h5⟩ := A_launch m c
  rw [arr7, h0, h1, h2, h3, h4, h5]
theorem final8 (c : Dev nD) : (dats m 0 c).arrAt 8 cfg0.N = Cert.DownRefIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨h0, h1, h2, h3, h4, h5⟩ := A_launch m c
  rw [arr8, h0, h1, h2, h3, h4, h5]

/-- The run: the three results are the reference's, the arguments are unchanged. -/
theorem run : θ_run defs (onTc (τ := τ) (main (F := Ideal))) ⟨m, fun _ => 0, ρ⟩ fun r => ∀ c : Dev nD,
      r.2.mem ((c : Thread nD τ).loc main_v1_0) = Cert.DownRefIdeal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v1_1) = Cert.DownRefIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v1_2) = Cert.DownRefIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final6 m c),
      ((h c).1 7).trans (final7 m c),
      ((h c).1 8).trans (final8 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.DownIdeal.Hand
end
-- ==== Proof.lean ====
module

public import proofs.«01_k».proof.Defs
public import proofs.«01_k».proof.Proof.Gen.Dwd
public import proofs.«01_k».proof.Proof.Gen.Dwd.Frame
public import proofs.«01_k».proof.Proof.Gen.DwdIdeal
public import proofs.«01_k».proof.Proof.Gen.DwdRefIdeal
public import proofs.«01_k».proof.Proof.Gen.DwdRefIdeal.Value
public import proofs.«01_k».proof.Proof.DwdFrame
public import proofs.«01_k».proof.Proof.DwdValue
public import proofs.«01_k».proof.Proof.Gen.Bwd
public import proofs.«01_k».proof.Proof.Gen.Bwd.Skeleton
public import proofs.«01_k».proof.Proof.Gen.Bwd.Frame
public import proofs.«01_k».proof.Proof.Gen.BwdIdeal
public import proofs.«01_k».proof.Proof.Gen.BwdIdeal.Skeleton
public import proofs.«01_k».proof.Proof.Gen.BwdIdeal.Frame
public import proofs.«01_k».proof.Proof.Gen.BwdRefIdeal
public import proofs.«01_k».proof.Proof.Gen.BwdRefIdeal.Frame
public import proofs.«01_k».proof.Proof.BwdFrame
public import proofs.«01_k».proof.Proof.BwdFree
public import proofs.«01_k».proof.Proof.BwdRefValue
public import proofs.«01_k».proof.Proof.BwdValue
public import proofs.«01_k».proof.Proof.Gen.Xq
public import proofs.«01_k».proof.Proof.Gen.Xq.Skeleton
public import proofs.«01_k».proof.Proof.Gen.Xq.Frame
public import proofs.«01_k».proof.Proof.Gen.XqIdeal
public import proofs.«01_k».proof.Proof.Gen.XqIdeal.Skeleton
public import proofs.«01_k».proof.Proof.Gen.XqIdeal.Frame
public import proofs.«01_k».proof.Proof.Gen.XqIdeal.Value
public import proofs.«01_k».proof.Proof.Gen.XqRefIdeal
public import proofs.«01_k».proof.Proof.Gen.XqRefIdeal.Skeleton
public import proofs.«01_k».proof.Proof.Gen.XqRefIdeal.Frame
public import proofs.«01_k».proof.Proof.XqValue
public import proofs.«01_k».proof.Proof.Gen.Down
public import proofs.«01_k».proof.Proof.Gen.Down.Skeleton
public import proofs.«01_k».proof.Proof.Gen.Down.Frame
public import proofs.«01_k».proof.Proof.Gen.DownIdeal
public import proofs.«01_k».proof.Proof.Gen.DownIdeal.Skeleton
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Frame
public import proofs.«01_k».proof.Proof.Gen.DownRefIdeal.Value
public import proofs.«01_k».proof.Proof.DownFrame
public import proofs.«01_k».proof.Proof.DownFree
public import proofs.«01_k».proof.Proof.DownValue
public import proofs.«01_k».proof.Proof.Gen.SoftIn
public import proofs.«01_k».proof.Proof.Gen.SoftIn.Skeleton
public import proofs.«01_k».proof.Proof.Gen.SoftIn.Frame
public import proofs.«01_k».proof.Proof.Gen.SoftInIdeal
public import proofs.«01_k».proof.Proof.Gen.SoftInIdeal.Skeleton
public import proofs.«01_k».proof.Proof.Gen.SoftInIdeal.Frame
public import proofs.«01_k».proof.Proof.Gen.SoftInIdeal.Value
public import proofs.«01_k».proof.Proof.Gen.SoftInRefIdeal
public import proofs.«01_k».proof.Proof.Gen.SoftInRefIdeal.Skeleton
public import proofs.«01_k».proof.Proof.Gen.SoftInRefIdeal.Frame
public import proofs.«01_k».proof.Proof.Gen.SoftInRefIdeal.Value
public import proofs.«01_k».proof.Proof.Gen.SoftOut
public import proofs.«01_k».proof.Proof.Gen.SoftOut.Skeleton
public import proofs.«01_k».proof.Proof.Gen.SoftOut.Frame
public import proofs.«01_k».proof.Proof.Gen.SoftOutIdeal
public import proofs.«01_k».proof.Proof.Gen.SoftOutIdeal.Skeleton
public import proofs.«01_k».proof.Proof.Gen.SoftOutIdeal.Frame
public import proofs.«01_k».proof.Proof.Gen.SoftOutIdeal.Value
public import proofs.«01_k».proof.Proof.Gen.SoftOutRefIdeal
public import proofs.«01_k».proof.Proof.Gen.SoftOutRefIdeal.Skeleton
public import proofs.«01_k».proof.Proof.Gen.SoftOutRefIdeal.Frame
public import proofs.«01_k».proof.Proof.Gen.SoftOutRefIdeal.Value
public import Idealize.ShloMosaic.Adequacy
public import Idealize.ShloMosaic.Init

@[expose] public section

noncomputable section

namespace Cert.Proof

open Idealize.ShloMosaic Idealize.SL.Sem

theorem algebraic_Dwd : @Cert.algebraic_DwdIdeal_DwdRefIdeal Cert.DwdIdeal.Gen.facts Cert.DwdRefIdeal.Gen.facts := by
  letI := Cert.DwdIdeal.Gen.facts
  letI := Cert.DwdRefIdeal.Gen.facts
  intro m g m' g' _ hargs
  refine ⟨Cert.DwdIdeal.Hand.final m, Cert.DwdIdeal.Hand.run m g, ?_⟩
  refine (θ_run _ _ _).mono (fun r h c => ?_) (Cert.DwdRefIdeal.Value.run (F := Ideal) m' g')
  obtain ⟨e0, e1, e2, e3, e4⟩ := hargs c
  refine ⟨(h c).1.trans ?_, (h c).2⟩
  rw [Cert.DwdIdeal.Hand.final_eq, e0, e1, e2, e3, e4]

theorem algebraic_Bwd : @Cert.algebraic_BwdIdeal_BwdRefIdeal Cert.BwdIdeal.Gen.facts Cert.BwdRefIdeal.Gen.facts := by
  letI := Cert.BwdIdeal.Gen.facts
  letI := Cert.BwdRefIdeal.Gen.facts
  intro m g m' g' _ hargs
  refine ⟨_, _, Cert.BwdIdeal.Hand.run m g, ?_⟩
  refine (θ_run _ _ _).mono (fun r h c => ?_) (Cert.BwdRefIdeal.Hand.run (F := Ideal) m' g')
  obtain ⟨e0, e1, e2, e3, e4, e5, e6, e7, e8, e9, e10, e11⟩ := hargs c
  refine ⟨(h c).1.trans ?_, (h c).2.1.trans ?_, (h c).2.2⟩
  · rw [Cert.BwdIdeal.Hand.final12_eq, e0, e1, e2, e3, e4, e5, e6, e7, e8, e9, e10, e11]
  · rw [Cert.BwdIdeal.Hand.final13_eq, e0, e1, e2, e3, e4, e5, e6, e7, e8, e9, e10, e11]

theorem algebraic_Xq : @Cert.algebraic_XqIdeal_XqRefIdeal Cert.XqIdeal.Gen.facts Cert.XqRefIdeal.Gen.facts := by
  letI := Cert.XqIdeal.Gen.facts
  letI := Cert.XqRefIdeal.Gen.facts
  intro m g m' g' _ hargs
  refine ⟨_, _, _, Cert.XqIdeal.Hand.run m g, ?_⟩
  refine (θ_run _ _ _).mono (fun r h c => ?_) (Cert.XqRefIdeal.Hand.run (F := Ideal) m' g')
  have e0 := hargs c
  refine ⟨(h c).1.trans ?_, (h c).2.1.trans ?_, (h c).2.2.1.trans ?_, (h c).2.2.2⟩ <;> rw [e0]

theorem algebraic_Down : @Cert.algebraic_DownIdeal_DownRefIdeal Cert.DownIdeal.Gen.facts Cert.DownRefIdeal.Gen.facts := by
  letI := Cert.DownIdeal.Gen.facts
  letI := Cert.DownRefIdeal.Gen.facts
  intro m g m' g' _ hargs
  refine ⟨_, _, _, Cert.DownIdeal.Hand.run m g, ?_⟩
  refine (θ_run _ _ _).mono (fun r h c => ?_) (Cert.DownRefIdeal.Value.run (F := Ideal) m' g')
  obtain ⟨e0, e1, e2, e3, e4, e5⟩ := hargs c
  refine ⟨(h c).1.trans ?_, (h c).2.1.trans ?_, (h c).2.2.1.trans ?_, (h c).2.2.2⟩ <;> rw [e0, e1, e2, e3, e4, e5]

theorem algebraic_SoftIn : @Cert.algebraic_SoftInIdeal_SoftInRefIdeal Cert.SoftInIdeal.Gen.facts Cert.SoftInRefIdeal.Gen.facts := by
  letI := Cert.SoftInIdeal.Gen.facts
  letI := Cert.SoftInRefIdeal.Gen.facts
  intro m g m' g' _ hargs
  refine ⟨_, Cert.SoftInIdeal.Value.run (F := Ideal) m g, ?_⟩
  refine (θ_run _ _ _).mono (fun r h c => ?_) (Cert.SoftInRefIdeal.Value.run (F := Ideal) m' g')
  obtain ⟨e0, e1⟩ := hargs c
  refine ⟨(h c).1.trans ?_, (h c).2⟩
  rw [e0, e1]

theorem algebraic_SoftOut : @Cert.algebraic_SoftOutIdeal_SoftOutRefIdeal Cert.SoftOutIdeal.Gen.facts Cert.SoftOutRefIdeal.Gen.facts := by
  letI := Cert.SoftOutIdeal.Gen.facts
  letI := Cert.SoftOutRefIdeal.Gen.facts
  intro m g m' g' _ hargs
  refine ⟨_, Cert.SoftOutIdeal.Value.run (F := Ideal) m g, ?_⟩
  refine (θ_run _ _ _).mono (fun r h c => ?_) (Cert.SoftOutRefIdeal.Value.run (F := Ideal) m' g')
  obtain ⟨e0, e1⟩ := hargs c
  refine ⟨(h c).1.trans ?_, (h c).2⟩
  rw [e0, e1]

theorem claim : Cert.Claim := by
  letI := Cert.Dwd.Gen.facts
  letI := Cert.DwdIdeal.Gen.facts
  letI := Cert.DwdRefIdeal.Gen.facts
  letI := Cert.Bwd.Gen.facts
  letI := Cert.BwdIdeal.Gen.facts
  letI := Cert.BwdRefIdeal.Gen.facts
  letI := Cert.Xq.Gen.facts
  letI := Cert.XqIdeal.Gen.facts
  letI := Cert.XqRefIdeal.Gen.facts
  letI := Cert.Down.Gen.facts
  letI := Cert.DownIdeal.Gen.facts
  letI := Cert.DownRefIdeal.Gen.facts
  letI := Cert.SoftIn.Gen.facts
  letI := Cert.SoftInIdeal.Gen.facts
  letI := Cert.SoftInRefIdeal.Gen.facts
  letI := Cert.SoftOut.Gen.facts
  letI := Cert.SoftOutIdeal.Gen.facts
  letI := Cert.SoftOutRefIdeal.Gen.facts
  exact ⟨Cert.Dwd.Gen.facts, Cert.DwdIdeal.Gen.facts, Cert.DwdRefIdeal.Gen.facts,
    Cert.Bwd.Gen.facts, Cert.BwdIdeal.Gen.facts, Cert.BwdRefIdeal.Gen.facts,
    Cert.Xq.Gen.facts, Cert.XqIdeal.Gen.facts, Cert.XqRefIdeal.Gen.facts,
    Cert.Down.Gen.facts, Cert.DownIdeal.Gen.facts, Cert.DownRefIdeal.Gen.facts,
    Cert.SoftIn.Gen.facts, Cert.SoftInIdeal.Gen.facts, Cert.SoftInRefIdeal.Gen.facts,
    Cert.SoftOut.Gen.facts, Cert.SoftOutIdeal.Gen.facts, Cert.SoftOutRefIdeal.Gen.facts,
    fun m g _ => Cert.Dwd.Hand.frame m g, fun m g _ => Cert.DwdIdeal.Free.frame m g,
    fun m g _ => Cert.DwdRefIdeal.Gen.frame m g,
    fun m g _ => Cert.Bwd.Hand.frame m g, fun m g _ => Cert.BwdIdeal.Free.frame m g,
    fun m g _ => Cert.BwdRefIdeal.Gen.frame m g,
    fun m g _ => Cert.Xq.Gen.frame m g, fun m g _ => Cert.XqIdeal.Gen.frame m g,
    fun m g _ => Cert.XqRefIdeal.Gen.frame m g,
    fun m g _ => Cert.Down.Hand.frame m g, fun m g _ => Cert.DownIdeal.Free.frame m g,
    fun m g _ => Cert.DownRefIdeal.Gen.frame m g,
    fun m g _ => Cert.SoftIn.Gen.frame m g, fun m g _ => Cert.SoftInIdeal.Gen.frame m g,
    fun m g _ => Cert.SoftInRefIdeal.Gen.frame m g,
    fun m g _ => Cert.SoftOut.Gen.frame m g, fun m g _ => Cert.SoftOutIdeal.Gen.frame m g,
    fun m g _ => Cert.SoftOutRefIdeal.Gen.frame m g,
    trivial, algebraic_Dwd, trivial, algebraic_Bwd, trivial, algebraic_Xq, trivial, algebraic_Down,
    trivial, algebraic_SoftIn, trivial, algebraic_SoftOut⟩

end Cert.Proof

end
